-- ==== Defs.lean ====
def Pre_Kernel [hPre_tok_in_range : Cert.Pre_tok_in_range.Facts] (m : (ℓ : Loc Cert.Kernel.nD Cert.Kernel.τ Cert.Kernel.sig) → Buf (Elt Bits) ℓ) : Prop :=
  ∀ c : Dev Cert.Kernel.nD,
    (Cert.Pre_tok_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_tok_in_range : Cert.Pre_tok_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tok_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_tok_in_range : Cert.Pre_tok_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tok_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Combine [hPre_pos_in_range : Cert.Pre_pos_in_range.Facts] (m : (ℓ : Loc Cert.Combine.nD Cert.Combine.τ Cert.Combine.sig) → Buf (Elt Bits) ℓ) : Prop :=
  ∀ c : Dev Cert.Combine.nD,
    (Cert.Pre_pos_in_range.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2))) = (fun _ => 1#1)

def Pre_CombineIdeal [hPre_pos_in_range : Cert.Pre_pos_in_range.Facts] (m : (ℓ : Loc Cert.CombineIdeal.nD Cert.CombineIdeal.τ Cert.CombineIdeal.sig) → Buf (Elt Ideal) ℓ) : Prop :=
  ∀ c : Dev Cert.CombineIdeal.nD,
    (Cert.Pre_pos_in_range.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2))) = (fun _ => 1#1)

def Pre_ReferenceCombineIdeal [hPre_pos_in_range : Cert.Pre_pos_in_range.Facts] (m : (ℓ : Loc Cert.ReferenceCombineIdeal.nD Cert.ReferenceCombineIdeal.τ Cert.ReferenceCombineIdeal.sig) → Buf (Elt Ideal) ℓ) : Prop :=
  ∀ c : Dev Cert.ReferenceCombineIdeal.nD,
    (Cert.Pre_pos_in_range.fn (F := Ideal) (m ((c.tc : Thread Cert.ReferenceCombineIdeal.nD Cert.ReferenceCombineIdeal.τ).loc Cert.ReferenceCombineIdeal.main_arg0)) (m ((c.tc : Thread Cert.ReferenceCombineIdeal.nD Cert.ReferenceCombineIdeal.τ).loc Cert.ReferenceCombineIdeal.main_arg1)) (m ((c.tc : Thread Cert.ReferenceCombineIdeal.nD Cert.ReferenceCombineIdeal.τ).loc Cert.ReferenceCombineIdeal.main_arg2))) = (fun _ => 1#1)

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_finite [hPre_finite : Cert.Pre_finite.Facts] (m : (ℓ : Loc Cert.RouteIdeal.nD Cert.RouteIdeal.τ Cert.RouteIdeal.sig) → Buf (Elt Ideal) ℓ) : Prop :=
  ∀ c : Dev Cert.RouteIdeal.nD,
    (Cert.Pre_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1))) = (fun _ => 1#1)

def Pre_ReferenceRouteIdeal (m : (ℓ : Loc Cert.ReferenceRouteIdeal.nD Cert.ReferenceRouteIdeal.τ Cert.ReferenceRouteIdeal.sig) → Buf (Elt Ideal) ℓ) : Prop :=
  True

def Pre_ReferenceRouteIdeal_finite [hPre_finite : Cert.Pre_finite.Facts] (m : (ℓ : Loc Cert.ReferenceRouteIdeal.nD Cert.ReferenceRouteIdeal.τ Cert.ReferenceRouteIdeal.sig) → Buf (Elt Ideal) ℓ) : Prop :=
  ∀ c : Dev Cert.ReferenceRouteIdeal.nD,
    (Cert.Pre_finite.fn (F := Ideal) (m ((c.tc : Thread Cert.ReferenceRouteIdeal.nD Cert.ReferenceRouteIdeal.τ).loc Cert.ReferenceRouteIdeal.main_arg0)) (m ((c.tc : Thread Cert.ReferenceRouteIdeal.nD Cert.ReferenceRouteIdeal.τ).loc Cert.ReferenceRouteIdeal.main_arg1))) = (fun _ => 1#1)

def Pre_Experts [hPre_visits : Cert.Pre_visits.Facts] (m : (ℓ : Loc Cert.Experts.nD Cert.Experts.τ Cert.Experts.sig) → Buf (Elt Bits) ℓ) : Prop :=
  ∀ c : Dev Cert.Experts.nD,
    (Cert.Pre_visits.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))) = (fun _ => 1#1)

def Pre_ExpertsIdeal [hPre_visits : Cert.Pre_visits.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_visits.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ExpertsIdeal_scheduled [hPre_scheduled : Cert.Pre_scheduled.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_scheduled.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ReferenceExpertsIdeal [hPre_visits : Cert.Pre_visits.Facts] (m : (ℓ : Loc Cert.ReferenceExpertsIdeal.nD Cert.ReferenceExpertsIdeal.τ Cert.ReferenceExpertsIdeal.sig) → Buf (Elt Ideal) ℓ) : Prop :=
  ∀ c : Dev Cert.ReferenceExpertsIdeal.nD,
    (Cert.Pre_visits.fn (F := Ideal) (m ((c.tc : Thread Cert.ReferenceExpertsIdeal.nD Cert.ReferenceExpertsIdeal.τ).loc Cert.ReferenceExpertsIdeal.main_arg0)) (m ((c.tc : Thread Cert.ReferenceExpertsIdeal.nD Cert.ReferenceExpertsIdeal.τ).loc Cert.ReferenceExpertsIdeal.main_arg1)) (m ((c.tc : Thread Cert.ReferenceExpertsIdeal.nD Cert.ReferenceExpertsIdeal.τ).loc Cert.ReferenceExpertsIdeal.main_arg2)) (m ((c.tc : Thread Cert.ReferenceExpertsIdeal.nD Cert.ReferenceExpertsIdeal.τ).loc Cert.ReferenceExpertsIdeal.main_arg3)) (m ((c.tc : Thread Cert.ReferenceExpertsIdeal.nD Cert.ReferenceExpertsIdeal.τ).loc Cert.ReferenceExpertsIdeal.main_arg4)) (m ((c.tc : Thread Cert.ReferenceExpertsIdeal.nD Cert.ReferenceExpertsIdeal.τ).loc Cert.ReferenceExpertsIdeal.main_arg5)) (m ((c.tc : Thread Cert.ReferenceExpertsIdeal.nD Cert.ReferenceExpertsIdeal.τ).loc Cert.ReferenceExpertsIdeal.main_arg6)) (m ((c.tc : Thread Cert.ReferenceExpertsIdeal.nD Cert.ReferenceExpertsIdeal.τ).loc Cert.ReferenceExpertsIdeal.main_arg7)) (m ((c.tc : Thread Cert.ReferenceExpertsIdeal.nD Cert.ReferenceExpertsIdeal.τ).loc Cert.ReferenceExpertsIdeal.main_arg8))) = (fun _ => 1#1)

def Pre_ReferenceExpertsIdeal_scheduled [hPre_scheduled : Cert.Pre_scheduled.Facts] (m : (ℓ : Loc Cert.ReferenceExpertsIdeal.nD Cert.ReferenceExpertsIdeal.τ Cert.ReferenceExpertsIdeal.sig) → Buf (Elt Ideal) ℓ) : Prop :=
  ∀ c : Dev Cert.ReferenceExpertsIdeal.nD,
    (Cert.Pre_scheduled.fn (F := Ideal) (m ((c.tc : Thread Cert.ReferenceExpertsIdeal.nD Cert.ReferenceExpertsIdeal.τ).loc Cert.ReferenceExpertsIdeal.main_arg0)) (m ((c.tc : Thread Cert.ReferenceExpertsIdeal.nD Cert.ReferenceExpertsIdeal.τ).loc Cert.ReferenceExpertsIdeal.main_arg1)) (m ((c.tc : Thread Cert.ReferenceExpertsIdeal.nD Cert.ReferenceExpertsIdeal.τ).loc Cert.ReferenceExpertsIdeal.main_arg2)) (m ((c.tc : Thread Cert.ReferenceExpertsIdeal.nD Cert.ReferenceExpertsIdeal.τ).loc Cert.ReferenceExpertsIdeal.main_arg3)) (m ((c.tc : Thread Cert.ReferenceExpertsIdeal.nD Cert.ReferenceExpertsIdeal.τ).loc Cert.ReferenceExpertsIdeal.main_arg4)) (m ((c.tc : Thread Cert.ReferenceExpertsIdeal.nD Cert.ReferenceExpertsIdeal.τ).loc Cert.ReferenceExpertsIdeal.main_arg5)) (m ((c.tc : Thread Cert.ReferenceExpertsIdeal.nD Cert.ReferenceExpertsIdeal.τ).loc Cert.ReferenceExpertsIdeal.main_arg6)) (m ((c.tc : Thread Cert.ReferenceExpertsIdeal.nD Cert.ReferenceExpertsIdeal.τ).loc Cert.ReferenceExpertsIdeal.main_arg7)) (m ((c.tc : Thread Cert.ReferenceExpertsIdeal.nD Cert.ReferenceExpertsIdeal.τ).loc Cert.ReferenceExpertsIdeal.main_arg8))) = (fun _ => 1#1)

def quiescent_Kernel [hKernel : Cert.Kernel.Facts] [hPre_tok_in_range : Cert.Pre_tok_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_tok_in_range : Cert.Pre_tok_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_tok_in_range : Cert.Pre_tok_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Combine [hCombine : Cert.Combine.Facts] [hPre_pos_in_range : Cert.Pre_pos_in_range.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (Cert.Combine.threads (F := Bits)) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] [hPre_pos_in_range : Cert.Pre_pos_in_range.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (Cert.CombineIdeal.threads (F := Ideal)) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_ReferenceCombineIdeal [hReferenceCombineIdeal : Cert.ReferenceCombineIdeal.Facts] [hPre_pos_in_range : Cert.Pre_pos_in_range.Facts] : Prop :=
  ∀ (m : (ℓ : Loc Cert.ReferenceCombineIdeal.nD Cert.ReferenceCombineIdeal.τ Cert.ReferenceCombineIdeal.sig) → Buf (Elt Ideal) ℓ) (g : Dev Cert.ReferenceCombineIdeal.nD → PrngReg), Pre_ReferenceCombineIdeal m →
    θ_run (Cert.ReferenceCombineIdeal.defs (F := Ideal)) (onTc (τ := Cert.ReferenceCombineIdeal.τ) (Cert.ReferenceCombineIdeal.main (F := Ideal))) ⟨m, fun _ => 0, g⟩ (fun r => (∀ c : Dev Cert.ReferenceCombineIdeal.nD,
      r.2.mem ((c.tc : Thread Cert.ReferenceCombineIdeal.nD Cert.ReferenceCombineIdeal.τ).loc Cert.ReferenceCombineIdeal.main_arg0) = m ((c.tc : Thread Cert.ReferenceCombineIdeal.nD Cert.ReferenceCombineIdeal.τ).loc Cert.ReferenceCombineIdeal.main_arg0)
      ∧ r.2.mem ((c.tc : Thread Cert.ReferenceCombineIdeal.nD Cert.ReferenceCombineIdeal.τ).loc Cert.ReferenceCombineIdeal.main_arg1) = m ((c.tc : Thread Cert.ReferenceCombineIdeal.nD Cert.ReferenceCombineIdeal.τ).loc Cert.ReferenceCombineIdeal.main_arg1)
      ∧ r.2.mem ((c.tc : Thread Cert.ReferenceCombineIdeal.nD Cert.ReferenceCombineIdeal.τ).loc Cert.ReferenceCombineIdeal.main_arg2) = m ((c.tc : Thread Cert.ReferenceCombineIdeal.nD Cert.ReferenceCombineIdeal.τ).loc Cert.ReferenceCombineIdeal.main_arg2))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteIdeal_pre_finite [hRouteIdeal : Cert.RouteIdeal.Facts] [hPre_finite : Cert.Pre_finite.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_finite m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_ReferenceRouteIdeal [hReferenceRouteIdeal : Cert.ReferenceRouteIdeal.Facts] : Prop :=
  ∀ (m : (ℓ : Loc Cert.ReferenceRouteIdeal.nD Cert.ReferenceRouteIdeal.τ Cert.ReferenceRouteIdeal.sig) → Buf (Elt Ideal) ℓ) (g : Dev Cert.ReferenceRouteIdeal.nD → PrngReg), Pre_ReferenceRouteIdeal m →
    θ_run (Cert.ReferenceRouteIdeal.defs (F := Ideal)) (onTc (τ := Cert.ReferenceRouteIdeal.τ) (Cert.ReferenceRouteIdeal.main (F := Ideal))) ⟨m, fun _ => 0, g⟩ (fun r => (∀ c : Dev Cert.ReferenceRouteIdeal.nD,
      r.2.mem ((c.tc : Thread Cert.ReferenceRouteIdeal.nD Cert.ReferenceRouteIdeal.τ).loc Cert.ReferenceRouteIdeal.main_arg0) = m ((c.tc : Thread Cert.ReferenceRouteIdeal.nD Cert.ReferenceRouteIdeal.τ).loc Cert.ReferenceRouteIdeal.main_arg0)
      ∧ r.2.mem ((c.tc : Thread Cert.ReferenceRouteIdeal.nD Cert.ReferenceRouteIdeal.τ).loc Cert.ReferenceRouteIdeal.main_arg1) = m ((c.tc : Thread Cert.ReferenceRouteIdeal.nD Cert.ReferenceRouteIdeal.τ).loc Cert.ReferenceRouteIdeal.main_arg1))
      ∧ r.2.sem = fun _ => 0)

def quiescent_ReferenceRouteIdeal_pre_finite [hReferenceRouteIdeal : Cert.ReferenceRouteIdeal.Facts] [hPre_finite : Cert.Pre_finite.Facts] : Prop :=
  ∀ (m : (ℓ : Loc Cert.ReferenceRouteIdeal.nD Cert.ReferenceRouteIdeal.τ Cert.ReferenceRouteIdeal.sig) → Buf (Elt Ideal) ℓ) (g : Dev Cert.ReferenceRouteIdeal.nD → PrngReg), Pre_ReferenceRouteIdeal_finite m →
    θ_run (Cert.ReferenceRouteIdeal.defs (F := Ideal)) (onTc (τ := Cert.ReferenceRouteIdeal.τ) (Cert.ReferenceRouteIdeal.main (F := Ideal))) ⟨m, fun _ => 0, g⟩ (fun r => (∀ c : Dev Cert.ReferenceRouteIdeal.nD,
      r.2.mem ((c.tc : Thread Cert.ReferenceRouteIdeal.nD Cert.ReferenceRouteIdeal.τ).loc Cert.ReferenceRouteIdeal.main_arg0) = m ((c.tc : Thread Cert.ReferenceRouteIdeal.nD Cert.ReferenceRouteIdeal.τ).loc Cert.ReferenceRouteIdeal.main_arg0)
      ∧ r.2.mem ((c.tc : Thread Cert.ReferenceRouteIdeal.nD Cert.ReferenceRouteIdeal.τ).loc Cert.ReferenceRouteIdeal.main_arg1) = m ((c.tc : Thread Cert.ReferenceRouteIdeal.nD Cert.ReferenceRouteIdeal.τ).loc Cert.ReferenceRouteIdeal.main_arg1))
      ∧ r.2.sem = fun _ => 0)

def quiescent_Experts [hExperts : Cert.Experts.Facts] [hPre_visits : Cert.Pre_visits.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_visits : Cert.Pre_visits.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsIdeal_pre_scheduled [hExpertsIdeal : Cert.ExpertsIdeal.Facts] [hPre_scheduled : Cert.Pre_scheduled.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_scheduled m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ReferenceExpertsIdeal [hReferenceExpertsIdeal : Cert.ReferenceExpertsIdeal.Facts] [hPre_visits : Cert.Pre_visits.Facts] : Prop :=
  ∀ (m : (ℓ : Loc Cert.ReferenceExpertsIdeal.nD Cert.ReferenceExpertsIdeal.τ Cert.ReferenceExpertsIdeal.sig) → Buf (Elt Ideal) ℓ) (g : Dev Cert.ReferenceExpertsIdeal.nD → PrngReg), Pre_ReferenceExpertsIdeal m →
    θ_run (Cert.ReferenceExpertsIdeal.defs (F := Ideal)) (onTc (τ := Cert.ReferenceExpertsIdeal.τ) (Cert.ReferenceExpertsIdeal.main (F := Ideal))) ⟨m, fun _ => 0, g⟩ (fun r => (∀ c : Dev Cert.ReferenceExpertsIdeal.nD,
      r.2.mem ((c.tc : Thread Cert.ReferenceExpertsIdeal.nD Cert.ReferenceExpertsIdeal.τ).loc Cert.ReferenceExpertsIdeal.main_arg0) = m ((c.tc : Thread Cert.ReferenceExpertsIdeal.nD Cert.ReferenceExpertsIdeal.τ).loc Cert.ReferenceExpertsIdeal.main_arg0)
      ∧ r.2.mem ((c.tc : Thread Cert.ReferenceExpertsIdeal.nD Cert.ReferenceExpertsIdeal.τ).loc Cert.ReferenceExpertsIdeal.main_arg1) = m ((c.tc : Thread Cert.ReferenceExpertsIdeal.nD Cert.ReferenceExpertsIdeal.τ).loc Cert.ReferenceExpertsIdeal.main_arg1)
      ∧ r.2.mem ((c.tc : Thread Cert.ReferenceExpertsIdeal.nD Cert.ReferenceExpertsIdeal.τ).loc Cert.ReferenceExpertsIdeal.main_arg2) = m ((c.tc : Thread Cert.ReferenceExpertsIdeal.nD Cert.ReferenceExpertsIdeal.τ).loc Cert.ReferenceExpertsIdeal.main_arg2)
      ∧ r.2.mem ((c.tc : Thread Cert.ReferenceExpertsIdeal.nD Cert.ReferenceExpertsIdeal.τ).loc Cert.ReferenceExpertsIdeal.main_arg3) = m ((c.tc : Thread Cert.ReferenceExpertsIdeal.nD Cert.ReferenceExpertsIdeal.τ).loc Cert.ReferenceExpertsIdeal.main_arg3)
      ∧ r.2.mem ((c.tc : Thread Cert.ReferenceExpertsIdeal.nD Cert.ReferenceExpertsIdeal.τ).loc Cert.ReferenceExpertsIdeal.main_arg4) = m ((c.tc : Thread Cert.ReferenceExpertsIdeal.nD Cert.ReferenceExpertsIdeal.τ).loc Cert.ReferenceExpertsIdeal.main_arg4)
      ∧ r.2.mem ((c.tc : Thread Cert.ReferenceExpertsIdeal.nD Cert.ReferenceExpertsIdeal.τ).loc Cert.ReferenceExpertsIdeal.main_arg5) = m ((c.tc : Thread Cert.ReferenceExpertsIdeal.nD Cert.ReferenceExpertsIdeal.τ).loc Cert.ReferenceExpertsIdeal.main_arg5)
      ∧ r.2.mem ((c.tc : Thread Cert.ReferenceExpertsIdeal.nD Cert.ReferenceExpertsIdeal.τ).loc Cert.ReferenceExpertsIdeal.main_arg6) = m ((c.tc : Thread Cert.ReferenceExpertsIdeal.nD Cert.ReferenceExpertsIdeal.τ).loc Cert.ReferenceExpertsIdeal.main_arg6)
      ∧ r.2.mem ((c.tc : Thread Cert.ReferenceExpertsIdeal.nD Cert.ReferenceExpertsIdeal.τ).loc Cert.ReferenceExpertsIdeal.main_arg7) = m ((c.tc : Thread Cert.ReferenceExpertsIdeal.nD Cert.ReferenceExpertsIdeal.τ).loc Cert.ReferenceExpertsIdeal.main_arg7)
      ∧ r.2.mem ((c.tc : Thread Cert.ReferenceExpertsIdeal.nD Cert.ReferenceExpertsIdeal.τ).loc Cert.ReferenceExpertsIdeal.main_arg8) = m ((c.tc : Thread Cert.ReferenceExpertsIdeal.nD Cert.ReferenceExpertsIdeal.τ).loc Cert.ReferenceExpertsIdeal.main_arg8))
      ∧ r.2.sem = fun _ => 0)

def quiescent_ReferenceExpertsIdeal_pre_scheduled [hReferenceExpertsIdeal : Cert.ReferenceExpertsIdeal.Facts] [hPre_scheduled : Cert.Pre_scheduled.Facts] : Prop :=
  ∀ (m : (ℓ : Loc Cert.ReferenceExpertsIdeal.nD Cert.ReferenceExpertsIdeal.τ Cert.ReferenceExpertsIdeal.sig) → Buf (Elt Ideal) ℓ) (g : Dev Cert.ReferenceExpertsIdeal.nD → PrngReg), Pre_ReferenceExpertsIdeal_scheduled m →
    θ_run (Cert.ReferenceExpertsIdeal.defs (F := Ideal)) (onTc (τ := Cert.ReferenceExpertsIdeal.τ) (Cert.ReferenceExpertsIdeal.main (F := Ideal))) ⟨m, fun _ => 0, g⟩ (fun r => (∀ c : Dev Cert.ReferenceExpertsIdeal.nD,
      r.2.mem ((c.tc : Thread Cert.ReferenceExpertsIdeal.nD Cert.ReferenceExpertsIdeal.τ).loc Cert.ReferenceExpertsIdeal.main_arg0) = m ((c.tc : Thread Cert.ReferenceExpertsIdeal.nD Cert.ReferenceExpertsIdeal.τ).loc Cert.ReferenceExpertsIdeal.main_arg0)
      ∧ r.2.mem ((c.tc : Thread Cert.ReferenceExpertsIdeal.nD Cert.ReferenceExpertsIdeal.τ).loc Cert.ReferenceExpertsIdeal.main_arg1) = m ((c.tc : Thread Cert.ReferenceExpertsIdeal.nD Cert.ReferenceExpertsIdeal.τ).loc Cert.ReferenceExpertsIdeal.main_arg1)
      ∧ r.2.mem ((c.tc : Thread Cert.ReferenceExpertsIdeal.nD Cert.ReferenceExpertsIdeal.τ).loc Cert.ReferenceExpertsIdeal.main_arg2) = m ((c.tc : Thread Cert.ReferenceExpertsIdeal.nD Cert.ReferenceExpertsIdeal.τ).loc Cert.ReferenceExpertsIdeal.main_arg2)
      ∧ r.2.mem ((c.tc : Thread Cert.ReferenceExpertsIdeal.nD Cert.ReferenceExpertsIdeal.τ).loc Cert.ReferenceExpertsIdeal.main_arg3) = m ((c.tc : Thread Cert.ReferenceExpertsIdeal.nD Cert.ReferenceExpertsIdeal.τ).loc Cert.ReferenceExpertsIdeal.main_arg3)
      ∧ r.2.mem ((c.tc : Thread Cert.ReferenceExpertsIdeal.nD Cert.ReferenceExpertsIdeal.τ).loc Cert.ReferenceExpertsIdeal.main_arg4) = m ((c.tc : Thread Cert.ReferenceExpertsIdeal.nD Cert.ReferenceExpertsIdeal.τ).loc Cert.ReferenceExpertsIdeal.main_arg4)
      ∧ r.2.mem ((c.tc : Thread Cert.ReferenceExpertsIdeal.nD Cert.ReferenceExpertsIdeal.τ).loc Cert.ReferenceExpertsIdeal.main_arg5) = m ((c.tc : Thread Cert.ReferenceExpertsIdeal.nD Cert.ReferenceExpertsIdeal.τ).loc Cert.ReferenceExpertsIdeal.main_arg5)
      ∧ r.2.mem ((c.tc : Thread Cert.ReferenceExpertsIdeal.nD Cert.ReferenceExpertsIdeal.τ).loc Cert.ReferenceExpertsIdeal.main_arg6) = m ((c.tc : Thread Cert.ReferenceExpertsIdeal.nD Cert.ReferenceExpertsIdeal.τ).loc Cert.ReferenceExpertsIdeal.main_arg6)
      ∧ r.2.mem ((c.tc : Thread Cert.ReferenceExpertsIdeal.nD Cert.ReferenceExpertsIdeal.τ).loc Cert.ReferenceExpertsIdeal.main_arg7) = m ((c.tc : Thread Cert.ReferenceExpertsIdeal.nD Cert.ReferenceExpertsIdeal.τ).loc Cert.ReferenceExpertsIdeal.main_arg7)
      ∧ r.2.mem ((c.tc : Thread Cert.ReferenceExpertsIdeal.nD Cert.ReferenceExpertsIdeal.τ).loc Cert.ReferenceExpertsIdeal.main_arg8) = m ((c.tc : Thread Cert.ReferenceExpertsIdeal.nD Cert.ReferenceExpertsIdeal.τ).loc Cert.ReferenceExpertsIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tok_in_range : Cert.Pre_tok_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Combine_CombineIdeal : Prop :=
  True

def algebraic_CombineIdeal_ReferenceCombineIdeal [hCombineIdeal : Cert.CombineIdeal.Facts] [hReferenceCombineIdeal : Cert.ReferenceCombineIdeal.Facts] [hPre_pos_in_range : Cert.Pre_pos_in_range.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.ReferenceCombineIdeal.nD Cert.ReferenceCombineIdeal.τ Cert.ReferenceCombineIdeal.sig) → Buf (Elt Ideal) ℓ) (g' : Dev Cert.ReferenceCombineIdeal.nD → PrngReg), Pre_CombineIdeal m →
    (∀ c : Dev Cert.CombineIdeal.nD,
      m' ((c.tc : Thread Cert.ReferenceCombineIdeal.nD Cert.ReferenceCombineIdeal.τ).loc Cert.ReferenceCombineIdeal.main_arg0) = m ((c.tc : Thread Cert.CombineIdeal.nD Cert.CombineIdeal.τ).loc Cert.CombineIdeal.main_arg0)
      ∧ m' ((c.tc : Thread Cert.ReferenceCombineIdeal.nD Cert.ReferenceCombineIdeal.τ).loc Cert.ReferenceCombineIdeal.main_arg1) = m ((c.tc : Thread Cert.CombineIdeal.nD Cert.CombineIdeal.τ).loc Cert.CombineIdeal.main_arg1)
      ∧ m' ((c.tc : Thread Cert.ReferenceCombineIdeal.nD Cert.ReferenceCombineIdeal.τ).loc Cert.ReferenceCombineIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v20)),
      θ_run (Cert.CombineIdeal.defs (F := Ideal)) (Cert.CombineIdeal.threads (F := Ideal)) ⟨m, fun _ => 0, g⟩ (fun r => ∀ c : Dev Cert.CombineIdeal.nD,
          r.2.mem ((c.tc : Thread Cert.CombineIdeal.nD Cert.CombineIdeal.τ).loc Cert.CombineIdeal.main_v20) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.ReferenceCombineIdeal.defs (F := Ideal)) (onTc (τ := Cert.ReferenceCombineIdeal.τ) (Cert.ReferenceCombineIdeal.main (F := Ideal))) ⟨m', fun _ => 0, g'⟩ (fun r => ∀ c : Dev Cert.ReferenceCombineIdeal.nD,
          r.2.mem ((c.tc : Thread Cert.ReferenceCombineIdeal.nD Cert.ReferenceCombineIdeal.τ).loc Cert.ReferenceCombineIdeal.main_v14) = v0 c
          ∧ r.2.mem ((c.tc : Thread Cert.ReferenceCombineIdeal.nD Cert.ReferenceCombineIdeal.τ).loc Cert.ReferenceCombineIdeal.main_arg0) = m' ((c.tc : Thread Cert.ReferenceCombineIdeal.nD Cert.ReferenceCombineIdeal.τ).loc Cert.ReferenceCombineIdeal.main_arg0)
          ∧ r.2.mem ((c.tc : Thread Cert.ReferenceCombineIdeal.nD Cert.ReferenceCombineIdeal.τ).loc Cert.ReferenceCombineIdeal.main_arg1) = m' ((c.tc : Thread Cert.ReferenceCombineIdeal.nD Cert.ReferenceCombineIdeal.τ).loc Cert.ReferenceCombineIdeal.main_arg1)
          ∧ r.2.mem ((c.tc : Thread Cert.ReferenceCombineIdeal.nD Cert.ReferenceCombineIdeal.τ).loc Cert.ReferenceCombineIdeal.main_arg2) = m' ((c.tc : Thread Cert.ReferenceCombineIdeal.nD Cert.ReferenceCombineIdeal.τ).loc Cert.ReferenceCombineIdeal.main_arg2))

def preserves_Route_RouteIdeal : Prop :=
  True

def algebraic_RouteIdeal_ReferenceRouteIdeal_pre_finite [hRouteIdeal : Cert.RouteIdeal.Facts] [hReferenceRouteIdeal : Cert.ReferenceRouteIdeal.Facts] [hPre_finite : Cert.Pre_finite.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.ReferenceRouteIdeal.nD Cert.ReferenceRouteIdeal.τ Cert.ReferenceRouteIdeal.sig) → Buf (Elt Ideal) ℓ) (g' : Dev Cert.ReferenceRouteIdeal.nD → PrngReg), Pre_RouteIdeal_finite m →
    (∀ c : Dev Cert.RouteIdeal.nD,
      m' ((c.tc : Thread Cert.ReferenceRouteIdeal.nD Cert.ReferenceRouteIdeal.τ).loc Cert.ReferenceRouteIdeal.main_arg0) = m ((c.tc : Thread Cert.RouteIdeal.nD Cert.RouteIdeal.τ).loc Cert.RouteIdeal.main_arg0)
      ∧ m' ((c.tc : Thread Cert.ReferenceRouteIdeal.nD Cert.ReferenceRouteIdeal.τ).loc Cert.ReferenceRouteIdeal.main_arg1) = m ((c.tc : Thread Cert.RouteIdeal.nD Cert.RouteIdeal.τ).loc Cert.RouteIdeal.main_arg1)) →
    ∃ (v0 : (c : Dev Cert.RouteIdeal.nD) → Buf (Elt Ideal) ((c.tc : Thread Cert.RouteIdeal.nD Cert.RouteIdeal.τ).loc Cert.RouteIdeal.main_v3_0)) (v1 : (c : Dev Cert.RouteIdeal.nD) → Buf (Elt Ideal) ((c.tc : Thread Cert.RouteIdeal.nD Cert.RouteIdeal.τ).loc Cert.RouteIdeal.main_v3_1)) (v2 : (c : Dev Cert.RouteIdeal.nD) → Buf (Elt Ideal) ((c.tc : Thread Cert.RouteIdeal.nD Cert.RouteIdeal.τ).loc Cert.RouteIdeal.main_v3_2)) (v3 : (c : Dev Cert.RouteIdeal.nD) → Buf (Elt Ideal) ((c.tc : Thread Cert.RouteIdeal.nD Cert.RouteIdeal.τ).loc Cert.RouteIdeal.main_v3_3)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v3_0) = v0 c
          ∧ r.2.mem ((c.tc : Thread Cert.RouteIdeal.nD Cert.RouteIdeal.τ).loc Cert.RouteIdeal.main_v3_1) = v1 c
          ∧ r.2.mem ((c.tc : Thread Cert.RouteIdeal.nD Cert.RouteIdeal.τ).loc Cert.RouteIdeal.main_v3_2) = v2 c
          ∧ r.2.mem ((c.tc : Thread Cert.RouteIdeal.nD Cert.RouteIdeal.τ).loc Cert.RouteIdeal.main_v3_3) = v3 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ θ_run (Cert.ReferenceRouteIdeal.defs (F := Ideal)) (onTc (τ := Cert.ReferenceRouteIdeal.τ) (Cert.ReferenceRouteIdeal.main (F := Ideal))) ⟨m', fun _ => 0, g'⟩ (fun r => ∀ c : Dev Cert.ReferenceRouteIdeal.nD,
          r.2.mem ((c.tc : Thread Cert.ReferenceRouteIdeal.nD Cert.ReferenceRouteIdeal.τ).loc Cert.ReferenceRouteIdeal.main_v12) = v0 c
          ∧ r.2.mem ((c.tc : Thread Cert.ReferenceRouteIdeal.nD Cert.ReferenceRouteIdeal.τ).loc Cert.ReferenceRouteIdeal.main_v13) = v1 c
          ∧ r.2.mem ((c.tc : Thread Cert.ReferenceRouteIdeal.nD Cert.ReferenceRouteIdeal.τ).loc Cert.ReferenceRouteIdeal.main_v14) = v2 c
          ∧ r.2.mem ((c.tc : Thread Cert.ReferenceRouteIdeal.nD Cert.ReferenceRouteIdeal.τ).loc Cert.ReferenceRouteIdeal.main_v15) = v3 c
          ∧ r.2.mem ((c.tc : Thread Cert.ReferenceRouteIdeal.nD Cert.ReferenceRouteIdeal.τ).loc Cert.ReferenceRouteIdeal.main_arg0) = m' ((c.tc : Thread Cert.ReferenceRouteIdeal.nD Cert.ReferenceRouteIdeal.τ).loc Cert.ReferenceRouteIdeal.main_arg0)
          ∧ r.2.mem ((c.tc : Thread Cert.ReferenceRouteIdeal.nD Cert.ReferenceRouteIdeal.τ).loc Cert.ReferenceRouteIdeal.main_arg1) = m' ((c.tc : Thread Cert.ReferenceRouteIdeal.nD Cert.ReferenceRouteIdeal.τ).loc Cert.ReferenceRouteIdeal.main_arg1))

def preserves_Experts_ExpertsIdeal : Prop :=
  True

def algebraic_ExpertsIdeal_ReferenceExpertsIdeal_pre_scheduled [hExpertsIdeal : Cert.ExpertsIdeal.Facts] [hReferenceExpertsIdeal : Cert.ReferenceExpertsIdeal.Facts] [hPre_scheduled : Cert.Pre_scheduled.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ReferenceExpertsIdeal.nD Cert.ReferenceExpertsIdeal.τ Cert.ReferenceExpertsIdeal.sig) → Buf (Elt Ideal) ℓ) (g' : Dev Cert.ReferenceExpertsIdeal.nD → PrngReg), Pre_ExpertsIdeal_scheduled m →
    (∀ c : Dev Cert.ExpertsIdeal.nD,
      m' ((c.tc : Thread Cert.ReferenceExpertsIdeal.nD Cert.ReferenceExpertsIdeal.τ).loc Cert.ReferenceExpertsIdeal.main_arg0) = m ((c.tc : Thread Cert.ExpertsIdeal.nD Cert.ExpertsIdeal.τ).loc Cert.ExpertsIdeal.main_arg0)
      ∧ m' ((c.tc : Thread Cert.ReferenceExpertsIdeal.nD Cert.ReferenceExpertsIdeal.τ).loc Cert.ReferenceExpertsIdeal.main_arg1) = m ((c.tc : Thread Cert.ExpertsIdeal.nD Cert.ExpertsIdeal.τ).loc Cert.ExpertsIdeal.main_arg1)
      ∧ m' ((c.tc : Thread Cert.ReferenceExpertsIdeal.nD Cert.ReferenceExpertsIdeal.τ).loc Cert.ReferenceExpertsIdeal.main_arg2) = m ((c.tc : Thread Cert.ExpertsIdeal.nD Cert.ExpertsIdeal.τ).loc Cert.ExpertsIdeal.main_arg2)
      ∧ m' ((c.tc : Thread Cert.ReferenceExpertsIdeal.nD Cert.ReferenceExpertsIdeal.τ).loc Cert.ReferenceExpertsIdeal.main_arg3) = m ((c.tc : Thread Cert.ExpertsIdeal.nD Cert.ExpertsIdeal.τ).loc Cert.ExpertsIdeal.main_arg3)
      ∧ m' ((c.tc : Thread Cert.ReferenceExpertsIdeal.nD Cert.ReferenceExpertsIdeal.τ).loc Cert.ReferenceExpertsIdeal.main_arg4) = m ((c.tc : Thread Cert.ExpertsIdeal.nD Cert.ExpertsIdeal.τ).loc Cert.ExpertsIdeal.main_arg4)
      ∧ m' ((c.tc : Thread Cert.ReferenceExpertsIdeal.nD Cert.ReferenceExpertsIdeal.τ).loc Cert.ReferenceExpertsIdeal.main_arg5) = m ((c.tc : Thread Cert.ExpertsIdeal.nD Cert.ExpertsIdeal.τ).loc Cert.ExpertsIdeal.main_arg5)
      ∧ m' ((c.tc : Thread Cert.ReferenceExpertsIdeal.nD Cert.ReferenceExpertsIdeal.τ).loc Cert.ReferenceExpertsIdeal.main_arg6) = m ((c.tc : Thread Cert.ExpertsIdeal.nD Cert.ExpertsIdeal.τ).loc Cert.ExpertsIdeal.main_arg6)
      ∧ m' ((c.tc : Thread Cert.ReferenceExpertsIdeal.nD Cert.ReferenceExpertsIdeal.τ).loc Cert.ReferenceExpertsIdeal.main_arg7) = m ((c.tc : Thread Cert.ExpertsIdeal.nD Cert.ExpertsIdeal.τ).loc Cert.ExpertsIdeal.main_arg7)
      ∧ m' ((c.tc : Thread Cert.ReferenceExpertsIdeal.nD Cert.ReferenceExpertsIdeal.τ).loc Cert.ReferenceExpertsIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ReferenceExpertsIdeal.defs (F := Ideal)) (onTc (τ := Cert.ReferenceExpertsIdeal.τ) (Cert.ReferenceExpertsIdeal.main (F := Ideal))) ⟨m', fun _ => 0, g'⟩ (fun r => ∀ c : Dev Cert.ReferenceExpertsIdeal.nD,
          r.2.mem ((c.tc : Thread Cert.ReferenceExpertsIdeal.nD Cert.ReferenceExpertsIdeal.τ).loc Cert.ReferenceExpertsIdeal.main_v62) = v0 c
          ∧ r.2.mem ((c.tc : Thread Cert.ReferenceExpertsIdeal.nD Cert.ReferenceExpertsIdeal.τ).loc Cert.ReferenceExpertsIdeal.main_arg0) = m' ((c.tc : Thread Cert.ReferenceExpertsIdeal.nD Cert.ReferenceExpertsIdeal.τ).loc Cert.ReferenceExpertsIdeal.main_arg0)
          ∧ r.2.mem ((c.tc : Thread Cert.ReferenceExpertsIdeal.nD Cert.ReferenceExpertsIdeal.τ).loc Cert.ReferenceExpertsIdeal.main_arg1) = m' ((c.tc : Thread Cert.ReferenceExpertsIdeal.nD Cert.ReferenceExpertsIdeal.τ).loc Cert.ReferenceExpertsIdeal.main_arg1)
          ∧ r.2.mem ((c.tc : Thread Cert.ReferenceExpertsIdeal.nD Cert.ReferenceExpertsIdeal.τ).loc Cert.ReferenceExpertsIdeal.main_arg2) = m' ((c.tc : Thread Cert.ReferenceExpertsIdeal.nD Cert.ReferenceExpertsIdeal.τ).loc Cert.ReferenceExpertsIdeal.main_arg2)
          ∧ r.2.mem ((c.tc : Thread Cert.ReferenceExpertsIdeal.nD Cert.ReferenceExpertsIdeal.τ).loc Cert.ReferenceExpertsIdeal.main_arg3) = m' ((c.tc : Thread Cert.ReferenceExpertsIdeal.nD Cert.ReferenceExpertsIdeal.τ).loc Cert.ReferenceExpertsIdeal.main_arg3)
          ∧ r.2.mem ((c.tc : Thread Cert.ReferenceExpertsIdeal.nD Cert.ReferenceExpertsIdeal.τ).loc Cert.ReferenceExpertsIdeal.main_arg4) = m' ((c.tc : Thread Cert.ReferenceExpertsIdeal.nD Cert.ReferenceExpertsIdeal.τ).loc Cert.ReferenceExpertsIdeal.main_arg4)
          ∧ r.2.mem ((c.tc : Thread Cert.ReferenceExpertsIdeal.nD Cert.ReferenceExpertsIdeal.τ).loc Cert.ReferenceExpertsIdeal.main_arg5) = m' ((c.tc : Thread Cert.ReferenceExpertsIdeal.nD Cert.ReferenceExpertsIdeal.τ).loc Cert.ReferenceExpertsIdeal.main_arg5)
          ∧ r.2.mem ((c.tc : Thread Cert.ReferenceExpertsIdeal.nD Cert.ReferenceExpertsIdeal.τ).loc Cert.ReferenceExpertsIdeal.main_arg6) = m' ((c.tc : Thread Cert.ReferenceExpertsIdeal.nD Cert.ReferenceExpertsIdeal.τ).loc Cert.ReferenceExpertsIdeal.main_arg6)
          ∧ r.2.mem ((c.tc : Thread Cert.ReferenceExpertsIdeal.nD Cert.ReferenceExpertsIdeal.τ).loc Cert.ReferenceExpertsIdeal.main_arg7) = m' ((c.tc : Thread Cert.ReferenceExpertsIdeal.nD Cert.ReferenceExpertsIdeal.τ).loc Cert.ReferenceExpertsIdeal.main_arg7)
          ∧ r.2.mem ((c.tc : Thread Cert.ReferenceExpertsIdeal.nD Cert.ReferenceExpertsIdeal.τ).loc Cert.ReferenceExpertsIdeal.main_arg8) = m' ((c.tc : Thread Cert.ReferenceExpertsIdeal.nD Cert.ReferenceExpertsIdeal.τ).loc Cert.ReferenceExpertsIdeal.main_arg8))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hReferenceCombineIdeal : Cert.ReferenceCombineIdeal.Facts) (hRoute : Cert.Route.Facts) (hRouteIdeal : Cert.RouteIdeal.Facts) (hReferenceRouteIdeal : Cert.ReferenceRouteIdeal.Facts) (hExperts : Cert.Experts.Facts) (hExpertsIdeal : Cert.ExpertsIdeal.Facts) (hReferenceExpertsIdeal : Cert.ReferenceExpertsIdeal.Facts) (hPre_tok_in_range : Cert.Pre_tok_in_range.Facts) (hPre_pos_in_range : Cert.Pre_pos_in_range.Facts) (hPre_finite : Cert.Pre_finite.Facts) (hPre_visits : Cert.Pre_visits.Facts) (hPre_scheduled : Cert.Pre_scheduled.Facts),
    quiescent_Kernel (hKernel := hKernel) (hPre_tok_in_range := hPre_tok_in_range)
    ∧ quiescent_KernelIdeal (hKernelIdeal := hKernelIdeal) (hPre_tok_in_range := hPre_tok_in_range)
    ∧ quiescent_ReferenceIdeal (hReferenceIdeal := hReferenceIdeal) (hPre_tok_in_range := hPre_tok_in_range)
    ∧ quiescent_Combine (hCombine := hCombine) (hPre_pos_in_range := hPre_pos_in_range)
    ∧ quiescent_CombineIdeal (hCombineIdeal := hCombineIdeal) (hPre_pos_in_range := hPre_pos_in_range)
    ∧ quiescent_ReferenceCombineIdeal (hReferenceCombineIdeal := hReferenceCombineIdeal) (hPre_pos_in_range := hPre_pos_in_range)
    ∧ quiescent_Route (hRoute := hRoute)
    ∧ quiescent_RouteIdeal (hRouteIdeal := hRouteIdeal)
    ∧ quiescent_RouteIdeal_pre_finite (hRouteIdeal := hRouteIdeal) (hPre_finite := hPre_finite)
    ∧ quiescent_ReferenceRouteIdeal (hReferenceRouteIdeal := hReferenceRouteIdeal)
    ∧ quiescent_ReferenceRouteIdeal_pre_finite (hReferenceRouteIdeal := hReferenceRouteIdeal) (hPre_finite := hPre_finite)
    ∧ quiescent_Experts (hExperts := hExperts) (hPre_visits := hPre_visits)
    ∧ quiescent_ExpertsIdeal (hExpertsIdeal := hExpertsIdeal) (hPre_visits := hPre_visits)
    ∧ quiescent_ExpertsIdeal_pre_scheduled (hExpertsIdeal := hExpertsIdeal) (hPre_scheduled := hPre_scheduled)
    ∧ quiescent_ReferenceExpertsIdeal (hReferenceExpertsIdeal := hReferenceExpertsIdeal) (hPre_visits := hPre_visits)
    ∧ quiescent_ReferenceExpertsIdeal_pre_scheduled (hReferenceExpertsIdeal := hReferenceExpertsIdeal) (hPre_scheduled := hPre_scheduled)
    ∧ preserves_Kernel_KernelIdeal
    ∧ algebraic_KernelIdeal_ReferenceIdeal (hKernelIdeal := hKernelIdeal) (hReferenceIdeal := hReferenceIdeal) (hPre_tok_in_range := hPre_tok_in_range)
    ∧ preserves_Combine_CombineIdeal
    ∧ algebraic_CombineIdeal_ReferenceCombineIdeal (hCombineIdeal := hCombineIdeal) (hReferenceCombineIdeal := hReferenceCombineIdeal) (hPre_pos_in_range := hPre_pos_in_range)
    ∧ preserves_Route_RouteIdeal
    ∧ algebraic_RouteIdeal_ReferenceRouteIdeal_pre_finite (hRouteIdeal := hRouteIdeal) (hReferenceRouteIdeal := hReferenceRouteIdeal) (hPre_finite := hPre_finite)
    ∧ preserves_Experts_ExpertsIdeal
    ∧ algebraic_ExpertsIdeal_ReferenceExpertsIdeal_pre_scheduled (hExpertsIdeal := hExpertsIdeal) (hReferenceExpertsIdeal := hReferenceExpertsIdeal) (hPre_scheduled := hPre_scheduled)
-- ==== Pre_finite.lean ====
abbrev S4096x1024 : Shape := ⟨2, ![4096, 1024]⟩
abbrev S1024x8 : Shape := ⟨2, ![1024, 8]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S4096x1024 .f32) (main_arg1 : FVec F S1024x8 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Pre_pos_in_range.lean ====
abbrev S8192x1024 : Shape := ⟨2, ![8192, 1024]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S8192x1024 .f32) (main_arg1 : IVec S4096 32) (main_arg2 : IVec S4096 32) : IVec S4096 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 8192#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 32 := constantI S_ 32 0#32
  let main_v5 : IVec S4096 32 := broadcastInDim S4096 ![] bcast_S_S4096 main_c_1
  let main_v6 : IVec S4096 1 := cmpi .sge main_arg2 main_v5
  let main_v7 : IVec S4096 1 := andi main_v4 main_v6
  let main_c_2 : IVec S_ 32 := constantI S_ 32 8192#32
  let main_v8 : IVec S4096 32 := broadcastInDim S4096 ![] bcast_S_S4096 main_c_2
  let main_v9 : IVec S4096 1 := cmpi .slt main_arg2 main_v8
  let main_v10 : IVec S4096 1 := andi main_v7 main_v9
  main_v10
-- ==== Pre_scheduled.lean ====
abbrev S8192x1024 : Shape := ⟨2, ![8192, 1024]⟩
abbrev S16x512x1 : Shape := ⟨3, ![16, 512, 1]⟩
abbrev S8x1024x2048 : Shape := ⟨3, ![8, 1024, 2048]⟩
abbrev S8x2048x1024 : Shape := ⟨3, ![8, 2048, 1024]⟩
abbrev S23 : Shape := ⟨1, ![23]⟩
abbrev S22 : Shape := ⟨1, ![22]⟩
abbrev S1 : Shape := ⟨1, ![1]⟩
abbrev S_ : Shape := ⟨0, ![]⟩

class Facts : Prop where
  slices_S23_S22_1 : S23.Slices ![1] S22
  slices_S23_S22_0 : S23.Slices ![0] S22
  slices_S23_S1_0 : S23.Slices ![0] S1
  shapeCasts_S1_S_ : S1.ShapeCasts S_
  slices_S23_S1_22 : S23.Slices ![22] S1
  bcast_S_S22 : S_.BroadcastsInDim S22 (![] : Fin 0 → Fin S22.rank)
  reducesTo_S22_S_d0 : S22.ReducesTo [0] S_
  h_S_ : 0 < S_.numel
  bcast_S_S23 : S_.BroadcastsInDim S23 (![] : Fin 0 → Fin S23.rank)
  reducesTo_S23_S_d0 : S23.ReducesTo [0] S_

variable [Facts]

def fn_part1 {F : FTy → Type} [FloatOps F] (main_arg5 : IVec S23 32) (main_arg8 : IVec S23 32) (main_v2 : IVec S22 32) (main_v13 : IVec S_ 1) (main_v18 : IVec S22 1) : IVec S_ 1 :=
  let main_c_4 : IVec S_ 1 := constantI S_ 1 1#1
  let main_v19 : IVec S_ 1 := (fun x v => Host.reduce IntOp.andi x v reducesTo_S22_S_d0 h_S_) main_v18 main_c_4
  let main_v20 : IVec S_ 1 := andi main_v13 main_v19
  let main_v21 : IVec S22 32 := (extractStridedSlice S22 ![1] · slices_S23_S22_1) main_arg8
  let main_v22 : IVec S22 1 := cmpi .eq main_v2 main_v21
  let main_c_5 : IVec S_ 1 := constantI S_ 1 1#1
  let main_v23 : IVec S_ 1 := (fun x v => Host.reduce IntOp.andi x v reducesTo_S22_S_d0 h_S_) main_v22 main_c_5
  let main_v24 : IVec S_ 1 := andi main_v20 main_v23
  let main_c_6 : IVec S_ 32 := constantI S_ 32 0#32
  let main_v25 : IVec S23 32 := broadcastInDim S23 ![] bcast_S_S23 main_c_6
  let main_v26 : IVec S23 1 := cmpi .sge main_arg5 main_v25
  let main_c_7 : IVec S_ 32 := constantI S_ 32 8#32
  let main_v27 : IVec S23 32 := broadcastInDim S23 ![] bcast_S_S23 main_c_7
  let main_v28 : IVec S23 1 := cmpi .slt main_arg5 main_v27
  let main_v29 : IVec S23 1 := andi main_v26 main_v28
  let main_c_8 : IVec S_ 1 := constantI S_ 1 1#1
  let main_v30 : IVec S_ 1 := (fun x v => Host.reduce IntOp.andi x v reducesTo_S23_S_d0 h_S_) main_v29 main_c_8
  let main_v31 : IVec S_ 1 := andi main_v24 main_v30
  main_v31

def fn {F : FTy → Type} [FloatOps F] (main_arg0 : FVec F S8192x1024 .f32) (main_arg1 : FVec F S16x512x1 .f32) (main_arg2 : FVec F S8x1024x2048 .bf16) (main_arg3 : FVec F S8x2048x1024 .bf16) (main_arg4 : IVec S23 32) (main_arg5 : IVec S23 32) (main_arg6 : IVec S23 32) (main_arg7 : IVec S23 32) (main_arg8 : IVec S23 32) : IVec S_ 1 :=
  let main_v0 : IVec S22 32 := (extractStridedSlice S22 ![1] · slices_S23_S22_1) main_arg4
  let main_v1 : IVec S22 32 := (extractStridedSlice S22 ![0] · slices_S23_S22_0) main_arg4
  let main_v2 : IVec S22 32 := subi main_v0 main_v1
  let main_v3 : IVec S1 32 := (extractStridedSlice S1 ![0] · slices_S23_S1_0) main_arg4
  let main_v4 : IVec S_ 32 := shapeCast S_ main_v3 shapeCasts_S1_S_
  let main_c : IVec S_ 32 := constantI S_ 32 0#32
  let main_v5 : IVec S_ 1 := cmpi .eq main_v4 main_c
  let main_v6 : IVec S1 32 := (extractStridedSlice S1 ![22] · slices_S23_S1_22) main_arg4
  let main_v7 : IVec S_ 32 := shapeCast S_ main_v6 shapeCasts_S1_S_
  let main_c_0 : IVec S_ 32 := constantI S_ 32 15#32
  let main_v8 : IVec S_ 1 := cmpi .eq main_v7 main_c_0
  let main_v9 : IVec S_ 1 := andi main_v5 main_v8
  let main_v10 : IVec S1 32 := (extractStridedSlice S1 ![0] · slices_S23_S1_0) main_arg8
  let main_v11 : IVec S_ 32 := shapeCast S_ main_v10 shapeCasts_S1_S_
  let main_c_1 : IVec S_ 32 := constantI S_ 32 1#32
  let main_v12 : IVec S_ 1 := cmpi .eq main_v11 main_c_1
  let main_v13 : IVec S_ 1 := andi main_v9 main_v12
  let main_c_2 : IVec S_ 32 := constantI S_ 32 0#32
  let main_v14 : IVec S22 32 := broadcastInDim S22 ![] bcast_S_S22 main_c_2
  let main_v15 : IVec S22 1 := cmpi .eq main_v2 main_v14
  let main_c_3 : IVec S_ 32 := constantI S_ 32 1#32
  let main_v16 : IVec S22 32 := broadcastInDim S22 ![] bcast_S_S22 main_c_3
  let main_v17 : IVec S22 1 := cmpi .eq main_v2 main_v16
  let main_v18 : IVec S22 1 := ori main_v15 main_v17
  fn_part1 (F := F) main_arg5 main_arg8 main_v2 main_v13 main_v18
-- ==== Pre_tok_in_range.lean ====
abbrev S4096x1024 : Shape := ⟨2, ![4096, 1024]⟩
abbrev S8192 : Shape := ⟨1, ![8192]⟩
abbrev S_ : Shape := ⟨0, ![]⟩

class Facts : Prop where
  bcast_S_S8192 : S_.BroadcastsInDim S8192 (![] : Fin 0 → Fin S8192.rank)

variable [Facts]

def fn {F : FTy → Type} [FloatOps F] (main_arg0 : FVec F S4096x1024 .f32) (main_arg1 : IVec S8192 32) : IVec S8192 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 32 := constantI S_ 32 4096#32
  let main_v2 : IVec S8192 32 := broadcastInDim S8192 ![] bcast_S_S8192 main_c_0
  let main_v3 : IVec S8192 1 := cmpi .slt main_arg1 main_v2
  let main_v4 : IVec S8192 1 := andi main_v1 main_v3
  main_v4
-- ==== Pre_visits.lean ====
abbrev S8192x1024 : Shape := ⟨2, ![8192, 1024]⟩
abbrev S16x512x1 : Shape := ⟨3, ![16, 512, 1]⟩
abbrev S8x1024x2048 : Shape := ⟨3, ![8, 1024, 2048]⟩
abbrev S8x2048x1024 : Shape := ⟨3, ![8, 2048, 1024]⟩
abbrev S23 : Shape := ⟨1, ![23]⟩
abbrev S_ : Shape := ⟨0, ![]⟩

class Facts : Prop where
  bcast_S_S23 : S_.BroadcastsInDim S23 (![] : Fin 0 → Fin S23.rank)
  reducesTo_S23_S_d0 : S23.ReducesTo [0] S_
  h_S_ : 0 < S_.numel

variable [Facts]

def fn {F : FTy → Type} [FloatOps F] (main_arg0 : FVec F S8192x1024 .f32) (main_arg1 : FVec F S16x512x1 .f32) (main_arg2 : FVec F S8x1024x2048 .bf16) (main_arg3 : FVec F S8x2048x1024 .bf16) (main_arg4 : IVec S23 32) (main_arg5 : IVec S23 32) (main_arg6 : IVec S23 32) (main_arg7 : IVec S23 32) (main_arg8 : IVec S23 32) : IVec S_ 1 :=
  let main_c : IVec S_ 32 := constantI S_ 32 0#32
  let main_v0 : IVec S23 32 := broadcastInDim S23 ![] bcast_S_S23 main_c
  let main_v1 : IVec S23 1 := cmpi .sge main_arg4 main_v0
  let main_c_0 : IVec S_ 32 := constantI S_ 32 16#32
  let main_v2 : IVec S23 32 := broadcastInDim S23 ![] bcast_S_S23 main_c_0
  let main_v3 : IVec S23 1 := cmpi .slt main_arg4 main_v2
  let main_v4 : IVec S23 1 := andi main_v1 main_v3
  let main_c_1 : IVec S_ 1 := constantI S_ 1 1#1
  let main_v5 : IVec S_ 1 := (fun x v => Host.reduce IntOp.andi x v reducesTo_S23_S_d0 h_S_) main_v4 main_c_1
  let main_c_2 : IVec S_ 32 := constantI S_ 32 0#32
  let main_v6 : IVec S23 32 := broadcastInDim S23 ![] bcast_S_S23 main_c_2
  let main_v7 : IVec S23 1 := cmpi .sge main_arg5 main_v6
  let main_c_3 : IVec S_ 32 := constantI S_ 32 8#32
  let main_v8 : IVec S23 32 := broadcastInDim S23 ![] bcast_S_S23 main_c_3
  let main_v9 : IVec S23 1 := cmpi .slt main_arg5 main_v8
  let main_v10 : IVec S23 1 := andi main_v7 main_v9
  let main_c_4 : IVec S_ 1 := constantI S_ 1 1#1
  let main_v11 : IVec S_ 1 := (fun x v => Host.reduce IntOp.andi x v reducesTo_S23_S_d0 h_S_) main_v10 main_c_4
  let main_v12 : IVec S_ 1 := andi main_v5 main_v11
  main_v12
-- ==== Kernel.lean ====
abbrev S4096x1024 : Shape := ⟨2, ![4096, 1024]⟩
abbrev S8192 : Shape := ⟨1, ![8192]⟩
abbrev S16384x2x128 : Shape := ⟨3, ![16384, 2, 128]⟩
abbrev S8192x1 : Shape := ⟨2, ![8192, 1]⟩
abbrev S_ : Shape := ⟨0, ![]⟩
abbrev S4 : Shape := ⟨1, ![4]⟩
abbrev S1x4 : Shape := ⟨2, ![1, 4]⟩
abbrev S8192x4 : Shape := ⟨2, ![8192, 4]⟩
abbrev S32768 : Shape := ⟨1, ![32768]⟩
abbrev S32768x2x128 : Shape := ⟨3, ![32768, 2, 128]⟩
abbrev S1024 : Shape := ⟨1, ![1024]⟩
abbrev S128x2x128 : Shape := ⟨3, ![128, 2, 128]⟩
abbrev S128 : Shape := ⟨1, ![128]⟩
abbrev S8192x1024 : Shape := ⟨2, ![8192, 1024]⟩

abbrev nBuf : Table → Nat
  | .hbm => 15
  | .local .scVector .vmem => 3
  | _ => 0

abbrev bufTy : (tb : Table) → Fin (nBuf tb) → BufTy
  | .hbm, ⟨0, _⟩ => ⟨S4096x1024, .f32⟩
  | .hbm, ⟨1, _⟩ => ⟨S8192, .i32⟩
  | .hbm, ⟨2, _⟩ => ⟨S16384x2x128, .f32⟩
  | .hbm, ⟨3, _⟩ => ⟨S8192x1, .i32⟩
  | .hbm, ⟨4, _⟩ => ⟨S_, .i32⟩
  | .hbm, ⟨5, _⟩ => ⟨S8192x1, .i32⟩
  | .hbm, ⟨6, _⟩ => ⟨S8192x1, .i32⟩
  | .hbm, ⟨7, _⟩ => ⟨S4, .i32⟩
  | .hbm, ⟨8, _⟩ => ⟨S1x4, .i32⟩
  | .hbm, ⟨9, _⟩ => ⟨S8192x4, .i32⟩
  | .hbm, ⟨10, _⟩ => ⟨S8192x4, .i32⟩
  | .hbm, ⟨11, _⟩ => ⟨S8192x4, .i32⟩
  | .hbm, ⟨12, _⟩ => ⟨S32768, .i32⟩
  | .hbm, ⟨13, _⟩ => ⟨S32768x2x128, .f32⟩
  | .hbm, ⟨14, _⟩ => ⟨S8192x1024, .f32⟩
  | .local .scVector .vmem, ⟨0, _⟩ => ⟨S1024, .i32⟩
  | .local .scVector .vmem, ⟨1, _⟩ => ⟨S128x2x128, .f32⟩
  | .local .scVector .vmem, ⟨2, _⟩ => ⟨S128x2x128, .f32⟩
  | _, _ => ⟨S4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v0_scv : Ref sig .scVector := ⟨.hbm, 2, rfl⟩
abbrev main_v9_scv : Ref sig .scVector := ⟨.hbm, 12, rfl⟩
abbrev main_v10_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c4_i32 : BitVec 32 := 4#32
  let v3 : BitVec 32 := Scalar.muli v2 c4_i32
  ![v3.toNat]
def k0_off2 (i : grid0.Coords) (c0_i32_10 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v10 : BitVec 32 := Scalar.addi v2 c0_i32_10
  let c4_i32_11 : BitVec 32 := 4#32
  let v11 : BitVec 32 := Scalar.muli v10 c4_i32_11
  let c0_i32_12 : BitVec 32 := 0#32
  let c0_i32_13 : BitVec 32 := 0#32
  ![v11.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x1024 : Shape := ⟨2, ![4096, 1024]⟩
abbrev S8192 : Shape := ⟨1, ![8192]⟩
abbrev S_ : Shape := ⟨0, ![]⟩
abbrev S8192x1 : Shape := ⟨2, ![8192, 1]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192, .i32⟩
  | .hbm, ⟨2, _⟩ => ⟨S_, .i32⟩
  | .hbm, ⟨3, _⟩ => ⟨S8192, .i32⟩
  | .hbm, ⟨4, _⟩ => ⟨S8192, .i1⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S8192x1, .i32⟩
  | .hbm, ⟨10, _⟩ => ⟨S8192x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Combine.lean ====
abbrev S8192x1024 : Shape := ⟨2, ![8192, 1024]⟩
abbrev S4096 : Shape := ⟨1, ![4096]⟩
abbrev S32768x2x128 : Shape := ⟨3, ![32768, 2, 128]⟩
abbrev S4096x1 : Shape := ⟨2, ![4096, 1]⟩
abbrev S_ : Shape := ⟨0, ![]⟩
abbrev S4 : Shape := ⟨1, ![4]⟩
abbrev S1x4 : Shape := ⟨2, ![1, 4]⟩
abbrev S4096x4 : Shape := ⟨2, ![4096, 4]⟩
abbrev S16384 : Shape := ⟨1, ![16384]⟩
abbrev S16384x2x128 : Shape := ⟨3, ![16384, 2, 128]⟩
abbrev S512 : Shape := ⟨1, ![512]⟩
abbrev S64x2x128 : Shape := ⟨3, ![64, 2, 128]⟩
abbrev S64 : Shape := ⟨1, ![64]⟩
abbrev S1x1x16 : Shape := ⟨3, ![1, 1, 16]⟩
abbrev S16 : Shape := ⟨1, ![16]⟩
abbrev S4096x1024 : Shape := ⟨2, ![4096, 1024]⟩

abbrev nBuf : Table → Nat
  | .hbm => 26
  | .local .scVector .vmem => 6
  | _ => 0

abbrev bufTy : (tb : Table) → Fin (nBuf tb) → BufTy
  | .hbm, ⟨0, _⟩ => ⟨S8192x1024, .f32⟩
  | .hbm, ⟨1, _⟩ => ⟨S4096, .i32⟩
  | .hbm, ⟨2, _⟩ => ⟨S4096, .i32⟩
  | .hbm, ⟨3, _⟩ => ⟨S32768x2x128, .f32⟩
  | .hbm, ⟨4, _⟩ => ⟨S4096x1, .i32⟩
  | .hbm, ⟨5, _⟩ => ⟨S_, .i32⟩
  | .hbm, ⟨6, _⟩ => ⟨S4096x1, .i32⟩
  | .hbm, ⟨7, _⟩ => ⟨S4096x1, .i32⟩
  | .hbm, ⟨8, _⟩ => ⟨S4, .i32⟩
  | .hbm, ⟨9, _⟩ => ⟨S1x4, .i32⟩
  | .hbm, ⟨10, _⟩ => ⟨S4096x4, .i32⟩
  | .hbm, ⟨11, _⟩ => ⟨S4096x4, .i32⟩
  | .hbm, ⟨12, _⟩ => ⟨S4096x4, .i32⟩
  | .hbm, ⟨13, _⟩ => ⟨S16384, .i32⟩
  | .hbm, ⟨14, _⟩ => ⟨S4096x1, .i32⟩
  | .hbm, ⟨15, _⟩ => ⟨S_, .i32⟩
  | .hbm, ⟨16, _⟩ => ⟨S4096x1, .i32⟩
  | .hbm, ⟨17, _⟩ => ⟨S4096x1, .i32⟩
  | .hbm, ⟨18, _⟩ => ⟨S4, .i32⟩
  | .hbm, ⟨19, _⟩ => ⟨S1x4, .i32⟩
  | .hbm, ⟨20, _⟩ => ⟨S4096x4, .i32⟩
  | .hbm, ⟨21, _⟩ => ⟨S4096x4, .i32⟩
  | .hbm, ⟨22, _⟩ => ⟨S4096x4, .i32⟩
  | .hbm, ⟨23, _⟩ => ⟨S16384, .i32⟩
  | .hbm, ⟨24, _⟩ => ⟨S16384x2x128, .f32⟩
  | .hbm, ⟨25, _⟩ => ⟨S4096x1024, .f32⟩
  | .local .scVector .vmem, ⟨0, _⟩ => ⟨S512, .i32⟩
  | .local .scVector .vmem, ⟨1, _⟩ => ⟨S512, .i32⟩
  | .local .scVector .vmem, ⟨2, _⟩ => ⟨S64x2x128, .f32⟩
  | .local .scVector .vmem, ⟨3, _⟩ => ⟨S64x2x128, .f32⟩
  | .local .scVector .vmem, ⟨4, _⟩ => ⟨S64x2x128, .f32⟩
  | .local .scVector .vmem, ⟨5, _⟩ => ⟨S64x2x128, .f32⟩
  | _, _ => ⟨S8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v0_scv : Ref sig .scVector := ⟨.hbm, 3, rfl⟩
abbrev main_v9_scv : Ref sig .scVector := ⟨.hbm, 13, rfl⟩
abbrev main_v18_scv : Ref sig .scVector := ⟨.hbm, 23, rfl⟩
abbrev main_v19_scv : Ref sig .scVector := ⟨.hbm, 24, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32 : BitVec 32 := 4#32
  let v3 : BitVec 32 := Scalar.muli v2 c4_i32
  ![v3.toNat]
@[reducible] def k0_t1_loop : Scf.Loop 32 :=
  let c0_i32_24 : BitVec 32 := 0#32
  let c1024_i32 : BitVec 32 := 1024#32
  let v17 : BitVec 32 := Scalar.addi c0_i32_24 c1024_i32
  let c1_i32 : BitVec 32 := 1#32
  ⟨c0_i32_24, v17, c1_i32⟩
def k0_off2 (k0_t1 : Fin k0_t1_loop.trips) : Fin 3 → Nat :=
  let c0_i32_24 : BitVec 32 := 0#32
  let c1_i32 : BitVec 32 := 1#32
  let arg17 : BitVec 32 := Scf.iv c0_i32_24 c1_i32 k0_t1
  let c0_i32_235 : BitVec 32 := 0#32
  let v126 : BitVec 1 := Scalar.cmpi .sgt arg17 c0_i32_235
  let v127 : BitVec 32 := Scalar.extui v126
  let c0_i32_236 : BitVec 32 := 0#32
  let v128 : BitVec 1 := Scalar.cmpi .slt arg17 c0_i32_236
  let v129 : BitVec 32 := Scalar.extui v128
  let v130 : BitVec 32 := Scalar.subi v127 v129
  let c64_i32_234 : BitVec 32 := 64#32
  let c0_i32_237 : BitVec 32 := 0#32
  let v131 : BitVec 1 := Scalar.cmpi .sgt c64_i32_234 c0_i32_237
  let v132 : BitVec 32 := Scalar.extui v131
  let c0_i32_238 : BitVec 32 := 0#32
  let v133 : BitVec 1 := Scalar.cmpi .slt c64_i32_234 c0_i32_238
  let v134 : BitVec 32 := Scalar.extui v133
  let v135 : BitVec 32 := Scalar.subi v132 v134
  let v136 : BitVec 1 := Scalar.cmpi .ne v130 v135
  let v137 : BitVec 32 := Scalar.remsi arg17 c64_i32_234
  let c0_i32_239 : BitVec 32 := 0#32
  let v138 : BitVec 1 := Scalar.cmpi .ne v137 c0_i32_239
  let v139 : BitVec 1 := Scalar.andi v136 v138
  let v125 : BitVec 32 := Scalar.divsi arg17 c64_i32_234
  let c1_i32_240 : BitVec 32 := 1#32
  let v140 : BitVec 32 := Scalar.subi v125 c1_i32_240
  let v141 : BitVec 32 := Scalar.select v139 v140 v125
  let c4_i32_248 : BitVec 32 := 4#32
  let v153 : BitVec 32 := Scalar.muli v141 c4_i32_248
  let c64_i32_241 : BitVec 32 := 64#32
  let c0_i32_242 : BitVec 32 := 0#32
  let v142 : BitVec 1 := Scalar.cmpi .eq c64_i32_241 c0_i32_242
  let c1_i32_243 : BitVec 32 := 1#32
  let v143 : BitVec 32 := Scalar.select v142 c1_i32_243 c64_i32_241
  let v144 : BitVec 32 := Scalar.remsi arg17 v143
  let c0_i32_245 : BitVec 32 := 0#32
  let v146 : BitVec 1 := Scalar.cmpi .slt v144 c0_i32_245
  let c0_i32_246 : BitVec 32 := 0#32
  let v147 : BitVec 1 := Scalar.cmpi .slt v143 c0_i32_246
  let v148 : BitVec 1 := Scalar.xori v146 v147
  let c0_i32_244 : BitVec 32 := 0#32
  let v145 : BitVec 1 := Scalar.cmpi .ne v144 c0_i32_244
  let v149 : BitVec 1 := Scalar.andi v148 v145
  let v150 : BitVec 32 := Scalar.addi v144 v143
  let v151 : BitVec 32 := Scalar.select v149 v150 v144
  let c16_i32_247 : BitVec 32 := 16#32
  let v152 : BitVec 32 := Scalar.muli v151 c16_i32_247
  let c8_i32 : BitVec 32 := 8#32
  let v154 : BitVec 32 := Scalar.shrsi v152 c8_i32
  let v155 : BitVec 32 := Scalar.addi v153 v154
  let v159 : Index := Scalar.indexCast v155
  let c7_i32 : BitVec 32 := 7#32
  let v156 : BitVec 32 := Scalar.shrsi v152 c7_i32
  let c1_i32_249 : BitVec 32 := 1#32
  let v157 : BitVec 32 := Scalar.andi v156 c1_i32_249
  let v160 : Index := Scalar.indexCast v157
  let c127_i32 : BitVec 32 := 127#32
  let v158 : BitVec 32 := Scalar.andi v152 c127_i32
  let v161 : Index := Scalar.indexCast v158
  ![v159.toNat, v160.toNat, v161.toNat]
def k0_off3 (i : grid0.Coords) (c0_i32_26 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v18 : BitVec 32 := Scalar.addi v2 c0_i32_26
  let c4_i32_27 : BitVec 32 := 4#32
  let v19 : BitVec 32 := Scalar.muli v18 c4_i32_27
  let c0_i32_28 : BitVec 32 := 0#32
  let c0_i32_29 : BitVec 32 := 0#32
  ![v19.toNat, 0, 0]
@[reducible] def k0_t2_loop : Scf.Loop 32 :=
  let c0_i32_53 : BitVec 32 := 0#32
  let c1024_i32_54 : BitVec 32 := 1024#32
  let v32 : BitVec 32 := Scalar.addi c0_i32_53 c1024_i32_54
  let c1_i32_55 : BitVec 32 := 1#32
  ⟨c0_i32_53, v32, c1_i32_55⟩
def k0_off4 (k0_t2 : Fin k0_t2_loop.trips) : Fin 3 → Nat :=
  let c0_i32_53 : BitVec 32 := 0#32
  let c1_i32_55 : BitVec 32 := 1#32
  let arg17 : BitVec 32 := Scf.iv c0_i32_53 c1_i32_55 k0_t2
  let c0_i32_235 : BitVec 32 := 0#32
  let v126 : BitVec 1 := Scalar.cmpi .sgt arg17 c0_i32_235
  let v127 : BitVec 32 := Scalar.extui v126
  let c0_i32_236 : BitVec 32 := 0#32
  let v128 : BitVec 1 := Scalar.cmpi .slt arg17 c0_i32_236
  let v129 : BitVec 32 := Scalar.extui v128
  let v130 : BitVec 32 := Scalar.subi v127 v129
  let c64_i32_234 : BitVec 32 := 64#32
  let c0_i32_237 : BitVec 32 := 0#32
  let v131 : BitVec 1 := Scalar.cmpi .sgt c64_i32_234 c0_i32_237
  let v132 : BitVec 32 := Scalar.extui v131
  let c0_i32_238 : BitVec 32 := 0#32
  let v133 : BitVec 1 := Scalar.cmpi .slt c64_i32_234 c0_i32_238
  let v134 : BitVec 32 := Scalar.extui v133
  let v135 : BitVec 32 := Scalar.subi v132 v134
  let v136 : BitVec 1 := Scalar.cmpi .ne v130 v135
  let v137 : BitVec 32 := Scalar.remsi arg17 c64_i32_234
  let c0_i32_239 : BitVec 32 := 0#32
  let v138 : BitVec 1 := Scalar.cmpi .ne v137 c0_i32_239
  let v139 : BitVec 1 := Scalar.andi v136 v138
  let v125 : BitVec 32 := Scalar.divsi arg17 c64_i32_234
  let c1_i32_240 : BitVec 32 := 1#32
  let v140 : BitVec 32 := Scalar.subi v125 c1_i32_240
  let v141 : BitVec 32 := Scalar.select v139 v140 v125
  let c4_i32_248 : BitVec 32 := 4#32
  let v153 : BitVec 32 := Scalar.muli v141 c4_i32_248
  let c64_i32_241 : BitVec 32 := 64#32
  let c0_i32_242 : BitVec 32 := 0#32
  let v142 : BitVec 1 := Scalar.cmpi .eq c64_i32_241 c0_i32_242
  let c1_i32_243 : BitVec 32 := 1#32
  let v143 : BitVec 32 := Scalar.select v142 c1_i32_243 c64_i32_241
  let v144 : BitVec 32 := Scalar.remsi arg17 v143
  let c0_i32_245 : BitVec 32 := 0#32
  let v146 : BitVec 1 := Scalar.cmpi .slt v144 c0_i32_245
  let c0_i32_246 : BitVec 32 := 0#32
  let v147 : BitVec 1 := Scalar.cmpi .slt v143 c0_i32_246
  let v148 : BitVec 1 := Scalar.xori v146 v147
  let c0_i32_244 : BitVec 32 := 0#32
  let v145 : BitVec 1 := Scalar.cmpi .ne v144 c0_i32_244
  let v149 : BitVec 1 := Scalar.andi v148 v145
  let v150 : BitVec 32 := Scalar.addi v144 v143
  let v151 : BitVec 32 := Scalar.select v149 v150 v144
  let c16_i32_247 : BitVec 32 := 16#32
  let v152 : BitVec 32 := Scalar.muli v151 c16_i32_247
  let c8_i32 : BitVec 32 := 8#32
  let v154 : BitVec 32 := Scalar.shrsi v152 c8_i32
  let v155 : BitVec 32 := Scalar.addi v153 v154
  let v159 : Index := Scalar.indexCast v155
  let c7_i32 : BitVec 32 := 7#32
  let v156 : BitVec 32 := Scalar.shrsi v152 c7_i32
  let c1_i32_249 : BitVec 32 := 1#32
  let v157 : BitVec 32 := Scalar.andi v156 c1_i32_249
  let v160 : Index := Scalar.indexCast v157
  let c127_i32 : BitVec 32 := 127#32
  let v158 : BitVec 32 := Scalar.andi v152 c127_i32
  let v161 : Index := Scalar.indexCast v158
  ![v159.toNat, v160.toNat, v161.toNat]
@[reducible] def k0_t3_loop : Scf.Loop 32 :=
  let c0_i32_82 : BitVec 32 := 0#32
  let c1024_i32_83 : BitVec 32 := 1024#32
  let v47 : BitVec 32 := Scalar.addi c0_i32_82 c1024_i32_83
  let c1_i32_84 : BitVec 32 := 1#32
  ⟨c0_i32_82, v47, c1_i32_84⟩
def k0_off5 (k0_t3 : Fin k0_t3_loop.trips) : Fin 3 → Nat :=
  let c0_i32_82 : BitVec 32 := 0#32
  let c1_i32_84 : BitVec 32 := 1#32
  let arg17 : BitVec 32 := Scf.iv c0_i32_82 c1_i32_84 k0_t3
  let c0_i32_235 : BitVec 32 := 0#32
  let v126 : BitVec 1 := Scalar.cmpi .sgt arg17 c0_i32_235
  let v127 : BitVec 32 := Scalar.extui v126
  let c0_i32_236 : BitVec 32 := 0#32
  let v128 : BitVec 1 := Scalar.cmpi .slt arg17 c0_i32_236
  let v129 : BitVec 32 := Scalar.extui v128
  let v130 : BitVec 32 := Scalar.subi v127 v129
  let c64_i32_234 : BitVec 32 := 64#32
  let c0_i32_237 : BitVec 32 := 0#32
  let v131 : BitVec 1 := Scalar.cmpi .sgt c64_i32_234 c0_i32_237
  let v132 : BitVec 32 := Scalar.extui v131
  let c0_i32_238 : BitVec 32 := 0#32
  let v133 : BitVec 1 := Scalar.cmpi .slt c64_i32_234 c0_i32_238
  let v134 : BitVec 32 := Scalar.extui v133
  let v135 : BitVec 32 := Scalar.subi v132 v134
  let v136 : BitVec 1 := Scalar.cmpi .ne v130 v135
  let v137 : BitVec 32 := Scalar.remsi arg17 c64_i32_234
  let c0_i32_239 : BitVec 32 := 0#32
  let v138 : BitVec 1 := Scalar.cmpi .ne v137 c0_i32_239
  let v139 : BitVec 1 := Scalar.andi v136 v138
  let v125 : BitVec 32 := Scalar.divsi arg17 c64_i32_234
  let c1_i32_240 : BitVec 32 := 1#32
  let v140 : BitVec 32 := Scalar.subi v125 c1_i32_240
  let v141 : BitVec 32 := Scalar.select v139 v140 v125
  let c4_i32_248 : BitVec 32 := 4#32
  let v153 : BitVec 32 := Scalar.muli v141 c4_i32_248
  let c64_i32_241 : BitVec 32 := 64#32
  let c0_i32_242 : BitVec 32 := 0#32
  let v142 : BitVec 1 := Scalar.cmpi .eq c64_i32_241 c0_i32_242
  let c1_i32_243 : BitVec 32 := 1#32
  let v143 : BitVec 32 := Scalar.select v142 c1_i32_243 c64_i32_241
  let v144 : BitVec 32 := Scalar.remsi arg17 v143
  let c0_i32_245 : BitVec 32 := 0#32
  let v146 : BitVec 1 := Scalar.cmpi .slt v144 c0_i32_245
  let c0_i32_246 : BitVec 32 := 0#32
  let v147 : BitVec 1 := Scalar.cmpi .slt v143 c0_i32_246
  let v148 : BitVec 1 := Scalar.xori v146 v147
  let c0_i32_244 : BitVec 32 := 0#32
  let v145 : BitVec 1 := Scalar.cmpi .ne v144 c0_i32_244
  let v149 : BitVec 1 := Scalar.andi v148 v145
  let v150 : BitVec 32 := Scalar.addi v144 v143
  let v151 : BitVec 32 := Scalar.select v149 v150 v144
  let c16_i32_247 : BitVec 32 := 16#32
  let v152 : BitVec 32 := Scalar.muli v151 c16_i32_247
  let c8_i32 : BitVec 32 := 8#32
  let v154 : BitVec 32 := Scalar.shrsi v152 c8_i32
  let v155 : BitVec 32 := Scalar.addi v153 v154
  let v159 : Index := Scalar.indexCast v155
  let c7_i32 : BitVec 32 := 7#32
  let v156 : BitVec 32 := Scalar.shrsi v152 c7_i32
  let c1_i32_249 : BitVec 32 := 1#32
  let v157 : BitVec 32 := Scalar.andi v156 c1_i32_249
  let v160 : Index := Scalar.indexCast v157
  let c127_i32 : BitVec 32 := 127#32
  let v158 : BitVec 32 := Scalar.andi v152 c127_i32
  let v161 : Index := Scalar.indexCast v158
  ![v159.toNat, v160.toNat, v161.toNat]
@[reducible] def k0_t4_loop : Scf.Loop 32 :=
  let c0_i32_111 : BitVec 32 := 0#32
  let c1024_i32_112 : BitVec 32 := 1024#32
  let v62 : BitVec 32 := Scalar.addi c0_i32_111 c1024_i32_112
  let c1_i32_113 : BitVec 32 := 1#32
  ⟨c0_i32_111, v62, c1_i32_113⟩
def k0_off6 (k0_t4 : Fin k0_t4_loop.trips) : Fin 3 → Nat :=
  let c0_i32_111 : BitVec 32 := 0#32
  let c1_i32_113 : BitVec 32 := 1#32
  let arg17 : BitVec 32 := Scf.iv c0_i32_111 c1_i32_113 k0_t4
  let c0_i32_235 : BitVec 32 := 0#32
  let v126 : BitVec 1 := Scalar.cmpi .sgt arg17 c0_i32_235
  let v127 : BitVec 32 := Scalar.extui v126
  let c0_i32_236 : BitVec 32 := 0#32
  let v128 : BitVec 1 := Scalar.cmpi .slt arg17 c0_i32_236
  let v129 : BitVec 32 := Scalar.extui v128
  let v130 : BitVec 32 := Scalar.subi v127 v129
  let c64_i32_234 : BitVec 32 := 64#32
  let c0_i32_237 : BitVec 32 := 0#32
  let v131 : BitVec 1 := Scalar.cmpi .sgt c64_i32_234 c0_i32_237
  let v132 : BitVec 32 := Scalar.extui v131
  let c0_i32_238 : BitVec 32 := 0#32
  let v133 : BitVec 1 := Scalar.cmpi .slt c64_i32_234 c0_i32_238
  let v134 : BitVec 32 := Scalar.extui v133
  let v135 : BitVec 32 := Scalar.subi v132 v134
  let v136 : BitVec 1 := Scalar.cmpi .ne v130 v135
  let v137 : BitVec 32 := Scalar.remsi arg17 c64_i32_234
  let c0_i32_239 : BitVec 32 := 0#32
  let v138 : BitVec 1 := Scalar.cmpi .ne v137 c0_i32_239
  let v139 : BitVec 1 := Scalar.andi v136 v138
  let v125 : BitVec 32 := Scalar.divsi arg17 c64_i32_234
  let c1_i32_240 : BitVec 32 := 1#32
  let v140 : BitVec 32 := Scalar.subi v125 c1_i32_240
  let v141 : BitVec 32 := Scalar.select v139 v140 v125
  let c4_i32_248 : BitVec 32 := 4#32
  let v153 : BitVec 32 := Scalar.muli v141 c4_i32_248
  let c64_i32_241 : BitVec 32 := 64#32
  let c0_i32_242 : BitVec 32 := 0#32
  let v142 : BitVec 1 := Scalar.cmpi .eq c64_i32_241 c0_i32_242
  let c1_i32_243 : BitVec 32 := 1#32
  let v143 : BitVec 32 := Scalar.select v142 c1_i32_243 c64_i32_241
  let v144 : BitVec 32 := Scalar.remsi arg17 v143
  let c0_i32_245 : BitVec 32 := 0#32
  let v146 : BitVec 1 := Scalar.cmpi .slt v144 c0_i32_245
  let c0_i32_246 : BitVec 32 := 0#32
  let v147 : BitVec 1 := Scalar.cmpi .slt v143 c0_i32_246
  let v148 : BitVec 1 := Scalar.xori v146 v147
  let c0_i32_244 : BitVec 32 := 0#32
  let v145 : BitVec 1 := Scalar.cmpi .ne v144 c0_i32_244
  let v149 : BitVec 1 := Scalar.andi v148 v145
  let v150 : BitVec 32 := Scalar.addi v144 v143
  let v151 : BitVec 32 := Scalar.select v149 v150 v144
  let c16_i32_247 : BitVec 32 := 16#32
  let v152 : BitVec 32 := Scalar.muli v151 c16_i32_247
  let c8_i32 : BitVec 32 := 8#32
  let v154 : BitVec 32 := Scalar.shrsi v152 c8_i32
  let v155 : BitVec 32 := Scalar.addi v153 v154
  let v159 : Index := Scalar.indexCast v155
  let c7_i32 : BitVec 32 := 7#32
  let v156 : BitVec 32 := Scalar.shrsi v152 c7_i32
  let c1_i32_249 : BitVec 32 := 1#32
  let v157 : BitVec 32 := Scalar.andi v156 c1_i32_249
  let v160 : Index := Scalar.indexCast v157
  let c127_i32 : BitVec 32 := 127#32
  let v158 : BitVec 32 := Scalar.andi v152 c127_i32
  let v161 : Index := Scalar.indexCast v158
  ![v159.toNat, v160.toNat, v161.toNat]
@[reducible] def k0_t5_loop : Scf.Loop 32 :=
  let c0_i32_140 : BitVec 32 := 0#32
  let c1024_i32_141 : BitVec 32 := 1024#32
  let v77 : BitVec 32 := Scalar.addi c0_i32_140 c1024_i32_141
  let c1_i32_142 : BitVec 32 := 1#32
  ⟨c0_i32_140, v77, c1_i32_142⟩
def k0_off7 (k0_t5 : Fin k0_t5_loop.trips) : Fin 3 → Nat :=
  let c0_i32_140 : BitVec 32 := 0#32
  let c1_i32_142 : BitVec 32 := 1#32
  let arg17 : BitVec 32 := Scf.iv c0_i32_140 c1_i32_142 k0_t5
  let c0_i32_235 : BitVec 32 := 0#32
  let v126 : BitVec 1 := Scalar.cmpi .sgt arg17 c0_i32_235
  let v127 : BitVec 32 := Scalar.extui v126
  let c0_i32_236 : BitVec 32 := 0#32
  let v128 : BitVec 1 := Scalar.cmpi .slt arg17 c0_i32_236
  let v129 : BitVec 32 := Scalar.extui v128
  let v130 : BitVec 32 := Scalar.subi v127 v129
  let c64_i32_234 : BitVec 32 := 64#32
  let c0_i32_237 : BitVec 32 := 0#32
  let v131 : BitVec 1 := Scalar.cmpi .sgt c64_i32_234 c0_i32_237
  let v132 : BitVec 32 := Scalar.extui v131
  let c0_i32_238 : BitVec 32 := 0#32
  let v133 : BitVec 1 := Scalar.cmpi .slt c64_i32_234 c0_i32_238
  let v134 : BitVec 32 := Scalar.extui v133
  let v135 : BitVec 32 := Scalar.subi v132 v134
  let v136 : BitVec 1 := Scalar.cmpi .ne v130 v135
  let v137 : BitVec 32 := Scalar.remsi arg17 c64_i32_234
  let c0_i32_239 : BitVec 32 := 0#32
  let v138 : BitVec 1 := Scalar.cmpi .ne v137 c0_i32_239
  let v139 : BitVec 1 := Scalar.andi v136 v138
  let v125 : BitVec 32 := Scalar.divsi arg17 c64_i32_234
  let c1_i32_240 : BitVec 32 := 1#32
  let v140 : BitVec 32 := Scalar.subi v125 c1_i32_240
  let v141 : BitVec 32 := Scalar.select v139 v140 v125
  let c4_i32_248 : BitVec 32 := 4#32
  let v153 : BitVec 32 := Scalar.muli v141 c4_i32_248
  let c64_i32_241 : BitVec 32 := 64#32
  let c0_i32_242 : BitVec 32 := 0#32
  let v142 : BitVec 1 := Scalar.cmpi .eq c64_i32_241 c0_i32_242
  let c1_i32_243 : BitVec 32 := 1#32
  let v143 : BitVec 32 := Scalar.select v142 c1_i32_243 c64_i32_241
  let v144 : BitVec 32 := Scalar.remsi arg17 v143
  let c0_i32_245 : BitVec 32 := 0#32
  let v146 : BitVec 1 := Scalar.cmpi .slt v144 c0_i32_245
  let c0_i32_246 : BitVec 32 := 0#32
  let v147 : BitVec 1 := Scalar.cmpi .slt v143 c0_i32_246
  let v148 : BitVec 1 := Scalar.xori v146 v147
  let c0_i32_244 : BitVec 32 := 0#32
  let v145 : BitVec 1 := Scalar.cmpi .ne v144 c0_i32_244
  let v149 : BitVec 1 := Scalar.andi v148 v145
  let v150 : BitVec 32 := Scalar.addi v144 v143
  let v151 : BitVec 32 := Scalar.select v149 v150 v144
  let c16_i32_247 : BitVec 32 := 16#32
  let v152 : BitVec 32 := Scalar.muli v151 c16_i32_247
  let c8_i32 : BitVec 32 := 8#32
  let v154 : BitVec 32 := Scalar.shrsi v152 c8_i32
  let v155 : BitVec 32 := Scalar.addi v153 v154
  let v159 : Index := Scalar.indexCast v155
  let c7_i32 : BitVec 32 := 7#32
  let v156 : BitVec 32 := Scalar.shrsi v152 c7_i32
  let c1_i32_249 : BitVec 32 := 1#32
  let v157 : BitVec 32 := Scalar.andi v156 c1_i32_249
  let v160 : Index := Scalar.indexCast v157
  let c127_i32 : BitVec 32 := 127#32
  let v158 : BitVec 32 := Scalar.andi v152 c127_i32
  let v161 : Index := Scalar.indexCast v158
  ![v159.toNat, v160.toNat, v161.toNat]
@[reducible] def k0_t6_loop : Scf.Loop 32 :=
  let c0_i32_170 : BitVec 32 := 0#32
  let c1024_i32_171 : BitVec 32 := 1024#32
  let v92 : BitVec 32 := Scalar.addi c0_i32_170 c1024_i32_171
  let c1_i32_172 : BitVec 32 := 1#32
  ⟨c0_i32_170, v92, c1_i32_172⟩
def k0_off8 (k0_t6 : Fin k0_t6_loop.trips) : Fin 3 → Nat :=
  let c0_i32_170 : BitVec 32 := 0#32
  let c1_i32_172 : BitVec 32 := 1#32
  let arg17 : BitVec 32 := Scf.iv c0_i32_170 c1_i32_172 k0_t6
  let c0_i32_235 : BitVec 32 := 0#32
  let v126 : BitVec 1 := Scalar.cmpi .sgt arg17 c0_i32_235
  let v127 : BitVec 32 := Scalar.extui v126
  let c0_i32_236 : BitVec 32 := 0#32
  let v128 : BitVec 1 := Scalar.cmpi .slt arg17 c0_i32_236
  let v129 : BitVec 32 := Scalar.extui v128
  let v130 : BitVec 32 := Scalar.subi v127 v129
  let c64_i32_234 : BitVec 32 := 64#32
  let c0_i32_237 : BitVec 32 := 0#32
  let v131 : BitVec 1 := Scalar.cmpi .sgt c64_i32_234 c0_i32_237
  let v132 : BitVec 32 := Scalar.extui v131
  let c0_i32_238 : BitVec 32 := 0#32
  let v133 : BitVec 1 := Scalar.cmpi .slt c64_i32_234 c0_i32_238
  let v134 : BitVec 32 := Scalar.extui v133
  let v135 : BitVec 32 := Scalar.subi v132 v134
  let v136 : BitVec 1 := Scalar.cmpi .ne v130 v135
  let v137 : BitVec 32 := Scalar.remsi arg17 c64_i32_234
  let c0_i32_239 : BitVec 32 := 0#32
  let v138 : BitVec 1 := Scalar.cmpi .ne v137 c0_i32_239
  let v139 : BitVec 1 := Scalar.andi v136 v138
  let v125 : BitVec 32 := Scalar.divsi arg17 c64_i32_234
  let c1_i32_240 : BitVec 32 := 1#32
  let v140 : BitVec 32 := Scalar.subi v125 c1_i32_240
  let v141 : BitVec 32 := Scalar.select v139 v140 v125
  let c4_i32_248 : BitVec 32 := 4#32
  let v153 : BitVec 32 := Scalar.muli v141 c4_i32_248
  let c64_i32_241 : BitVec 32 := 64#32
  let c0_i32_242 : BitVec 32 := 0#32
  let v142 : BitVec 1 := Scalar.cmpi .eq c64_i32_241 c0_i32_242
  let c1_i32_243 : BitVec 32 := 1#32
  let v143 : BitVec 32 := Scalar.select v142 c1_i32_243 c64_i32_241
  let v144 : BitVec 32 := Scalar.remsi arg17 v143
  let c0_i32_245 : BitVec 32 := 0#32
  let v146 : BitVec 1 := Scalar.cmpi .slt v144 c0_i32_245
  let c0_i32_246 : BitVec 32 := 0#32
  let v147 : BitVec 1 := Scalar.cmpi .slt v143 c0_i32_246
  let v148 : BitVec 1 := Scalar.xori v146 v147
  let c0_i32_244 : BitVec 32 := 0#32
  let v145 : BitVec 1 := Scalar.cmpi .ne v144 c0_i32_244
  let v149 : BitVec 1 := Scalar.andi v148 v145
  let v150 : BitVec 32 := Scalar.addi v144 v143
  let v151 : BitVec 32 := Scalar.select v149 v150 v144
  let c16_i32_247 : BitVec 32 := 16#32
  let v152 : BitVec 32 := Scalar.muli v151 c16_i32_247
  let c8_i32 : BitVec 32 := 8#32
  let v154 : BitVec 32 := Scalar.shrsi v152 c8_i32
  let v155 : BitVec 32 := Scalar.addi v153 v154
  let v159 : Index := Scalar.indexCast v155
  let c7_i32 : BitVec 32 := 7#32
  let v156 : BitVec 32 := Scalar.shrsi v152 c7_i32
  let c1_i32_249 : BitVec 32 := 1#32
  let v157 : BitVec 32 := Scalar.andi v156 c1_i32_249
  let v160 : Index := Scalar.indexCast v157
  let c127_i32 : BitVec 32 := 127#32
  let v158 : BitVec 32 := Scalar.andi v152 c127_i32
  let v161 : Index := Scalar.indexCast v158
  ![v159.toNat, v160.toNat, v161.toNat]
@[reducible] def k0_t7_loop : Scf.Loop 32 :=
  let c0_i32_199 : BitVec 32 := 0#32
  let c1024_i32_200 : BitVec 32 := 1024#32
  let v107 : BitVec 32 := Scalar.addi c0_i32_199 c1024_i32_200
  let c1_i32_201 : BitVec 32 := 1#32
  ⟨c0_i32_199, v107, c1_i32_201⟩
def k0_off9 (k0_t7 : Fin k0_t7_loop.trips) : Fin 3 → Nat :=
  let c0_i32_199 : BitVec 32 := 0#32
  let c1_i32_201 : BitVec 32 := 1#32
  let arg17 : BitVec 32 := Scf.iv c0_i32_199 c1_i32_201 k0_t7
  let c0_i32_235 : BitVec 32 := 0#32
  let v126 : BitVec 1 := Scalar.cmpi .sgt arg17 c0_i32_235
  let v127 : BitVec 32 := Scalar.extui v126
  let c0_i32_236 : BitVec 32 := 0#32
  let v128 : BitVec 1 := Scalar.cmpi .slt arg17 c0_i32_236
  let v129 : BitVec 32 := Scalar.extui v128
  let v130 : BitVec 32 := Scalar.subi v127 v129
  let c64_i32_234 : BitVec 32 := 64#32
  let c0_i32_237 : BitVec 32 := 0#32
  let v131 : BitVec 1 := Scalar.cmpi .sgt c64_i32_234 c0_i32_237
  let v132 : BitVec 32 := Scalar.extui v131
  let c0_i32_238 : BitVec 32 := 0#32
  let v133 : BitVec 1 := Scalar.cmpi .slt c64_i32_234 c0_i32_238
  let v134 : BitVec 32 := Scalar.extui v133
  let v135 : BitVec 32 := Scalar.subi v132 v134
  let v136 : BitVec 1 := Scalar.cmpi .ne v130 v135
  let v137 : BitVec 32 := Scalar.remsi arg17 c64_i32_234
  let c0_i32_239 : BitVec 32 := 0#32
  let v138 : BitVec 1 := Scalar.cmpi .ne v137 c0_i32_239
  let v139 : BitVec 1 := Scalar.andi v136 v138
  let v125 : BitVec 32 := Scalar.divsi arg17 c64_i32_234
  let c1_i32_240 : BitVec 32 := 1#32
  let v140 : BitVec 32 := Scalar.subi v125 c1_i32_240
  let v141 : BitVec 32 := Scalar.select v139 v140 v125
  let c4_i32_248 : BitVec 32 := 4#32
  let v153 : BitVec 32 := Scalar.muli v141 c4_i32_248
  let c64_i32_241 : BitVec 32 := 64#32
  let c0_i32_242 : BitVec 32 := 0#32
  let v142 : BitVec 1 := Scalar.cmpi .eq c64_i32_241 c0_i32_242
  let c1_i32_243 : BitVec 32 := 1#32
  let v143 : BitVec 32 := Scalar.select v142 c1_i32_243 c64_i32_241
  let v144 : BitVec 32 := Scalar.remsi arg17 v143
  let c0_i32_245 : BitVec 32 := 0#32
  let v146 : BitVec 1 := Scalar.cmpi .slt v144 c0_i32_245
  let c0_i32_246 : BitVec 32 := 0#32
  let v147 : BitVec 1 := Scalar.cmpi .slt v143 c0_i32_246
  let v148 : BitVec 1 := Scalar.xori v146 v147
  let c0_i32_244 : BitVec 32 := 0#32
  let v145 : BitVec 1 := Scalar.cmpi .ne v144 c0_i32_244
  let v149 : BitVec 1 := Scalar.andi v148 v145
  let v150 : BitVec 32 := Scalar.addi v144 v143
  let v151 : BitVec 32 := Scalar.select v149 v150 v144
  let c16_i32_247 : BitVec 32 := 16#32
  let v152 : BitVec 32 := Scalar.muli v151 c16_i32_247
  let c8_i32 : BitVec 32 := 8#32
  let v154 : BitVec 32 := Scalar.shrsi v152 c8_i32
  let v155 : BitVec 32 := Scalar.addi v153 v154
  let v159 : Index := Scalar.indexCast v155
  let c7_i32 : BitVec 32 := 7#32
  let v156 : BitVec 32 := Scalar.shrsi v152 c7_i32
  let c1_i32_249 : BitVec 32 := 1#32
  let v157 : BitVec 32 := Scalar.andi v156 c1_i32_249
  let v160 : Index := Scalar.indexCast v157
  let c127_i32 : BitVec 32 := 127#32
  let v158 : BitVec 32 := Scalar.andi v152 c127_i32
  let v161 : Index := Scalar.indexCast v158
  ![v159.toNat, v160.toNat, v161.toNat]
@[reducible] def k0_t8_loop : Scf.Loop 32 :=
  let c0_i32_217 : BitVec 32 := 0#32
  let c1024_i32_218 : BitVec 32 := 1024#32
  let v116 : BitVec 32 := Scalar.addi c0_i32_217 c1024_i32_218
  let c1_i32_219 : BitVec 32 := 1#32
  ⟨c0_i32_217, v116, c1_i32_219⟩
def k0_off10 (k0_t8 : Fin k0_t8_loop.trips) : Fin 3 → Nat :=
  let c0_i32_217 : BitVec 32 := 0#32
  let c1_i32_219 : BitVec 32 := 1#32
  let arg17 : BitVec 32 := Scf.iv c0_i32_217 c1_i32_219 k0_t8
  let c0_i32_235 : BitVec 32 := 0#32
  let v126 : BitVec 1 := Scalar.cmpi .sgt arg17 c0_i32_235
  let v127 : BitVec 32 := Scalar.extui v126
  let c0_i32_236 : BitVec 32 := 0#32
  let v128 : BitVec 1 := Scalar.cmpi .slt arg17 c0_i32_236
  let v129 : BitVec 32 := Scalar.extui v128
  let v130 : BitVec 32 := Scalar.subi v127 v129
  let c64_i32_234 : BitVec 32 := 64#32
  let c0_i32_237 : BitVec 32 := 0#32
  let v131 : BitVec 1 := Scalar.cmpi .sgt c64_i32_234 c0_i32_237
  let v132 : BitVec 32 := Scalar.extui v131
  let c0_i32_238 : BitVec 32 := 0#32
  let v133 : BitVec 1 := Scalar.cmpi .slt c64_i32_234 c0_i32_238
  let v134 : BitVec 32 := Scalar.extui v133
  let v135 : BitVec 32 := Scalar.subi v132 v134
  let v136 : BitVec 1 := Scalar.cmpi .ne v130 v135
  let v137 : BitVec 32 := Scalar.remsi arg17 c64_i32_234
  let c0_i32_239 : BitVec 32 := 0#32
  let v138 : BitVec 1 := Scalar.cmpi .ne v137 c0_i32_239
  let v139 : BitVec 1 := Scalar.andi v136 v138
  let v125 : BitVec 32 := Scalar.divsi arg17 c64_i32_234
  let c1_i32_240 : BitVec 32 := 1#32
  let v140 : BitVec 32 := Scalar.subi v125 c1_i32_240
  let v141 : BitVec 32 := Scalar.select v139 v140 v125
  let c4_i32_248 : BitVec 32 := 4#32
  let v153 : BitVec 32 := Scalar.muli v141 c4_i32_248
  let c64_i32_241 : BitVec 32 := 64#32
  let c0_i32_242 : BitVec 32 := 0#32
  let v142 : BitVec 1 := Scalar.cmpi .eq c64_i32_241 c0_i32_242
  let c1_i32_243 : BitVec 32 := 1#32
  let v143 : BitVec 32 := Scalar.select v142 c1_i32_243 c64_i32_241
  let v144 : BitVec 32 := Scalar.remsi arg17 v143
  let c0_i32_245 : BitVec 32 := 0#32
  let v146 : BitVec 1 := Scalar.cmpi .slt v144 c0_i32_245
  let c0_i32_246 : BitVec 32 := 0#32
  let v147 : BitVec 1 := Scalar.cmpi .slt v143 c0_i32_246
  let v148 : BitVec 1 := Scalar.xori v146 v147
  let c0_i32_244 : BitVec 32 := 0#32
  let v145 : BitVec 1 := Scalar.cmpi .ne v144 c0_i32_244
  let v149 : BitVec 1 := Scalar.andi v148 v145
  let v150 : BitVec 32 := Scalar.addi v144 v143
  let v151 : BitVec 32 := Scalar.select v149 v150 v144
  let c16_i32_247 : BitVec 32 := 16#32
  let v152 : BitVec 32 := Scalar.muli v151 c16_i32_247
  let c8_i32 : BitVec 32 := 8#32
  let v154 : BitVec 32 := Scalar.shrsi v152 c8_i32
  let v155 : BitVec 32 := Scalar.addi v153 v154
  let v159 : Index := Scalar.indexCast v155
  let c7_i32 : BitVec 32 := 7#32
  let v156 : BitVec 32 := Scalar.shrsi v152 c7_i32
  let c1_i32_249 : BitVec 32 := 1#32
  let v157 : BitVec 32 := Scalar.andi v156 c1_i32_249
  let v160 : Index := Scalar.indexCast v157
  let c127_i32 : BitVec 32 := 127#32
  let v158 : BitVec 32 := Scalar.andi v152 c127_i32
  let v161 : Index := Scalar.indexCast v158
  ![v159.toNat, v160.toNat, v161.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceCombineIdeal.lean ====
abbrev S8192x1024 : Shape := ⟨2, ![8192, 1024]⟩
abbrev S4096 : Shape := ⟨1, ![4096]⟩
abbrev S_ : Shape := ⟨0, ![]⟩
abbrev S4096x1 : Shape := ⟨2, ![4096, 1]⟩
abbrev S4096x1024 : Shape := ⟨2, ![4096, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096, .i32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S4096x1024, .f32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4096x1024, .f32⟩
  | .hbm, ⟨21, _⟩ => ⟨S4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Route.lean ====
abbrev S4096x1024 : Shape := ⟨2, ![4096, 1024]⟩
abbrev S1024x8 : Shape := ⟨2, ![1024, 8]⟩
abbrev S_ : Shape := ⟨0, ![]⟩
abbrev S1024x128 : Shape := ⟨2, ![1024, 128]⟩
abbrev S1 : Shape := ⟨1, ![1]⟩
abbrev S4096x1 : Shape := ⟨2, ![4096, 1]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x8, .f32⟩
  | .hbm, ⟨2, _⟩ => ⟨S_, .f32⟩
  | .hbm, ⟨3, _⟩ => ⟨S1024x128, .f32⟩
  | .hbm, ⟨4, _⟩ => ⟨S_, .i32⟩
  | .hbm, ⟨5, _⟩ => ⟨S1, .i32⟩
  | .hbm, ⟨6, _⟩ => ⟨S1024x128, .f32⟩
  | .hbm, ⟨7, _⟩ => ⟨S4096x1, .i32⟩
  | .hbm, ⟨8, _⟩ => ⟨S4096x1, .i32⟩
  | .hbm, ⟨9, _⟩ => ⟨S4096x1, .f32⟩
  | .hbm, ⟨10, _⟩ => ⟨S4096x1, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x1, .i32⟩
  | .local _ .vmem, ⟨4, _⟩ => ⟨S1024x1, .i32⟩
  | .local _ .vmem, ⟨5, _⟩ => ⟨S1024x1, .i32⟩
  | .local _ .vmem, ⟨6, _⟩ => ⟨S1024x1, .i32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceRouteIdeal.lean ====
abbrev S4096x1024 : Shape := ⟨2, ![4096, 1024]⟩
abbrev S1024x8 : Shape := ⟨2, ![1024, 8]⟩
abbrev S4096x8 : Shape := ⟨2, ![4096, 8]⟩
abbrev S4096x2 : Shape := ⟨2, ![4096, 2]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x8, .f32⟩
  | .hbm, ⟨2, _⟩ => ⟨S4096x8, .f32⟩
  | .hbm, ⟨3, _⟩ => ⟨S4096x2, .f32⟩
  | .hbm, ⟨4, _⟩ => ⟨S4096x2, .i32⟩
  | .hbm, ⟨5, _⟩ => ⟨S_, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096x1, .f32⟩
  | .hbm, ⟨11, _⟩ => ⟨S4096x2, .f32⟩
  | .hbm, ⟨12, _⟩ => ⟨S4096x2, .f32⟩
  | .hbm, ⟨13, _⟩ => ⟨S4096x2, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x2, .f32⟩
  | .hbm, ⟨18, _⟩ => ⟨S4096x2, .f32⟩
  | .hbm, ⟨19, _⟩ => ⟨S4096x1, .i32⟩
  | .hbm, ⟨20, _⟩ => ⟨S4096x1, .i32⟩
  | .hbm, ⟨21, _⟩ => ⟨S4096x1, .f32⟩
  | .hbm, ⟨22, _⟩ => ⟨S4096x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Experts.lean ====
abbrev S8192x1024 : Shape := ⟨2, ![8192, 1024]⟩
abbrev S16x512x1 : Shape := ⟨3, ![16, 512, 1]⟩
abbrev S8x1024x2048 : Shape := ⟨3, ![8, 1024, 2048]⟩
abbrev S8x2048x1024 : Shape := ⟨3, ![8, 2048, 1024]⟩
abbrev S23 : Shape := ⟨1, ![23]⟩
abbrev S512x1024 : Shape := ⟨2, ![512, 1024]⟩
abbrev S1 : Shape := ⟨1, ![1]⟩
abbrev S1x512x1 : Shape := ⟨3, ![1, 512, 1]⟩
abbrev S1x1024x2048 : Shape := ⟨3, ![1, 1024, 2048]⟩
abbrev S1x2048x1024 : Shape := ⟨3, ![1, 2048, 1024]⟩
abbrev S1024x2048 : Shape := ⟨2, ![1024, 2048]⟩
abbrev S512x2048 : Shape := ⟨2, ![512, 2048]⟩
abbrev S2048x1024 : Shape := ⟨2, ![2048, 1024]⟩
abbrev S512x1 : Shape := ⟨2, ![512, 1]⟩

abbrev nBuf : Space → Nat
  | .hbm => 5
  | .vmem => 10
  | .smem => 5
  | _ => 0

abbrev bufTy : (tb : Table) → Fin (tcTables nBuf tb) → BufTy
  | .hbm, ⟨0, _⟩ => ⟨S8192x1024, .f32⟩
  | .hbm, ⟨1, _⟩ => ⟨S16x512x1, .f32⟩
  | .hbm, ⟨2, _⟩ => ⟨S8x1024x2048, .bf16⟩
  | .hbm, ⟨3, _⟩ => ⟨S8x2048x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x512x1, .f32⟩
  | .local _ .vmem, ⟨3, _⟩ => ⟨S1x512x1, .f32⟩
  | .local _ .vmem, ⟨4, _⟩ => ⟨S1x1024x2048, .bf16⟩
  | .local _ .vmem, ⟨5, _⟩ => ⟨S1x1024x2048, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S512x1024, .f32⟩
  | .local _ .vmem, ⟨9, _⟩ => ⟨S512x1024, .f32⟩
  | .local _ .smem, ⟨0, _⟩ => ⟨S23, .i32⟩
  | .local _ .smem, ⟨1, _⟩ => ⟨S23, .i32⟩
  | .local _ .smem, ⟨2, _⟩ => ⟨S23, .i32⟩
  | .local _ .smem, ⟨3, _⟩ => ⟨S23, .i32⟩
  | .local _ .smem, ⟨4, _⟩ => ⟨S23, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev main_arg5 : Ref sig .tc := ⟨.smem, 1, rfl⟩
abbrev main_arg6 : Ref sig .tc := ⟨.smem, 2, rfl⟩
abbrev main_arg7 : Ref sig .tc := ⟨.smem, 3, rfl⟩
abbrev main_arg8 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![23], ![false]⟩

abbrev pre0 : Pipeline.Prefetch sig := ⟨5, ![main_arg4.idx, main_arg5.idx, main_arg6.idx, main_arg7.idx, main_arg8.idx], fun | 0 => main_arg4.names | 1 => main_arg5.names | 2 => main_arg6.names | 3 => main_arg7.names | 4 => main_arg8.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v45 : Index := Scalar.indexCast arg0
  ![v45.toNat]
def k0_cond1 (v41 : BitVec 32) : BitVec 1 :=
  let c1_i32 : BitVec 32 := 1#32
  let v42 : BitVec 1 := Scalar.cmpi .eq v41 c1_i32
  let v43 : BitVec 32 := Scalar.extui v42
  let c0_i32 : BitVec 32 := 0#32
  let v44 : BitVec 1 := Scalar.cmpi .ne v43 c0_i32
  v44

def k0_cond2 (v46 : BitVec 32) : BitVec 1 :=
  let c0_i32_16 : BitVec 32 := 0#32
  let v47 : BitVec 1 := Scalar.cmpi .eq v46 c0_i32_16
  let v48 : BitVec 32 := Scalar.extui v47
  let c0_i32_17 : BitVec 32 := 0#32
  let v49 : BitVec 1 := Scalar.cmpi .ne v48 c0_i32_17
  v49

def cc0_transform_0 (k0_off1_inb : ∀ i : grid0.Coords, ∀ a, (k0_off1 i) a + S1.size a ≤ S23.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S23) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S23.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S23) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S23.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S23) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S23.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S23) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S23.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S23) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceExpertsIdeal.lean ====
abbrev S8192x1024 : Shape := ⟨2, ![8192, 1024]⟩
abbrev S16x512x1 : Shape := ⟨3, ![16, 512, 1]⟩
abbrev S8x1024x2048 : Shape := ⟨3, ![8, 1024, 2048]⟩
abbrev S8x2048x1024 : Shape := ⟨3, ![8, 2048, 1024]⟩
abbrev S23 : Shape := ⟨1, ![23]⟩
abbrev S16 : Shape := ⟨1, ![16]⟩
abbrev S16x1x1 : Shape := ⟨3, ![16, 1, 1]⟩
abbrev S512 : Shape := ⟨1, ![512]⟩
abbrev S512x1 : Shape := ⟨2, ![512, 1]⟩
abbrev S1x1x23 : Shape := ⟨3, ![1, 1, 23]⟩
abbrev S16x1x23 : Shape := ⟨3, ![16, 1, 23]⟩
abbrev S1x23 : Shape := ⟨2, ![1, 23]⟩
abbrev S512x23 : Shape := ⟨2, ![512, 23]⟩
abbrev S1x512x23 : Shape := ⟨3, ![1, 512, 23]⟩
abbrev S16x512x23 : Shape := ⟨3, ![16, 512, 23]⟩
abbrev S8192x23 : Shape := ⟨2, ![8192, 23]⟩
abbrev S8 : Shape := ⟨1, ![8]⟩
abbrev S8x1x1 : Shape := ⟨3, ![8, 1, 1]⟩
abbrev S8x1x23 : Shape := ⟨3, ![8, 1, 23]⟩
abbrev S1x8192x23 : Shape := ⟨3, ![1, 8192, 23]⟩
abbrev S8x8192x23 : Shape := ⟨3, ![8, 8192, 23]⟩
abbrev S_ : Shape := ⟨0, ![]⟩
abbrev S8x8192 : Shape := ⟨2, ![8, 8192]⟩
abbrev S8192 : Shape := ⟨1, ![8192]⟩
abbrev S1x8192 : Shape := ⟨2, ![1, 8192]⟩
abbrev S8x2048x8192 : Shape := ⟨3, ![8, 2048, 8192]⟩
abbrev S8x8192x2048 : Shape := ⟨3, ![8, 8192, 2048]⟩
abbrev S8x8192x1024 : Shape := ⟨3, ![8, 8192, 1024]⟩
abbrev S8x8192x1 : Shape := ⟨3, ![8, 8192, 1]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x512x1, .f32⟩
  | .hbm, ⟨2, _⟩ => ⟨S8x1024x2048, .bf16⟩
  | .hbm, ⟨3, _⟩ => ⟨S8x2048x1024, .bf16⟩
  | .hbm, ⟨4, _⟩ => ⟨S23, .i32⟩
  | .hbm, ⟨5, _⟩ => ⟨S23, .i32⟩
  | .hbm, ⟨6, _⟩ => ⟨S23, .i32⟩
  | .hbm, ⟨7, _⟩ => ⟨S23, .i32⟩
  | .hbm, ⟨8, _⟩ => ⟨S23, .i32⟩
  | .hbm, ⟨9, _⟩ => ⟨S16, .i32⟩
  | .hbm, ⟨10, _⟩ => ⟨S16x1x1, .i32⟩
  | .hbm, ⟨11, _⟩ => ⟨S512, .i32⟩
  | .hbm, ⟨12, _⟩ => ⟨S512x1, .i32⟩
  | .hbm, ⟨13, _⟩ => ⟨S1x1x23, .i32⟩
  | .hbm, ⟨14, _⟩ => ⟨S16x1x23, .i32⟩
  | .hbm, ⟨15, _⟩ => ⟨S16x1x23, .i32⟩
  | .hbm, ⟨16, _⟩ => ⟨S16x1x23, .i1⟩
  | .hbm, ⟨17, _⟩ => ⟨S1x23, .i32⟩
  | .hbm, ⟨18, _⟩ => ⟨S512x23, .i32⟩
  | .hbm, ⟨19, _⟩ => ⟨S512x23, .i32⟩
  | .hbm, ⟨20, _⟩ => ⟨S512x23, .i1⟩
  | .hbm, ⟨21, _⟩ => ⟨S1x512x23, .i1⟩
  | .hbm, ⟨22, _⟩ => ⟨S16x512x23, .i1⟩
  | .hbm, ⟨23, _⟩ => ⟨S16x512x23, .i1⟩
  | .hbm, ⟨24, _⟩ => ⟨S16x512x23, .i1⟩
  | .hbm, ⟨25, _⟩ => ⟨S1x23, .i32⟩
  | .hbm, ⟨26, _⟩ => ⟨S512x23, .i32⟩
  | .hbm, ⟨27, _⟩ => ⟨S512x23, .i32⟩
  | .hbm, ⟨28, _⟩ => ⟨S512x23, .i1⟩
  | .hbm, ⟨29, _⟩ => ⟨S1x512x23, .i1⟩
  | .hbm, ⟨30, _⟩ => ⟨S16x512x23, .i1⟩
  | .hbm, ⟨31, _⟩ => ⟨S16x512x23, .i1⟩
  | .hbm, ⟨32, _⟩ => ⟨S8192x23, .i1⟩
  | .hbm, ⟨33, _⟩ => ⟨S8, .i32⟩
  | .hbm, ⟨34, _⟩ => ⟨S8x1x1, .i32⟩
  | .hbm, ⟨35, _⟩ => ⟨S1x1x23, .i32⟩
  | .hbm, ⟨36, _⟩ => ⟨S8x1x23, .i32⟩
  | .hbm, ⟨37, _⟩ => ⟨S8x1x23, .i32⟩
  | .hbm, ⟨38, _⟩ => ⟨S8x1x23, .i1⟩
  | .hbm, ⟨39, _⟩ => ⟨S1x8192x23, .i1⟩
  | .hbm, ⟨40, _⟩ => ⟨S8x8192x23, .i1⟩
  | .hbm, ⟨41, _⟩ => ⟨S8x8192x23, .i1⟩
  | .hbm, ⟨42, _⟩ => ⟨S8x8192x23, .i1⟩
  | .hbm, ⟨43, _⟩ => ⟨S_, .f32⟩
  | .hbm, ⟨44, _⟩ => ⟨S_, .f32⟩
  | .hbm, ⟨45, _⟩ => ⟨S8x8192x23, .f32⟩
  | .hbm, ⟨46, _⟩ => ⟨S8x8192x23, .f32⟩
  | .hbm, ⟨47, _⟩ => ⟨S8x8192x23, .f32⟩
  | .hbm, ⟨48, _⟩ => ⟨S8x8192x23, .f32⟩
  | .hbm, ⟨49, _⟩ => ⟨S_, .f32⟩
  | .hbm, ⟨50, _⟩ => ⟨S8x8192, .f32⟩
  | .hbm, ⟨51, _⟩ => ⟨S8192, .f32⟩
  | .hbm, ⟨52, _⟩ => ⟨S1x8192, .f32⟩
  | .hbm, ⟨53, _⟩ => ⟨S8x8192, .f32⟩
  | .hbm, ⟨54, _⟩ => ⟨S8x8192, .f32⟩
  | .hbm, ⟨55, _⟩ => ⟨S8x1024x2048, .f32⟩
  | .hbm, ⟨56, _⟩ => ⟨S8x2048x8192, .f32⟩
  | .hbm, ⟨57, _⟩ => ⟨S8x8192x2048, .f32⟩
  | .hbm, ⟨58, _⟩ => ⟨S8x8192x2048, .f32⟩
  | .hbm, ⟨59, _⟩ => ⟨S8x8192x2048, .f32⟩
  | .hbm, ⟨60, _⟩ => ⟨S_, .f32⟩
  | .hbm, ⟨61, _⟩ => ⟨S8x8192x2048, .f32⟩
  | .hbm, ⟨62, _⟩ => ⟨S8x8192x2048, .f32⟩
  | .hbm, ⟨63, _⟩ => ⟨S8x8192x2048, .f32⟩
  | .hbm, ⟨64, _⟩ => ⟨S_, .f32⟩
  | .hbm, ⟨65, _⟩ => ⟨S8x8192x2048, .f32⟩
  | .hbm, ⟨66, _⟩ => ⟨S8x8192x2048, .f32⟩
  | .hbm, ⟨67, _⟩ => ⟨S8x8192x2048, .f32⟩
  | .hbm, ⟨68, _⟩ => ⟨S_, .f32⟩
  | .hbm, ⟨69, _⟩ => ⟨S8x8192x2048, .f32⟩
  | .hbm, ⟨70, _⟩ => ⟨S8x8192x2048, .f32⟩
  | .hbm, ⟨71, _⟩ => ⟨S_, .f32⟩
  | .hbm, ⟨72, _⟩ => ⟨S8x8192x2048, .f32⟩
  | .hbm, ⟨73, _⟩ => ⟨S8x8192x2048, .f32⟩
  | .hbm, ⟨74, _⟩ => ⟨S8x8192x2048, .f32⟩
  | .hbm, ⟨75, _⟩ => ⟨S8x2048x1024, .f32⟩
  | .hbm, ⟨76, _⟩ => ⟨S8x8192x1024, .f32⟩
  | .hbm, ⟨77, _⟩ => ⟨S8x8192x1, .f32⟩
  | .hbm, ⟨78, _⟩ => ⟨S8x8192x1024, .f32⟩
  | .hbm, ⟨79, _⟩ => ⟨S8x8192x1024, .f32⟩
  | .hbm, ⟨80, _⟩ => ⟨S_, .f32⟩
  | .hbm, ⟨81, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst : Ref sig .tc := ⟨.hbm, 43, rfl⟩
abbrev main_cst_0 : Ref sig .tc := ⟨.hbm, 44, rfl⟩
abbrev main_call0_v0 : Ref sig .tc := ⟨.hbm, 45, rfl⟩
abbrev main_call0_v1 : Ref sig .tc := ⟨.hbm, 46, rfl⟩
abbrev main_v34 : Ref sig .tc := ⟨.hbm, 47, rfl⟩
abbrev main_v35 : Ref sig .tc := ⟨.hbm, 48, rfl⟩
abbrev main_cst_1 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_2 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_3 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_4 : Ref sig .tc := ⟨.hbm, 68, rfl⟩
abbrev main_v52 : Ref sig .tc := ⟨.hbm, 69, rfl⟩
abbrev main_v53 : Ref sig .tc := ⟨.hbm, 70, rfl⟩
abbrev main_cst_5 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Proof.DispatchValue.lean ====
/-
  One task of the row gather: vector subcore `(c, i)` fetches its 1024 entries of the index list and, in eight
  rounds over two buffers, gathers the 128 pieces a round names out of the table and copies them to its block of
  the result. Run once, at a symbolic subcore, with the contents carried: each block ends holding the table's
  pieces at the list's words.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.Dispatch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev xLoc (d : Dev nD) : Loc nD τ sig := (SparseCore.T d).loc main_v0
abbrev iLoc (d : Dev nD) : Loc nD τ sig := (SparseCore.T d).loc main_v9
abbrev oLoc (d : Dev nD) : Loc nD τ sig := (SparseCore.T d).loc main_v10

local notation "xV" => (Memref.whole Cert.KernelIdeal.main_v0_scv : Memref Cert.KernelIdeal.sig Kind.scVector Space.hbm Cert.KernelIdeal.S16384x2x128 EltTy.f32)
local notation "iV" => (Memref.whole Cert.KernelIdeal.main_v9_scv : Memref Cert.KernelIdeal.sig Kind.scVector Space.hbm Cert.KernelIdeal.S32768 EltTy.i32)
local notation "oV" => (Memref.whole Cert.KernelIdeal.main_v10_scv : Memref Cert.KernelIdeal.sig Kind.scVector Space.hbm Cert.KernelIdeal.S32768x2x128 EltTy.f32)
local notation "lV" => (Memref.whole Cert.KernelIdeal.cc0_scratch0 : Memref Cert.KernelIdeal.sig Kind.scVector Space.vmem Cert.KernelIdeal.S1024 EltTy.i32)
local notation "aV" => (Memref.whole Cert.KernelIdeal.cc0_scratch1 : Memref Cert.KernelIdeal.sig Kind.scVector Space.vmem Cert.KernelIdeal.S128x2x128 EltTy.f32)
local notation "bV" => (Memref.whole Cert.KernelIdeal.cc0_scratch2 : Memref Cert.KernelIdeal.sig Kind.scVector Space.vmem Cert.KernelIdeal.S128x2x128 EltTy.f32)

/-! ## What the call computes -/

/-- The table's element a result element reads: the piece the list's word names, the same place in it. -/
def gix (w : BitVec 32) (j : S32768x2x128.Idx) : S16384x2x128.Idx :=
  fun | 0 => ⟨w.toNat % 16384, Nat.mod_lt _ (by decide)⟩ | 1 => j 1 | 2 => j 2

theorem gix_zero (w : BitVec 32) (j : S32768x2x128.Idx) (h : w.toNat < 16384) : (gix w j 0).val = w.toNat := Nat.mod_eq_of_lt h

/-- The entry of the list a result element goes by. -/
def fst (j : S32768x2x128.Idx) : S32768.Idx := fun | 0 => j 0

/-- The result: piece `n` is the table's piece the list's word `n` names. -/
def G (d : Dev nD) (X : Buf (Elt F) (xLoc d)) (I : Buf (Elt F) (iLoc d)) : Buf (Elt F) (oLoc d) :=
  fun (j : S32768x2x128.Idx) => (X : S16384x2x128.Idx → F .f32) (gix ((I : S32768.Idx → BitVec 32) (fst j)) j)

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The task's entries of the list and its eight blocks of the result, as the body slices them. -/
abbrev iRowK (L : grid0.Coords) : Memref sig .scVector .hbm S1024 .i32 :=
  (iV).slice (Rect.unit (s := S32768) (k0_off1 L) S1024.size (k0_off1_inb L)) (fun _ => rfl)
abbrev oBlkK (L : grid0.Coords) (j : Fin 8) : Memref sig .scVector .hbm S128x2x128 .f32 :=
  (oV).slice (Rect.unit (s := S32768x2x128) (k0_off2 L (BitVec.ofNat 32 (32 * j.val))) S128x2x128.size (k0_off2_inb L j)) (fun _ => rfl)

abbrev csem (k : Nat) (hk : k < 4 := by decide) : DmaSem sig := ⟨k, hk⟩
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0)

abbrev oPt (j : Fin 8) (f : Buf (Elt F) (oLoc d)) : sProp 𝕄 := (oBlkK L j).view.loc (VT d L) ↦[(oBlkK L j).view.set]{fullShare} f

/-- What the fetch lands in the task's list. -/
abbrev PAY (I : Buf (Elt F) (iLoc d)) : S1024.Idx → Elt F .i32 := ReadAs.same.apply ((iRowK L).view.read (Elt F) I)

theorem PAY_apply (I : Buf (Elt F) (iLoc d)) (x : S1024.Idx) : PAY d L I x = I ((iRowK L).view.emb x) :=
  (View.read_apply _ _).trans (cast_eq _ _)

/-- The words of any window of the fetched list name pieces of the table. -/
theorem inb_of_ok (I : Buf (Elt F) (iLoc d)) (hI : ∀ n : S32768.Idx, ((I : S32768.Idx → BitVec 32) n).toNat < 16384)
    (g0 : Buf (Elt F) ((lV).view.loc (VT d L)))
    (pay : S1024.Idx → Elt F .i32) (hpay : pay = PAY d L I) (off : Fin 1 → Nat) (h : ∀ a, off a + S128.size a ≤ S1024.size a) :
    ∀ x, (View.read (Elt F) ((lV).slice (Rect.unit (s := S1024) off S128.size h) (fun _ => rfl)).view
      ((lV).view.writes (Elt F) g0 [⟨Rect.whole cc0_scratch0.ty.shape, pay⟩]) x).toNat < 16384 := by
  subst hpay; intro x
  have e : View.read (Elt F) ((lV).slice (Rect.unit (s := S1024) off S128.size h) (fun _ => rfl)).view
        ((lV).view.writes (Elt F) g0 [⟨Rect.whole cc0_scratch0.ty.shape, PAY d L I⟩]) x
      = View.read (Elt F) (lV).view ((lV).view.writes (Elt F) g0 [⟨Rect.whole cc0_scratch0.ty.shape, PAY d L I⟩])
          ((Rect.unit (s := S1024) off S128.size h).emb x) := by
    rw [View.read_apply, View.read_apply]; rfl
  rw [e, View.read_writes_whole, PAY_apply]
  exact hI _

/-! ### What a round's copy leaves in its block -/

/-- A buffer last rewritten whole reads as what was written. -/
theorem read_last_whole {κ : Kind} {sp : Space} {s : Shape} {e : EltTy} {Val : EltTy → Type} [∀ e, Nonempty (Val e)]
    (v : View sig κ sp s e) (f : v.ty.Contents Val) (p : s.Idx → Val e) (l : List (View.Piece Val s e)) :
    v.read Val (v.writes Val f (⟨Rect.whole s, p⟩ :: l)) = p := by
  funext x
  have h := View.read_writes_cons_emb (v := v) (f := f) (Rect.whole s) p l x
  rw [Rect.emb_whole_apply] at h
  exact h

/-- Entry `k` of a list's window of 128 at `128 * j`, out of the task's 1024 fetched at `k0_off1`. -/
def entry (j : Fin 8) (k : Fin 128) : S32768.Idx :=
  fun | 0 => ⟨2048 * (L 1).val + 1024 * (L 0).val + (128 * j.val + k.val), by
    have h1 : (L 1).val < 16 := (L 1).isLt
    have h0 : (L 0).val < 2 := (L 0).isLt
    show _ < 32768
    omega⟩

theorem entry_eq (I : Buf (Elt F) (iLoc d)) (j : Fin 8) (h : ∀ a, (![128 * j.val] : Fin 1 → Nat) a + S128.size a ≤ S1024.size a)
    (pay : S1024.Idx → Elt F .i32) (hpay : pay = PAY d L I) (k : Fin 128) (hn : S128.numel = 128) :
    View.read (Elt F) ((lV).slice (Rect.unit (s := S1024) ![128 * j.val] S128.size h) (fun _ => rfl)).view
        ((lV).view.writes (Elt F) (lV).view.junk [⟨Rect.whole cc0_scratch0.ty.shape, pay⟩])
        (S128.rowMajor.symm (k.cast hn.symm))
      = (I : S32768.Idx → BitVec 32) (entry L j k) := by
  generalize hx : S128.rowMajor.symm (k.cast hn.symm) = x
  have hz : (x 0).val = k.val := by
    have := Shape.rowMajor_val_one x
    rw [← hx, Equiv.apply_symm_apply] at this
    rw [← hx]
    exact this.symm
  have e : View.read (Elt F) ((lV).slice (Rect.unit (s := S1024) ![128 * j.val] S128.size h) (fun _ => rfl)).view
        ((lV).view.writes (Elt F) (lV).view.junk [⟨Rect.whole cc0_scratch0.ty.shape, pay⟩]) x
      = View.read (Elt F) (lV).view ((lV).view.writes (Elt F) (lV).view.junk [⟨Rect.whole cc0_scratch0.ty.shape, pay⟩])
          ((Rect.unit (s := S1024) ![128 * j.val] S128.size h).emb x) := by
    rw [View.read_apply, View.read_apply]; rfl
  rw [e, View.read_writes_whole, hpay, PAY_apply]
  refine congrArg (I : S32768.Idx → BitVec 32) (funext fun b => ?_)
  match b with
  | 0 =>
    apply Fin.ext
    show k0_off1 L 0 + 1 * (128 * j.val + 1 * (x 0).val) = 2048 * (L 1).val + 1024 * (L 0).val + (128 * j.val + k.val)
    rw [hz, k0_off1_eq]
    show 2048 * (L 1).val + 1024 * (L 0).val + 1 * (128 * j.val + 1 * k.val) = 2048 * (L 1).val + 1024 * (L 0).val + (128 * j.val + k.val)
    omega

/-- What the stream of round `j` delivers at `y` is the result there. -/
theorem gather_val (X : Buf (Elt F) (xLoc d)) (I : Buf (Elt F) (iLoc d)) (j : Fin 8)
    (hx : ∀ a, (![0, 0, 0] : Fin 3 → Nat) a + S16384x2x128.size a ≤ S16384x2x128.size a)
    (hg : S16384x2x128.Gathers 0 S128x2x128) (hn : S128.numel = 128) (r : S128.Idx → BitVec 32) (hlt : ∀ x, (r x).toNat < 16384)
    (hr : ∀ k : Fin 128, r (S128.rowMajor.symm (k.cast hn.symm)) = (I : S32768.Idx → BitVec 32) (entry L j k)) (y : S128x2x128.Idx) :
    SparseCore.gatherPayload (F := F) (e := .f32) hg
        (View.read (Elt F) ((xV).slice (Rect.unit (s := S16384x2x128) ![0, 0, 0] S16384x2x128.size hx) (fun _ => rfl)).view X)
        (SparseCore.rows (F := F) (si := S128) (o := 128) (z := 16384) r hn hlt) y
      = G d X I ((oBlkK L j).view.emb y) := by
  unfold SparseCore.gatherPayload
  rw [View.read_apply]
  refine (cast_eq _ _).trans ?_
  refine congrArg (X : S16384x2x128.Idx → F .f32) (funext fun b => ?_)
  have hw := hr (y 0)
  have hb := hlt (S128.rowMajor.symm ((y 0).cast hn.symm))
  have he : entry L j (y 0) = fst ((oBlkK L j).view.emb y) := by
    funext b
    match b with
    | 0 =>
      apply Fin.ext
      show _ = k0_off2 L (BitVec.ofNat 32 (32 * j.val)) 0 + 1 * (y 0).val
      rw [k0_off2_eq]
      show 2048 * (L 1).val + 1024 * (L 0).val + (128 * j.val + (y 0).val) = 2048 * (L 1).val + 1024 * (L 0).val + 128 * j.val + 1 * (y 0).val
      omega
  rw [he] at hw
  generalize hR : (SparseCore.rows (F := F) (si := S128) (o := 128) (z := 16384) r hn hlt) = R
  have hR0 : (R (y 0)).val = (r (S128.rowMajor.symm ((y 0).cast hn.symm))).toNat := by rw [← hR]; rfl
  match b with
  | 0 =>
    apply Fin.ext
    have h0 := congrArg Fin.val (Shape.Gathers.idx_axis hg R y)
    rw [hw] at hb hR0
    exact (Nat.zero_add _).trans ((Nat.one_mul _).trans (h0.trans (hR0.trans (gix_zero _ _ hb).symm)))
  | 1 =>
    apply Fin.ext
    have h1 := Shape.Gathers.idx_of_ne hg R y 1 (by decide)
    show 0 + 1 * (hg.idx R y 1).val = k0_off2 L (BitVec.ofNat 32 (32 * j.val)) 1 + 1 * (y 1).val
    rw [h1, k0_off2_eq]
    rfl
  | 2 =>
    apply Fin.ext
    have h1 := Shape.Gathers.idx_of_ne hg R y 2 (by decide)
    show 0 + 1 * (hg.idx R y 2).val = k0_off2 L (BitVec.ofNat 32 (32 * j.val)) 2 + 1 * (y 2).val
    rw [h1, k0_off2_eq]
    rfl

/-- A block rewritten whole with a payload that is the result there holds the result. -/
theorem blk_pts (X : Buf (Elt F) (xLoc d)) (I : Buf (Elt F) (iLoc d)) (j : Fin 8) (o0 : Buf (Elt F) (oLoc d))
    (p : S128x2x128.Idx → Elt F .f32) (hp : ∀ y, p y = G d X I ((oBlkK L j).view.emb y)) :
    oPt d L j ((oBlkK L j).view.writes (Elt F) o0 [⟨Rect.whole S128x2x128, p⟩]) = oPt d L j (G d X I) := by
  refine pointsTo_congr fun i hi => ?_
  obtain ⟨y, rfl⟩ := View.exists_emb_of_mem_set (oBlkK L j).view hi
  rw [← hp y]
  have h := congrFun (read_last_whole (oBlkK L j).view o0 p []) y
  rw [View.read_apply] at h
  exact h

/-- The same of a block copied out of the first buffer, after the stream of its round landed there. -/
theorem blk_a (X : Buf (Elt F) (xLoc d)) (I : Buf (Elt F) (iLoc d)) (j : Fin 8) (o0 : Buf (Elt F) (oLoc d))
    (b0 : Buf (Elt F) ((aV).view.loc (VT d L))) (l : List (View.Piece (Elt F) S128x2x128 .f32))
    (h : ∀ a, (![128 * j.val] : Fin 1 → Nat) a + S128.size a ≤ S1024.size a)
    (hx : ∀ a, (![0, 0, 0] : Fin 3 → Nat) a + S16384x2x128.size a ≤ S16384x2x128.size a)
    (hg : S16384x2x128.Gathers 0 S128x2x128) (hn : S128.numel = 128)
    (hlt : ∀ x, (View.read (Elt F) ((lV).slice (Rect.unit (s := S1024) ![128 * j.val] S128.size h) (fun _ => rfl)).view
        ((lV).view.writes (Elt F) (lV).view.junk [⟨Rect.whole cc0_scratch0.ty.shape, PAY d L I⟩]) x).toNat < 16384) :
    oPt d L j ((oBlkK L j).view.writes (Elt F) o0 [⟨Rect.whole S128x2x128,
        ReadAs.same.apply (View.read (Elt F) (aV).view ((aV).view.writes (Elt F) b0
          (⟨Rect.whole S128x2x128, SparseCore.gatherPayload (F := F) (e := .f32) hg
            (View.read (Elt F) ((xV).slice (Rect.unit (s := S16384x2x128) ![0, 0, 0] S16384x2x128.size hx) (fun _ => rfl)).view X)
            (SparseCore.rows (F := F) (si := S128) (o := 128) (z := 16384)
              (View.read (Elt F) ((lV).slice (Rect.unit (s := S1024) ![128 * j.val] S128.size h) (fun _ => rfl)).view
                ((lV).view.writes (Elt F) (lV).view.junk [⟨Rect.whole cc0_scratch0.ty.shape, PAY d L I⟩])) hn hlt)⟩ :: l)))⟩])
      = oPt d L j (G d X I) :=
  blk_pts d L X I j o0 _ fun y =>
    (congrFun (read_last_whole (aV).view b0 _ l) y).trans
      (gather_val d L X I j hx hg hn _ hlt (fun k => entry_eq d L I j h _ rfl k hn) y)

/-- The same of a block copied out of the second buffer, after the stream of its round landed there. -/
theorem blk_b (X : Buf (Elt F) (xLoc d)) (I : Buf (Elt F) (iLoc d)) (j : Fin 8) (o0 : Buf (Elt F) (oLoc d))
    (b0 : Buf (Elt F) ((bV).view.loc (VT d L))) (l : List (View.Piece (Elt F) S128x2x128 .f32))
    (h : ∀ a, (![128 * j.val] : Fin 1 → Nat) a + S128.size a ≤ S1024.size a)
    (hx : ∀ a, (![0, 0, 0] : Fin 3 → Nat) a + S16384x2x128.size a ≤ S16384x2x128.size a)
    (hg : S16384x2x128.Gathers 0 S128x2x128) (hn : S128.numel = 128)
    (hlt : ∀ x, (View.read (Elt F) ((lV).slice (Rect.unit (s := S1024) ![128 * j.val] S128.size h) (fun _ => rfl)).view
        ((lV).view.writes (Elt F) (lV).view.junk [⟨Rect.whole cc0_scratch0.ty.shape, PAY d L I⟩]) x).toNat < 16384) :
    oPt d L j ((oBlkK L j).view.writes (Elt F) o0 [⟨Rect.whole S128x2x128,
        ReadAs.same.apply (View.read (Elt F) (bV).view ((bV).view.writes (Elt F) b0
          (⟨Rect.whole S128x2x128, SparseCore.gatherPayload (F := F) (e := .f32) hg
            (View.read (Elt F) ((xV).slice (Rect.unit (s := S16384x2x128) ![0, 0, 0] S16384x2x128.size hx) (fun _ => rfl)).view X)
            (SparseCore.rows (F := F) (si := S128) (o := 128) (z := 16384)
              (View.read (Elt F) ((lV).slice (Rect.unit (s := S1024) ![128 * j.val] S128.size h) (fun _ => rfl)).view
                ((lV).view.writes (Elt F) (lV).view.junk [⟨Rect.whole cc0_scratch0.ty.shape, PAY d L I⟩])) hn hlt)⟩ :: l)))⟩])
      = oPt d L j (G d X I) :=
  blk_pts d L X I j o0 _ fun y =>
    (congrFun (read_last_whole (bV).view b0 _ l) y).trans
      (gather_val d L X I j hx hg hn _ hlt (fun k => entry_eq d L I j h _ rfl k hn) y)

end Tile

end Cert.Proof.Dispatch

end
-- ==== Proof.DispatchTile.lean ====
/-
  One task of the row gather: vector subcore `(c, i)` fetches its 1024 entries of the index list and, in eight
  rounds over two buffers, gathers the 128 pieces a round names out of the table and copies them to its block of
  the result. Run once, at a symbolic subcore, with the contents carried: each block ends holding the table's
  pieces at the list's words.
-/
module

public import proofs.«01_k».proof.Defs
public import proofs.«01_k».proof.Proof.DispatchValue
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.Dispatch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S16384x2x128 EltTy.f32)
local notation "iV" => (Memref.whole Cert.KernelIdeal.main_v9_scv : Memref Cert.KernelIdeal.sig Kind.scVector Space.hbm Cert.KernelIdeal.S32768 EltTy.i32)
local notation "oV" => (Memref.whole Cert.KernelIdeal.main_v10_scv : Memref Cert.KernelIdeal.sig Kind.scVector Space.hbm Cert.KernelIdeal.S32768x2x128 EltTy.f32)
local notation "lV" => (Memref.whole Cert.KernelIdeal.cc0_scratch0 : Memref Cert.KernelIdeal.sig Kind.scVector Space.vmem Cert.KernelIdeal.S1024 EltTy.i32)
local notation "aV" => (Memref.whole Cert.KernelIdeal.cc0_scratch1 : Memref Cert.KernelIdeal.sig Kind.scVector Space.vmem Cert.KernelIdeal.S128x2x128 EltTy.f32)
local notation "bV" => (Memref.whole Cert.KernelIdeal.cc0_scratch2 : Memref Cert.KernelIdeal.sig Kind.scVector Space.vmem Cert.KernelIdeal.S128x2x128 EltTy.f32)

section Tile

variable (d : Dev nD) (L : grid0.Coords)

set_option maxRecDepth 100000 in
/-- One subcore's task, run once at a symbolic subcore. -/
theorem tile_run (X : Buf (Elt F) (xLoc d)) (I : Buf (Elt F) (iLoc d)) (o0 : Buf (Elt F) (oLoc d))
    (hI : ∀ n : S32768.Idx, ((I : S32768.Idx → BitVec 32) n).toNat < 16384)
    (_plan : Transfers.BatchOfUse (VT d L) (SemLoc.dma (sig := sig) (csem 2)) 6 2)
    (q : PosShare TreeShare)
    (O : CellTallies nD τ sig (HIx 1)) (W : Waits sig (HIx 1))
    (g0 : Buf (Elt F) ((lV).view.loc (VT d L))) (a0 : Buf (Elt F) ((aV).view.loc (VT d L))) (b0 : Buf (Elt F) ((bV).view.loc (VT d L))) :
    (iprop(Transfers.MayWaits (VT d L) (default : HIx 1) O
        ∗ ((iRowK L).view.loc (VT d L) ↦[(iRowK L).view.set]{fullShare} I)
        ∗ ((xV).view.loc (VT d L) ↦{Transfers.shareTokN q 0} X)
        ∗ ((xV).view.loc (VT d L) ↦{Transfers.shareTokN q 1} X)
        ∗ oPt d L 0 o0 ∗ oPt d L 1 o0 ∗ oPt d L 2 o0 ∗ oPt d L 3 o0 ∗ oPt d L 4 o0 ∗ oPt d L 5 o0 ∗ oPt d L 6 o0 ∗ oPt d L 7 o0
        ∗ ((lV).view.loc (VT d L) ↦[(lV).view.set]{fullShare} g0)
        ∗ ((aV).view.loc (VT d L) ↦[(aV).view.set]{fullShare} a0)
        ∗ ((bV).view.loc (VT d L) ↦[(bV).view.set]{fullShare} b0)
        ∗ cells0 d L
        ∗ owes (VT d L) O W) : sProp 𝕄)
      ⊢ wp frame (wpE (defs₀ (F := F)) 𝒱₀ (VT d L) none) Set.univ
          (cc0_k L xV (Memref.isWhole_whole _) iV (Memref.isWhole_whole _) oV (Memref.isWhole_whole _)
            lV (Memref.isWhole_whole _) aV (Memref.isWhole_whole _) bV (Memref.isWhole_whole _)
            cc0_scratch3 cc0_scratch4 cc0_scratch5 cc0_scoped0)
          fun _ => iprop(((iRowK L).view.loc (VT d L) ↦[(iRowK L).view.set]{fullShare} I)
            ∗ ((xV).view.loc (VT d L) ↦{Transfers.shareTokN q 0} X)
            ∗ ((xV).view.loc (VT d L) ↦{Transfers.shareTokN q 1} X)
            ∗ oPt d L 0 (G d X I) ∗ oPt d L 1 (G d X I) ∗ oPt d L 2 (G d X I) ∗ oPt d L 3 (G d X I)
            ∗ oPt d L 4 (G d X I) ∗ oPt d L 5 (G d X I) ∗ oPt d L 6 (G d X I) ∗ oPt d L 7 (G d X I)
            ∗ (∃ g, (lV).view.loc (VT d L) ↦[(lV).view.set]{fullShare} g)
            ∗ (∃ g, (aV).view.loc (VT d L) ↦[(aV).view.set]{fullShare} g)
            ∗ (∃ g, (bV).view.loc (VT d L) ↦[(bV).view.set]{fullShare} g)
            ∗ cells0 d L
            ∗ ∃ W', owes (VT d L) O W') := by
  iintro ⟨#Hmw, HI, HX0, HX1, HO0, HO1, HO2, HO3, HO4, HO5, HO6, HO7, HG, HA, HB, ⟨Hc0, Hc1, Hc2, Hc3⟩, HO⟩
  have hin := fun g off h => inb_of_ok d L I hI g (PAY d L I) rfl off h
  sl_unfold [cc0_k]
  sl_exec
  sl_step
  ihave HO0' := (show oPt d L 0 ((oBlkK L 0).view.writes (Elt F) o0 [⟨Rect.whole S128x2x128, tile_run.sl.dma0_1 d L X I a0 hin⟩])
    ⊢ oPt d L 0 (G d X I) from Entails.of_eq (blk_a d L X I 0 o0 _ _ _ _ _ _ _)) $$ HO0
  ihave HO1' := (show oPt d L 1 ((oBlkK L 1).view.writes (Elt F) o0 [⟨Rect.whole S128x2x128, tile_run.sl.dma0_2 d L X I b0 hin⟩])
    ⊢ oPt d L 1 (G d X I) from Entails.of_eq (blk_b d L X I 1 o0 _ _ _ _ _ _ _)) $$ HO1
  ihave HO2' := (show oPt d L 2 ((oBlkK L 2).view.writes (Elt F) o0 [⟨Rect.whole S128x2x128, tile_run.sl.dma0_3 d L X I a0 hin⟩])
    ⊢ oPt d L 2 (G d X I) from Entails.of_eq (blk_a d L X I 2 o0 _ _ _ _ _ _ _)) $$ HO2
  ihave HO3' := (show oPt d L 3 ((oBlkK L 3).view.writes (Elt F) o0 [⟨Rect.whole S128x2x128, tile_run.sl.dma0_4 d L X I b0 hin⟩])
    ⊢ oPt d L 3 (G d X I) from Entails.of_eq (blk_b d L X I 3 o0 _ _ _ _ _ _ _)) $$ HO3
  ihave HO4' := (show oPt d L 4 ((oBlkK L 4).view.writes (Elt F) o0 [⟨Rect.whole S128x2x128, tile_run.sl.dma0_5 d L X I a0 hin⟩])
    ⊢ oPt d L 4 (G d X I) from Entails.of_eq (blk_a d L X I 4 o0 _ _ _ _ _ _ _)) $$ HO4
  ihave HO5' := (show oPt d L 5 ((oBlkK L 5).view.writes (Elt F) o0 [⟨Rect.whole S128x2x128, tile_run.sl.dma0_6 d L X I b0 hin⟩])
    ⊢ oPt d L 5 (G d X I) from Entails.of_eq (blk_b d L X I 5 o0 _ _ _ _ _ _ _)) $$ HO5
  ihave HO6' := (show oPt d L 6 ((oBlkK L 6).view.writes (Elt F) o0 [⟨Rect.whole S128x2x128, tile_run.sl.dma15 d L X I a0 hin⟩])
    ⊢ oPt d L 6 (G d X I) from Entails.of_eq (blk_a d L X I 6 o0 _ _ _ _ _ _ _)) $$ HO6
  ihave HO7' := (show oPt d L 7 ((oBlkK L 7).view.writes (Elt F) o0 [⟨Rect.whole S128x2x128, tile_run.sl.dma16 d L X I b0 hin⟩])
    ⊢ oPt d L 7 (G d X I) from Entails.of_eq (blk_b d L X I 7 o0 _ _ _ _ _ _ _)) $$ HO7
  sl_close

end Tile

end Cert.Proof.Dispatch

end
-- ==== Proof.DispatchLaunch.lean ====
/-
  The launch of the row gather: what each subcore is dealt (its 1024 entries of the index list, a read token of the table,
  its eight blocks of the result), what it brings back (the blocks at the rows the list names), and the whole program's
  run: the host operations that cut the table and the indices into quarters, the call, and the reshape of its result.
-/
module

public import proofs.«01_k».proof.Defs
public import proofs.«01_k».proof.Proof.DispatchTile
public import Idealize.ShloMosaic.Lib.StableHlo.RunRead
public import Idealize.ShloMosaic.Lib.Pipeline.Frame
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.Dispatch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq wp_hlo_within after)
open Idealize.ShloMosaic.Tactic

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S16384x2x128 EltTy.f32)
local notation "iV" => (Memref.whole Cert.KernelIdeal.main_v9_scv : Memref Cert.KernelIdeal.sig Kind.scVector Space.hbm Cert.KernelIdeal.S32768 EltTy.i32)
local notation "oV" => (Memref.whole Cert.KernelIdeal.main_v10_scv : Memref Cert.KernelIdeal.sig Kind.scVector Space.hbm Cert.KernelIdeal.S32768x2x128 EltTy.f32)
local notation "lV" => (Memref.whole Cert.KernelIdeal.cc0_scratch0 : Memref Cert.KernelIdeal.sig Kind.scVector Space.vmem Cert.KernelIdeal.S1024 EltTy.i32)
local notation "aV" => (Memref.whole Cert.KernelIdeal.cc0_scratch1 : Memref Cert.KernelIdeal.sig Kind.scVector Space.vmem Cert.KernelIdeal.S128x2x128 EltTy.f32)
local notation "bV" => (Memref.whole Cert.KernelIdeal.cc0_scratch2 : Memref Cert.KernelIdeal.sig Kind.scVector Space.vmem Cert.KernelIdeal.S128x2x128 EltTy.f32)

/-! ## What each subcore is dealt -/

def coordsV (c : Fin 2) (s : Fin 16) : grid0.Coords :=
  fun | 0 => c | 1 => s | ⟨_ + 2, h⟩ => absurd h (Nat.not_lt.2 (Nat.le_add_left _ _))

abbrev CI : Type := Fin 2 × Fin 16
abbrev LL (p : CI) : grid0.Coords := coordsV p.1 p.2

abbrev iRowSet (p : CI) : Finset S32768.Idx := (iRowK (LL p)).view.set
abbrev oBlkSet (p : CI × Fin 8) : Finset S32768x2x128.Idx := (oBlkK (LL p.1) p.2).view.set

theorem iRowSet_eq (p : CI) : iRowSet p = (Rect.unit (s := S32768) (k0_off1 (LL p)) S1024.size (k0_off1_inb (LL p))).set := by
  show ((View.whole (main_v9_scv : Ref sig .scVector)).slice _).set = _
  rw [View.set_slice]; exact Finset.map_refl
theorem oBlkSet_eq (p : CI × Fin 8) : oBlkSet p = (Rect.unit (s := S32768x2x128) (k0_off2 (LL p.1) (BitVec.ofNat 32 (32 * p.2.val))) S128x2x128.size (k0_off2_inb (LL p.1) p.2)).set := by
  show ((View.whole (main_v10_scv : Ref sig .scVector)).slice _).set = _
  rw [View.set_slice]; exact Finset.map_refl

theorem mem_iRowSet (p : CI) (x : S32768.Idx) :
    x ∈ iRowSet p ↔ 2048 * p.2.val + 1024 * p.1.val ≤ (x 0).val ∧ (x 0).val < 2048 * p.2.val + 1024 * p.1.val + 1024 := by
  rw [iRowSet_eq, Rect.mem_set_unit, k0_off1_eq]
  constructor
  · intro h; exact h 0
  · intro h a
    match a with
    | 0 => exact h
theorem mem_oBlkSet (p : CI × Fin 8) (x : S32768x2x128.Idx) :
    x ∈ oBlkSet p ↔ 2048 * p.1.2.val + 1024 * p.1.1.val + 128 * p.2.val ≤ (x 0).val
      ∧ (x 0).val < 2048 * p.1.2.val + 1024 * p.1.1.val + 128 * p.2.val + 128 := by
  rw [oBlkSet_eq, Rect.mem_set_unit, k0_off2_eq]
  constructor
  · intro h; exact h 0
  · intro h a
    match a with
    | 0 => exact h
    | 1 => exact ⟨Nat.zero_le _, (show (x 1).val < 0 + 2 by have := (x 1).isLt; exact (Nat.zero_add 2).symm ▸ this)⟩
    | 2 => exact ⟨Nat.zero_le _, (show (x 2).val < 0 + 128 by have := (x 2).isLt; exact (Nat.zero_add 128).symm ▸ this)⟩

theorem iRows_disjoint : ∀ p ∈ (Finset.univ : Finset CI), ∀ p' ∈ (Finset.univ : Finset CI), p ≠ p' → Disjoint (iRowSet p) (iRowSet p') := by
  intro p _ p' _ h
  rw [Finset.disjoint_left]
  intro x hx hx'
  rw [mem_iRowSet] at hx hx'
  have := p.1.isLt; have := p'.1.isLt
  exact h (Prod.ext (Fin.ext (by omega)) (Fin.ext (by omega)))
theorem oBlks_disjoint : ∀ p ∈ (Finset.univ : Finset (CI × Fin 8)), ∀ p' ∈ (Finset.univ : Finset (CI × Fin 8)), p ≠ p' → Disjoint (oBlkSet p) (oBlkSet p') := by
  intro p _ p' _ h
  rw [Finset.disjoint_left]
  intro x hx hx'
  rw [mem_oBlkSet] at hx hx'
  have := p.1.1.isLt; have := p'.1.1.isLt; have := p.2.isLt; have := p'.2.isLt
  exact h (Prod.ext (Prod.ext (Fin.ext (by omega)) (Fin.ext (by omega))) (Fin.ext (by omega)))
theorem iRows_cover : (Finset.univ : Finset CI).biUnion iRowSet = Finset.univ := by
  refine Finset.eq_univ_of_forall fun x => Finset.mem_biUnion.mpr ?_
  have h0 : (x 0).val < 32768 := (x 0).isLt
  refine ⟨(⟨(x 0).val / 1024 % 2, Nat.mod_lt _ (by decide)⟩, ⟨(x 0).val / 2048, by omega⟩), Finset.mem_univ _, ?_⟩
  rw [mem_iRowSet]
  show 2048 * ((x 0).val / 2048) + 1024 * ((x 0).val / 1024 % 2) ≤ (x 0).val ∧ (x 0).val < 2048 * ((x 0).val / 2048) + 1024 * ((x 0).val / 1024 % 2) + 1024
  omega
theorem oBlks_cover : (Finset.univ : Finset (CI × Fin 8)).biUnion oBlkSet = Finset.univ := by
  refine Finset.eq_univ_of_forall fun x => Finset.mem_biUnion.mpr ?_
  have h0 : (x 0).val < 32768 := (x 0).isLt
  refine ⟨((⟨(x 0).val / 1024 % 2, Nat.mod_lt _ (by decide)⟩, ⟨(x 0).val / 2048, by omega⟩), ⟨(x 0).val / 128 % 8, Nat.mod_lt _ (by decide)⟩), Finset.mem_univ _, ?_⟩
  rw [mem_oBlkSet]
  show 2048 * ((x 0).val / 2048) + 1024 * ((x 0).val / 1024 % 2) + 128 * ((x 0).val / 128 % 8) ≤ (x 0).val
    ∧ (x 0).val < 2048 * ((x 0).val / 2048) + 1024 * ((x 0).val / 1024 % 2) + 128 * ((x 0).val / 128 % 8) + 128
  omega

/-- The token of the table a subcore reads by. -/
def xk (p : CI) : ℕ := 16 * p.1.val + p.2.val
abbrev xq (p : CI) : PosShare TreeShare := Transfers.shareTokN fullShare (xk p)
theorem xk_inj : Set.InjOn xk ((Finset.univ : Finset CI) : Set CI) := by
  intro p _ p' _ h
  unfold xk at h
  have := p.2.isLt; have := p'.2.isLt
  exact Prod.ext (Fin.ext (by omega)) (Fin.ext (by omega))
theorem xk_range : Finset.range 32 = (Finset.univ : Finset CI).image xk := by decide

theorem iPts_rows (d : Dev nD) (f : Buf (Elt F) (iLoc d)) :
    (iLoc d ↦{fullShare} f : sProp 𝕄) = bigSep Finset.univ fun p : CI => iLoc d ↦[iRowSet p]{fullShare} f := by
  rw [← pointsTo_biUnion Finset.univ (ℓ := iLoc d) iRowSet iRows_disjoint, iRows_cover]; try rfl
theorem oPts_blks (d : Dev nD) (f : Buf (Elt F) (oLoc d)) :
    (oLoc d ↦{fullShare} f : sProp 𝕄) = bigSep Finset.univ fun p : CI × Fin 8 => oLoc d ↦[oBlkSet p]{fullShare} f := by
  rw [← pointsTo_biUnion Finset.univ (ℓ := oLoc d) oBlkSet oBlks_disjoint, oBlks_cover]; try rfl
theorem xPts_toks (d : Dev nD) (f : Buf (Elt F) (xLoc d)) :
    (xLoc d ↦{fullShare} f : sProp 𝕄) = iprop((xLoc d ↦{Transfers.shareDrop fullShare 32} f) ∗ bigSep Finset.univ fun p : CI => xLoc d ↦{xq p} f) := by
  have h := Transfers.pointsTo_toks_range (Ix := HIx 1) (Val := Elt F) (Name := ℕ) (U := UU) (Lvl := ℕ) (ℓ := xLoc d) (S := Finset.univ) (f := f) fullShare 32
  rw [xk_range, SparseCore.bigSep_image_of_injOn xk_inj] at h
  exact BI.Entails.antisymm h.1 h.2

/-! ## What the handshakes carry -/

/-- The table and the list the call is handed, and what its result's array held. -/
structure Arrs (F : FTy → Type) where
  X : (d : Dev nD) → Buf (Elt F) (xLoc d)
  I : (d : Dev nD) → Buf (Elt F) (iLoc d)
  o0 : (d : Dev nD) → Buf (Elt F) (oLoc d)

variable (A : Arrs F)

/-- A subcore's pieces, the result's blocks at `f`. -/
abbrev share (d : Dev nD) (f : Buf (Elt F) (oLoc d)) (p : CI) : sProp 𝕄 :=
  iprop((iLoc d ↦[iRowSet p]{fullShare} A.I d) ∗ (xLoc d ↦{xq p} A.X d) ∗ bigSep Finset.univ fun j : Fin 8 => oLoc d ↦[oBlkSet (p, j)]{fullShare} f)
/-- A SparseCore's: its subcores'. -/
abbrev shares (d : Dev nD) (f : Buf (Elt F) (oLoc d)) (c : Fin 2) : sProp 𝕄 := bigSep Finset.univ fun i : Fin 16 => share A d f (c, i)

def P : (K (F := F)).Pay (nD := nD) (Val := Elt F) (Name := ℕ) (U := UU) where
  st := fun q d c => match q with | 0 => shares A d (A.o0 d) (Fin.cast nCore_zero c)
  dn := fun q d c => match q with | 0 => shares A d (G d (A.X d) (A.I d)) (Fin.cast nCore_zero c)
  go := fun q d c i => match q with | 0 => share A d (A.o0 d) (Fin.cast nCore_zero c, Fin.cast nSub_zero i)
  td := fun q d c i => match q with | 0 => share A d (G d (A.X d) (A.I d)) (Fin.cast nCore_zero c, Fin.cast nSub_zero i)
  x := fun _ _ => iprop(emp)

instance P_storable : (P (F := F) A).IsStorable where
  st q d c := match q with
    | 0 => (inferInstance : BI.Storable (upEmb : UEmb _ 𝕄) (shares A d (A.o0 d) (Fin.cast nCore_zero c)))
  dn q d c := match q with
    | 0 => (inferInstance : BI.Storable (upEmb : UEmb _ 𝕄) (shares A d (G d (A.X d) (A.I d)) (Fin.cast nCore_zero c)))
  go q d c i := match q with
    | 0 => (inferInstance : BI.Storable (upEmb : UEmb _ 𝕄) (share A d (A.o0 d) (Fin.cast nCore_zero c, Fin.cast nSub_zero i)))
  td q d c i := match q with
    | 0 => (inferInstance : BI.Storable (upEmb : UEmb _ 𝕄) (share A d (G d (A.X d) (A.I d)) (Fin.cast nCore_zero c, Fin.cast nSub_zero i)))

theorem sep_front (a r x o : sProp 𝕄) : iprop(a ∗ (r ∗ x) ∗ o) = iprop(r ∗ a ∗ x ∗ o) := by
  have h1 : iprop(a ∗ (r ∗ x) ∗ o) ⊢ iprop(r ∗ a ∗ x ∗ o) := by
    iintro ⟨HI, ⟨HR, HX⟩, HO⟩
    isplitl [HR]; · iexact HR
    isplitl [HI]; · iexact HI
    isplitl [HX]; · iexact HX
    iexact HO
  have h2 : iprop(r ∗ a ∗ x ∗ o) ⊢ iprop(a ∗ (r ∗ x) ∗ o) := by
    iintro ⟨HR, HI, HX, HO⟩
    isplitl [HI]; · iexact HI
    isplitl [HR HX]
    · isplitl [HR]; · iexact HR
      iexact HX
    iexact HO
  exact BI.Entails.antisymm h1 h2

/-- The whole arrays are what the subcores are dealt and what of the table stays. -/
theorem deal_eq (d : Dev nD) (f : Buf (Elt F) (oLoc d)) :
    (iprop((iLoc d ↦{fullShare} A.I d) ∗ (xLoc d ↦{fullShare} A.X d) ∗ (oLoc d ↦{fullShare} f)) : sProp 𝕄)
      = iprop((xLoc d ↦{Transfers.shareDrop fullShare 32} A.X d) ∗ bigSep Finset.univ fun c : Fin 2 => shares A d f c) := by
  have e : (bigSep Finset.univ fun c : Fin 2 => shares A d f c) = (bigSep Finset.univ fun p : CI => share A d f p) := (BI.bigSep_univ_prod _).symm
  rw [e, BI.bigSep_sep', BI.bigSep_sep', iPts_rows, oPts_blks, xPts_toks, BI.bigSep_univ_prod (fun p : CI × Fin 8 => (oLoc d ↦[oBlkSet p]{fullShare} f : sProp 𝕄))]
  exact sep_front _ _ _ _

/-! ## One subcore's task -/

section Tile

variable (d : Dev nD) (L : grid0.Coords)

theorem pts_lV (f : Buf (Elt F) ((VT d L).loc cc0_scratch0)) :
    ((lV).view.loc (VT d L) ↦[(lV).view.set]{fullShare} f : sProp 𝕄) = (VT d L).loc cc0_scratch0 ↦{fullShare} f := by
  rw [View.set_whole]
theorem pts_aV (f : Buf (Elt F) ((VT d L).loc cc0_scratch1)) :
    ((aV).view.loc (VT d L) ↦[(aV).view.set]{fullShare} f : sProp 𝕄) = (VT d L).loc cc0_scratch1 ↦{fullShare} f := by
  rw [View.set_whole]
theorem pts_bV (f : Buf (Elt F) ((VT d L).loc cc0_scratch2)) :
    ((bV).view.loc (VT d L) ↦[(bV).view.set]{fullShare} f : sProp 𝕄) = (VT d L).loc cc0_scratch2 ↦{fullShare} f := by
  rw [View.set_whole]

abbrev dcell (d : Dev nD) (c : Fin τ.nSC) (i : Fin τ.nSub) (k : Fin 4) : GSem nD τ sig := (V d c i, .dma (csem k.val k.isLt))

theorem dcell_mem (c : Fin τ.nSC) (i : Fin τ.nSub) (k : Fin 4) : dcell d c i k ∈ ownCells (V d c i) :=
  mem_ownCells.mpr ⟨rfl, (show ∀ s : DmaSem sig, (SemLoc.dma s : SemLoc sig).isScoped .scVector = true by decide) _⟩

/-- The subcore's own cells at zero: the four the task names and the rest. -/
theorem ownSems0_V :
    (ownSems0 (VT d L) : sProp 𝕄)
      = iprop(cells0 d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 4)) = {0, 1, 2, 3} by decide,
    SparseCore.bigSep_insert' (by decide), SparseCore.bigSep_insert' (by decide), SparseCore.bigSep_insert' (by decide), bigSep_singleton]
  rfl

/-- The three buffers the task works in are among the subcore's own. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  have inj := Proc.devRef_injective (τ := τ) (sig := sig) (Proc.scVector (cV L) (jV L))
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (i := (Proc.scVector (cV L) (jV L)).devRef cc0_scratch1)
      (Finset.mem_erase.mpr ⟨fun e => absurd (inj e) (show (cc0_scratch1 : Ref sig .scVector) ≠ cc0_scratch0 by decide),
        SparseCore.Cfg.mem_ownRefs_of_owner (p := Proc.scVector (cV L) (jV L)) (b := (Proc.scVector (cV L) (jV L)).devRef cc0_scratch1) rfl⟩),
    SparseCore.bigSep_erase' (i := (Proc.scVector (cV L) (jV L)).devRef cc0_scratch2)
      (Finset.mem_erase.mpr ⟨fun e => absurd (inj e) (show (cc0_scratch2 : Ref sig .scVector) ≠ cc0_scratch1 by decide),
        Finset.mem_erase.mpr ⟨fun e => absurd (inj e) (show (cc0_scratch2 : Ref sig .scVector) ≠ cc0_scratch0 by decide),
          SparseCore.Cfg.mem_ownRefs_of_owner (p := Proc.scVector (cV L) (jV L)) (b := (Proc.scVector (cV L) (jV L)).devRef cc0_scratch2) rfl⟩⟩)]

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A token of the table as what stays of it and two tokens of its own, for the two gathers in flight at once. -/
theorem xToks (q : PosShare TreeShare) (f : Buf (Elt F) (xLoc d)) :
    (xLoc d ↦{q} f : sProp 𝕄) ⊣⊢ iprop((xLoc d ↦{Transfers.shareDrop q 2} f) ∗ (xLoc d ↦{Transfers.shareTokN q 0} f) ∗ (xLoc d ↦{Transfers.shareTokN q 1} f)) := by
  have h : (xLoc d ↦{q} f : sProp 𝕄) ⊣⊢ iprop((xLoc d ↦{Transfers.shareDrop q 2} f) ∗ bigSep (Finset.range 2) fun i => xLoc d ↦{Transfers.shareTokN q i} f) :=
    Transfers.pointsTo_toks_range (ℓ := xLoc d) (S := Finset.univ) (f := f) q 2
  rw [show Finset.range 2 = {0, 1} by decide, SparseCore.bigSep_insert' (by decide), bigSep_singleton] at h
  exact h

/-- The words of the list name pieces of the table. -/
def ListOK : Prop := ∀ (d : Dev nD) (n : S32768.Idx), ((A.I d : S32768.Idx → BitVec 32) n).toNat < 16384

theorem tile_body (p : CI) (hF : (K (F := F)).Facts) (hI : ListOK A) (O : CellTallies nD τ sig (HIx 1)) (W : Waits sig (HIx 1)) (hO : ∀ g, O g none = 0) :
    iprop(levAts (K (F := F)).L (K (F := F)).lev ∗ emp ∗ share A d (A.o0 d) p
        ∗ scopedBufs (VT d (LL p)) ∗ scopedSems0 (VT d (LL p)) ∗ owes (VT d (LL p)) O W)
      ⊢ wp frame (wpE (defs₀ (F := F)) 𝒱₀ (VT d (LL p)) none) Set.univ
          (cc0_k (LL p) xV (Memref.isWhole_whole _) iV (Memref.isWhole_whole _) oV (Memref.isWhole_whole _)
            lV (Memref.isWhole_whole _) aV (Memref.isWhole_whole _) bV (Memref.isWhole_whole _)
            cc0_scratch3 cc0_scratch4 cc0_scratch5 cc0_scoped0)
          fun _ => iprop(share A d (G d (A.X d) (A.I d)) p
            ∗ scopedBufs (VT d (LL p)) ∗ scopedSems0 (VT d (LL p))
            ∗ ∃ W', ⌜∀ p ∈ W', p ∈ W ∨ p.2 = none ∨ p.2 = some (0 : Fin 1)⌝ ∗ owes (VT d (LL p)) O W') := by
  rw [(K (F := F)).scopedBufs_V hF d (cV (LL p)) (jV (LL p)), SparseCore.Cfg.scopedSems0_V (Val := Elt F) d (cV (LL p)) (jV (LL p)), ownSems0_V, ownBufs_V]
  unfold share
  rw [bigSep_fin8, bigSep_fin8]
  iintro ⟨#Hlv, -, ⟨Hi, Hx, ⟨Ho0, Ho1, Ho2, Ho3, Ho4, Ho5, Ho6, Ho7⟩⟩, ⟨⟨%g0, HG⟩, ⟨%a0, HA⟩, ⟨%b0, HB⟩, Hbufs⟩, ⟨HC, Hsems⟩, HO⟩
  ihave Hmw := (show levAts (K (F := F)).L (K (F := F)).lev ⊢ Transfers.MayWaits (VT d (LL p)) (default : HIx 1) O from
    (K (F := F)).mayWaits_none (thr := VT d (LL p)) hO) $$ Hlv
  ihave HG' := (Entails.of_eq (pts_lV (F := F) d (LL p) _).symm) $$ HG
  ihave HA' := (Entails.of_eq (pts_aV (F := F) d (LL p) _).symm) $$ HA
  ihave HB' := (Entails.of_eq (pts_bV (F := F) d (LL p) _).symm) $$ HB
  ihave Hx' := (xToks d (xq p) (A.X d)).1 $$ Hx
  icases Hx' with ⟨Hxr, Hx0, Hx1⟩
  iapply (wp_wand_r Idealize.ShloMosaic.frame (wpE (defs₀ (F := F)) 𝒱₀ (VT d (LL p)) none) Set.univ)
  isplitl [Hi Hx0 Hx1 Ho0 Ho1 Ho2 Ho3 Ho4 Ho5 Ho6 Ho7 HG' HA' HB' HC HO]
  · iapply (tile_run d (LL p) (A.X d) (A.I d) (A.o0 d) (hI d) (by trivial) (xq p) O W g0 a0 b0)
    isplitr; · iexact Hmw
    isplitl [Hi]; · iexact Hi
    isplitl [Hx0]; · iexact Hx0
    isplitl [Hx1]; · iexact Hx1
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [HG']; · iexact HG'
    isplitl [HA']; · iexact HA'
    isplitl [HB']; · iexact HB'
    isplitl [HC]; · iexact HC
    iexact HO
  iintro %_ ⟨Hi, Hx0, Hx1, Ho0, Ho1, Ho2, Ho3, Ho4, Ho5, Ho6, Ho7, ⟨%g, HG'⟩, ⟨%a, HA'⟩, ⟨%b, HB'⟩, HC, ⟨%W', HO⟩⟩
  ihave Hx := (xToks d (xq p) (A.X d)).2 $$ [Hxr Hx0 Hx1]
  · isplitl [Hxr]; · iexact Hxr
    isplitl [Hx0]; · iexact Hx0
    iexact Hx1
  isplitl [Hi Hx Ho0 Ho1 Ho2 Ho3 Ho4 Ho5 Ho6 Ho7]
  · isplitl [Hi]; · iexact Hi
    isplitl [Hx]; · iexact Hx
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [HG' HA' HB' Hbufs]
  · isplitl [HG']; · iexists _; iapply (Entails.of_eq (pts_lV (F := F) d (LL p) _)); iexact HG'
    isplitl [HA']; · iexists _; iapply (Entails.of_eq (pts_aV (F := F) d (LL p) _)); iexact HA'
    isplitl [HB']; · iexists _; iapply (Entails.of_eq (pts_bV (F := F) d (LL p) _)); iexact HB'
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

end Tile

theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _)
          lV (Memref.isWhole_whole _) aV (Memref.isWhole_whole _) bV (Memref.isWhole_whole _)
          cc0_scratch3 cc0_scratch4 cc0_scratch5 cc0_scoped0) ⟨⟩ c s := rfl

theorem tileObl (hF : (K (F := F)).Facts) (hI : ListOK A) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A d (⟨_, hci.1⟩, ⟨_, hci.2⟩) hF hI O W hO

theorem vecSplit : (K (F := F)).VecSplit' (P A) 0 := by
  intro d c
  show shares A d (A.o0 d) (Fin.cast nCore_zero c) ⊢ |={Set.univ}=> iprop(
      (bigSep Finset.univ fun i : Fin ((K (F := F)).nSub 0) => share A d (A.o0 d) (Fin.cast nCore_zero c, Fin.cast nSub_zero i))
      ∗ ((bigSep Finset.univ fun i : Fin ((K (F := F)).nSub 0) => share A d (G d (A.X d) (A.I d)) (Fin.cast nCore_zero c, Fin.cast nSub_zero i))
          -∗ shares A d (G d (A.X d) (A.I d)) (Fin.cast nCore_zero c)))
  iintro H; imodintro
  isplitl [H]; · iexact H
  iintro H; iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), bigSep_emp']
  iempintro

end Cert.Proof.Dispatch

end
-- ==== Proof.DispatchMain.lean ====
/-
  The row gather's program on the TensorCore: the host operations that cut the table and the indices into quarters, the
  call, the reshape of its result; and the whole program's run, which every claim of the kernel reads.
-/
module

public import proofs.«01_k».proof.Defs
public import proofs.«01_k».proof.Proof.DispatchLaunch
public import Idealize.ShloMosaic.Lib.StableHlo.RunRead
public import Idealize.ShloMosaic.Lib.Pipeline.Frame
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.Dispatch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq wp_hlo_within after)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations -/

/-- The operations before the call. -/
abbrev ops0 : List (HloOp τ sig (Elt F)) :=
  [StableHlo.reshape main_arg0 main_v0 (rfl : (.f32 : EltTy) = .f32) shapeCasts_S4096x1024_S16384x2x128,
   StableHlo.unary main_arg1 main_v1 (broadcastInDim S8192x1 ![0] bcast_S8192_S8192x1_0 : (⟨S8192, .i32⟩ : BufTy).Contents (Elt F) → (⟨S8192x1, .i32⟩ : BufTy).Contents (Elt F)),
   StableHlo.nullary main_c (constantI S_ 32 4#32),
   StableHlo.unary main_c main_v2 (broadcastInDim S8192x1 ![] bcast_S_S8192x1 : (⟨S_, .i32⟩ : BufTy).Contents (Elt F) → (⟨S8192x1, .i32⟩ : BufTy).Contents (Elt F)),
   StableHlo.binary main_v1 main_v2 main_v3 (muli : (⟨S8192x1, .i32⟩ : BufTy).Contents (Elt F) → (⟨S8192x1, .i32⟩ : BufTy).Contents (Elt F) → (⟨S8192x1, .i32⟩ : BufTy).Contents (Elt F)),
   StableHlo.nullary main_v4 (iotaInDim S4 32 0),
   StableHlo.unary main_v4 main_v5 (broadcastInDim S1x4 ![1] bcast_S4_S1x4_1 : (⟨S4, .i32⟩ : BufTy).Contents (Elt F) → (⟨S1x4, .i32⟩ : BufTy).Contents (Elt F)),
   StableHlo.unary main_v3 main_v6 (broadcastInDim S8192x4 ![0, 1] bcast_S8192x1_S8192x4_0_1 : (⟨S8192x1, .i32⟩ : BufTy).Contents (Elt F) → (⟨S8192x4, .i32⟩ : BufTy).Contents (Elt F)),
   StableHlo.unary main_v5 main_v7 (broadcastInDim S8192x4 ![0, 1] bcast_S1x4_S8192x4_0_1 : (⟨S1x4, .i32⟩ : BufTy).Contents (Elt F) → (⟨S8192x4, .i32⟩ : BufTy).Contents (Elt F)),
   StableHlo.binary main_v6 main_v7 main_v8 (addi : (⟨S8192x4, .i32⟩ : BufTy).Contents (Elt F) → (⟨S8192x4, .i32⟩ : BufTy).Contents (Elt F) → (⟨S8192x4, .i32⟩ : BufTy).Contents (Elt F)),
   StableHlo.reshape main_v8 main_v9 (rfl : (.i32 : EltTy) = .i32) shapeCasts_S8192x4_S32768]

/-- The operation after it. -/
abbrev opLast : HloOp τ sig (Elt F) :=
  StableHlo.reshape main_v10 main_v11 (rfl : (.f32 : EltTy) = .f32) shapeCasts_S32768x2x128_S8192x1024

theorem ops0_sub : (ops0 (F := F)).Forall fun op => op.bufs ⊆ StableHlo.tcRefs τ sig :=
  ⟨StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub ..⟩
theorem ops0_fresh : (ops0 (F := F)).Forall fun op => op.fresh = ∅ := ⟨rfl, rfl, rfl, rfl, rfl, rfl, rfl, rfl, rfl, rfl, rfl⟩

abbrev UC : Finset (DevRef τ sig) := Pipeline.ucRefs τ sig

abbrev r' (b : Ref sig .tc) : DevRef τ sig := Proc.devRef .tc b

def V0 (d : Dev nD) : Valuation τ sig (Elt F) := fun b => m (d, b)
def V1 (d : Dev nD) : Valuation τ sig (Elt F) := after ops0 (V0 m d)

/-- The arrays the call is handed. -/
def AM : Arrs F where
  X d := V1 m d (r' main_v0)
  I d := V1 m d (r' main_v9)
  o0 d := V1 m d (r' main_v10)

/-- The call's result, and the contents after it. -/
abbrev GM (d : Dev nD) : Buf (Elt F) (oLoc d) := G d ((AM m).X d) ((AM m).I d)
def V2 (d : Dev nD) : Valuation τ sig (Elt F) := Function.update (V1 m d) (r' main_v10) (GM m d)
def V3 (d : Dev nD) : Valuation τ sig (Elt F) := (opLast (F := F)).result (V2 m d)

abbrev S3 : Finset (DevRef τ sig) := {r' main_v9, r' main_v0, r' main_v10}
abbrev SF : Finset (DevRef τ sig) := {r' main_arg0, r' main_arg1, r' main_v11}

theorem mem_UC (b : Ref sig .tc) (h : (r' b).isScoped = false) : r' b ∈ UC := by
  unfold UC Pipeline.ucRefs
  exact Finset.mem_filter.mpr ⟨StableHlo.devRef_mem_tcRefs b, by rw [h]; decide⟩
theorem S3_sub : S3 ⊆ UC := by
  intro b hb
  simp only [S3, Finset.mem_insert, Finset.mem_singleton] at hb
  rcases hb with rfl | rfl | rfl <;> exact mem_UC _ rfl
theorem SF_sub : SF ⊆ UC := by
  intro b hb
  simp only [SF, Finset.mem_insert, Finset.mem_singleton] at hb
  rcases hb with rfl | rfl | rfl <;> exact mem_UC _ rfl

theorem held_S3 (d : Dev nD) (W : Valuation τ sig (Elt F)) :
    (held (SparseCore.T d) S3 W : sProp 𝕄) = iprop((iLoc d ↦{fullShare} W (r' main_v9)) ∗ (xLoc d ↦{fullShare} W (r' main_v0)) ∗ (oLoc d ↦{fullShare} W (r' main_v10))) := by
  unfold held S3
  rw [SparseCore.bigSep_insert' (by decide), SparseCore.bigSep_insert' (by decide), bigSep_singleton]
theorem held_SF (d : Dev nD) (W : Valuation τ sig (Elt F)) :
    (held (SparseCore.T d) SF W : sProp 𝕄) = iprop(((SparseCore.T d).loc main_arg0 ↦{fullShare} W (r' main_arg0)) ∗ ((SparseCore.T d).loc main_arg1 ↦{fullShare} W (r' main_arg1))
      ∗ ((SparseCore.T d).loc main_v11 ↦{fullShare} W (r' main_v11))) := by
  unfold held SF
  rw [SparseCore.bigSep_insert' (by decide), SparseCore.bigSep_insert' (by decide), bigSep_singleton]

theorem V3_arg0 (d : Dev nD) : V3 m d (r' main_arg0) = m ((SparseCore.T d).loc main_arg0) := by
  unfold V3 V2 V1
  rw [StableHlo.result_of_writes_ne _ _ main_v11 main_arg0 rfl (by decide), Function.update_of_ne (by decide)]
  after_reads_simp
  rfl
theorem V3_arg1 (d : Dev nD) : V3 m d (r' main_arg1) = m ((SparseCore.T d).loc main_arg1) := by
  unfold V3 V2 V1
  rw [StableHlo.result_of_writes_ne _ _ main_v11 main_arg1 rfl (by decide), Function.update_of_ne (by decide)]
  after_reads_simp
  rfl

theorem unscoped_held (d : Dev nD) : (unscopedBufs d (fun b => m ((SparseCore.T d).loc b)) : sProp 𝕄) = held (SparseCore.T d) UC (V0 m d) :=
  Pipeline.unscopedBufs_held d (V0 m d)

/-! ## @main -/

theorem st0_eq (d : Dev nD) : (bigSep Finset.univ fun c : Fin ((K (F := F)).nCore 0) => (P (AM m)).st 0 d c)
    = (bigSep Finset.univ fun c : Fin 2 => shares (AM m) d ((AM m).o0 d) c : sProp 𝕄) := rfl
theorem dn0_eq (d : Dev nD) : (bigSep Finset.univ fun c : Fin ((K (F := F)).nCore 0) => (P (AM m)).dn 0 d c)
    = (bigSep Finset.univ fun c : Fin 2 => shares (AM m) d (GM m d) c : sProp 𝕄) := rfl

theorem held_out (d : Dev nD) : (held (SparseCore.T d) UC (V1 m d) : sProp 𝕄)
    = iprop(((xLoc d ↦{Transfers.shareDrop fullShare 32} (AM m).X d) ∗ bigSep Finset.univ fun c : Fin 2 => shares (AM m) d ((AM m).o0 d) c)
        ∗ held (SparseCore.T d) (UC \ S3) (V1 m d)) := by
  rw [held_sub_split (SparseCore.T d) S3_sub, held_S3, ← deal_eq (AM m) d ((AM m).o0 d)]; rfl
theorem held_in (d : Dev nD) : (held (SparseCore.T d) UC (V2 m d) : sProp 𝕄)
    = iprop(((xLoc d ↦{Transfers.shareDrop fullShare 32} (AM m).X d) ∗ bigSep Finset.univ fun c : Fin 2 => shares (AM m) d (GM m d) c)
        ∗ held (SparseCore.T d) (UC \ S3) (V1 m d)) := by
  rw [held_sub_split (SparseCore.T d) S3_sub, held_S3, ← deal_eq (AM m) d (GM m d),
    held_congr (SparseCore.T d) (V := V2 m d) (V' := V1 m d) (S := UC \ S3) (fun b hb => ?_)]
  · unfold V2
    rw [Function.update_of_ne (show r' main_v9 ≠ r' main_v10 by decide), Function.update_of_ne (show r' main_v0 ≠ r' main_v10 by decide), Function.update_self]
    rfl
  · unfold V2
    refine Function.update_of_ne (fun e => ?_) _ _
    subst e
    exact (Finset.mem_sdiff.mp hb).2 (by simp [S3])
theorem held_fin (d : Dev nD) : (held (SparseCore.T d) UC (V3 m d) : sProp 𝕄)
    = iprop((((SparseCore.T d).loc main_arg0 ↦{fullShare} m ((SparseCore.T d).loc main_arg0)) ∗ ((SparseCore.T d).loc main_arg1 ↦{fullShare} m ((SparseCore.T d).loc main_arg1))
      ∗ ((SparseCore.T d).loc main_v11 ↦{fullShare} V3 m d (r' main_v11))) ∗ held (SparseCore.T d) (UC \ SF) (V3 m d)) := by
  rw [held_sub_split (SparseCore.T d) SF_sub, held_SF, V3_arg0, V3_arg1]

abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
      ∗ ((SparseCore.T d).loc main_v11 ↦{fullShare} V3 m d (r' main_v11)))

/-- What @main does from the call on. -/
abbrev tail (d : Dev nD) : Prog (TpuEff nD τ sig (Elt F) (SparseCore.Sig (ΛP (F := F)) 1) .tc) PUnit :=
  (sc (F := F)).run d 0 >>= fun _ => (hlo rfl (opLast (F := F)) fun _ => .ret (⟨⟩ : PUnit)) >>= fun _ => pure ⟨⟩

theorem main_eq (d : Dev nD) : main (F := F) d = (StableHlo.seq ops0 >>= fun _ => tail d) :=
  (show main (F := F) d = StableHlo.seqK ops0 (tail d) from rfl).trans (StableHlo.seq_bind_seqK ops0 (tail d)).symm

theorem hmain (κ : GSem nD τ sig → ℕ) (d : Dev nD) :
    iprop((K (F := F)).ctx EH (P (AM m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d UC _ ops0
    (fun op h => Pipeline.sub_ucRefs op ((List.forall_iff_forall_mem.mp ops0_sub) op h))
    (fun op h => (List.forall_iff_forall_mem.mp ops0_fresh) op h) (V0 m d)) $$ [Hb Hheld]
  · isplitl [Hb] <;> iassumption
  iintro ⟨Hb, Hheld⟩
  ihave Hh := (show held (d.tc : Thread nD τ) UC (after ops0 (V0 m d)) ⊢ _ from Entails.of_eq (held_out m d)) $$ Hheld
  icases Hh with ⟨⟨Hxr, Hsh⟩, Hrest⟩
  simp only [wp_bind, wp_pure]
  iapply ((K (F := F)).wp_run (D (F := F)) 𝒱 (EH := EH) (P := P (AM m)) κ d 0) $$ [Hst Hsh Hb Hxr Hrest Hts]
  isplitr; · iexact Hctx
  isplitl [Hst]; · iexact Hst
  isplitl [Hsh]
  · rw [st0_eq]; iexact Hsh
  iintro ⟨Hst, Hdn⟩
  ihave Hdn' := (Entails.of_eq (dn0_eq m d)) $$ Hdn
  iapply (wp_hlo_within 𝒱 (SparseCore.T d) none Set.univ (op := opLast) (S := UC) (Pipeline.sub_ucRefs _ (StableHlo.reshape_bufs_sub ..)) (V := V2 m d)) $$ [Hb Hxr Hdn' Hrest]
  · isplitl [Hb]; · iexact Hb
    rw [held_in]
    isplitl [Hxr Hdn']
    · isplitl [Hxr]; · iexact Hxr
      iexact Hdn'
    iexact Hrest
  iintro ⟨Hb, Hheld⟩
  ihave Hh := (show held (SparseCore.T d) UC ((opLast (F := F)).result (V2 m d)) ⊢ _ from Entails.of_eq (held_fin (F := F) m d)) $$ Hheld
  icases Hh with ⟨HF, -⟩
  rw [wp_ret]; imodintro; imodintro
  isplitl [Hst]; · iexact Hst
  isplitr [Hb Hts]
  · iexact HF
  isplitl [Hb] <;> iassumption

def fq (d : Dev nD) (s' : Phys nD τ sig (Elt F)) : Prop :=
  s'.mem.mem ((SparseCore.T d).loc main_v11) = V3 m d (r' main_v11)
  ∧ s'.mem.mem ((SparseCore.T d).loc main_arg0) = m ((SparseCore.T d).loc main_arg0) ∧ s'.mem.mem ((SparseCore.T d).loc main_arg1) = m ((SparseCore.T d).loc main_arg1)

theorem hfin (d : Dev nD) (s' : Phys nD τ sig (Elt F)) : iprop(FIN m d ∗ SI s') ⊢ (⌜fq m d s'⌝ : sProp 𝕄) := by
  iintro ⟨⟨H0, H1, Hr⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (SI_pointsTo_agree (st := s') (ℓ := (SparseCore.T d).loc main_v11) (I := Finset.univ) (q := fullShare) (f := V3 m d (r' main_v11))) $$ [HSI Hr]
  · isplitl [HSI] <;> iassumption
  icases H with %hr
  ipureintro
  exact ⟨funext fun i => hr i (Finset.mem_univ i), funext fun i => h0 i (Finset.mem_univ i), funext fun i => h1 i (Finset.mem_univ i)⟩

/-! ## The program's run -/

/-- What the launch theorem asks of the launch's semaphores and buffers. -/
theorem callFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

def QC : PUnit × MemSt nD τ sig (Elt F) → Prop := fun r =>
  (∀ c : Dev nD, r.2.mem ((SparseCore.T c).loc main_v11) = V3 m c (r' main_v11)
    ∧ r.2.mem ((SparseCore.T c).loc main_arg0) = m ((SparseCore.T c).loc main_arg0) ∧ r.2.mem ((SparseCore.T c).loc main_arg1) = m ((SparseCore.T c).loc main_arg1))
  ∧ r.2.sem = fun _ => 0

theorem run_main [∀ e, Nonempty (Elt F e)] (hI : ListOK (AM m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (AM m)) (A := ∅) callFacts v₀
    (fun q hq => match q with | 0 => nomatch hq)
    (fun q _ => match q with | 0 => tileObl (AM m) callFacts hI)
    (fun q _ => match q with | 0 => SparseCore.Cfg.VecSplit.of_plain (vecSplit (AM m)))
    m ρ main (fun _ => iprop(emp)) (FIN m) (u₀ (F := F)) (sep_elim_left.trans (hu₀ (AM m))) (hmain m ρ) (fq m) (hfin m) (QC m) (fun _ h hz => ⟨h, hz⟩)

end Cert.Proof.Dispatch

end
-- ==== Proof.DispatchRows.lean ====
/-
  The row gather's result read row by row: the pieces the call moves are quarters of the table's rows, so row `n` of
  the reshaped result is the row of the table the index `n` names.
-/
module

public import proofs.«01_k».proof.Defs
public import proofs.«01_k».proof.Proof.DispatchMain
public import Idealize.ShloMosaic.Lib.StableHlo.ReadAt
public import proofs.«01_k».proof.Proof.Gen.Pre_tok_in_range
public import proofs.«01_k».proof.Proof.Gen.ReferenceIdeal.Run

@[expose] public section

noncomputable section

namespace Cert.Proof.Dispatch

open Cert.KernelIdeal Cert.KernelIdeal.Gen
open Idealize.ShloMosaic
open Idealize.ShloMosaic.SparseCore (S V T)
open Idealize.ShloMosaic.StableHlo (after)
open Idealize.SL.Sem

variable {F : FTy → Type} [FloatOps F]

/-! ## Words -/

theorem toNat_lt_of_range (v b : BitVec 32) (hb : b.toNat < 2 ^ 31)
    (e : IntOp.andi (IntOp.cmpi .sge v 0#32) (IntOp.cmpi .slt v b) = 1#1) : v.toNat < b.toNat := by
  have e1 (p q : Bool) : IntOp.andi (BitVec.ofBool p) (BitVec.ofBool q) = BitVec.ofBool (p && q) := by
    cases p <;> cases q <;> decide
  have e2 (p : Bool) : (BitVec.ofBool p = 1#1) ↔ p = true := by cases p <;> decide
  simp only [IntOp.cmpi, e1, e2, Bool.and_eq_true, BitVec.sle_eq_decide, BitVec.slt_eq_decide,
    decide_eq_true_eq, BitVec.toInt_eq_toNat_cond, BitVec.toNat_ofNat, Nat.reducePow, Nat.reduceMod] at e
  omega

/-- The word of the list: four times the index, plus the quarter. -/
theorem quarter_word (v : BitVec 32) (q : Nat) (hv : v.toNat < 8192) (hq : q < 4) :
    (IntOp.addi (IntOp.muli v 4#32) (BitVec.ofNat 32 q)).toNat = v.toNat * 4 + q := by
  simp only [IntOp.addi, IntOp.muli, BitVec.toNat_add, BitVec.toNat_mul, BitVec.toNat_ofNat]
  omega

/-! ## The host's arrays at an index -/

variable (m : (ℓ : Loc nD τ sig) → Buf (Elt F) ℓ)

abbrev tokens (d : Dev nD) : S8192.Idx → BitVec 32 := m ((SparseCore.T d).loc main_arg1)
abbrev table (d : Dev nD) : S4096x1024.Idx → F .f32 := m ((SparseCore.T d).loc main_arg0)

/-- The index a list entry is a quarter of. -/
def ofQuarter (n : S32768.Idx) : S8192.Idx := fun | 0 => ⟨(n 0).val / 4, Nat.div_lt_of_lt_mul (n 0).isLt⟩
/-- The table's element a piece's element is. -/
def ofPiece (t : S16384x2x128.Idx) : S4096x1024.Idx := fun
  | 0 => ⟨(t 0).val / 4, Nat.div_lt_of_lt_mul (t 0).isLt⟩
  | 1 => ⟨(t 0).val % 4 * 256 + (t 1).val * 128 + (t 2).val, by
      have h0 : (t 0).val % 4 < 4 := Nat.mod_lt _ (by decide)
      have h1 : (t 1).val < 2 := (t 1).isLt
      have h2 : (t 2).val < 128 := (t 2).isLt
      show _ < 1024
      omega⟩
/-- The piece's element a result element is. -/
def toPiece (j : S8192x1024.Idx) : S32768x2x128.Idx := fun
  | 0 => ⟨(j 0).val * 4 + (j 1).val / 256, by
      have h0 : (j 0).val < 8192 := (j 0).isLt
      have h1 : (j 1).val < 1024 := (j 1).isLt
      show _ < 32768
      omega⟩
  | 1 => ⟨(j 1).val / 128 % 2, Nat.mod_lt _ (by decide)⟩
  | 2 => ⟨(j 1).val % 128, Nat.mod_lt _ (by decide)⟩

theorem X_eq (d : Dev nD) : V1 m d (r' main_v0) = shapeCast S16384x2x128 (table m d) shapeCasts_S4096x1024_S16384x2x128 := by
  unfold V1 ops0
  after_reads_simp
  rfl

/-- The index of each row, four times over with the four quarters. -/
abbrev quarters (d : Dev nD) : IVec S8192x4 32 :=
  addi (broadcastInDim S8192x4 ![0, 1] bcast_S8192x1_S8192x4_0_1
      (muli (broadcastInDim S8192x1 ![0] bcast_S8192_S8192x1_0 (tokens m d)) (broadcastInDim S8192x1 ![] bcast_S_S8192x1 (constantI S_ 32 4#32))))
    (broadcastInDim S8192x4 ![0, 1] bcast_S1x4_S8192x4_0_1 (broadcastInDim S1x4 ![1] bcast_S4_S1x4_1 (iotaInDim S4 32 0)))

theorem I_eq (d : Dev nD) : V1 m d (r' main_v9) = shapeCast S32768 (quarters m d) shapeCasts_S8192x4_S32768 := by
  unfold V1 ops0
  after_reads_simp
  rfl

theorem R_eq (d : Dev nD) : V3 m d (r' main_v11) = shapeCast S8192x1024 (GM m d) shapeCasts_S32768x2x128_S8192x1024 := by
  unfold V3
  rw [StableHlo.reshape_result']
  unfold V2
  rw [Function.update_self]
  rfl

theorem X_at (d : Dev nD) (t : S16384x2x128.Idx) : ((AM m).X d : S16384x2x128.Idx → F .f32) t = table m d (ofPiece t) := by
  refine (congrFun (X_eq m d) t).trans (congrArg (table m d) (Shape.reshapeEquiv_eq_of_rowMajor (s := S4096x1024) (s' := S16384x2x128) _ ?_))
  rw [Shape.rowMajor_val_two, Shape.rowMajor_val_three]
  show (t 0).val / 4 * 1024 + ((t 0).val % 4 * 256 + (t 1).val * 128 + (t 2).val) = ((t 0).val * 2 + (t 1).val) * 128 + (t 2).val
  omega

/-- The row and the quarter a list entry stands for. -/
def rowQuarter (n : S32768.Idx) : S8192x4.Idx := fun
  | 0 => ⟨(n 0).val / 4, Nat.div_lt_of_lt_mul (n 0).isLt⟩
  | 1 => ⟨(n 0).val % 4, Nat.mod_lt _ (by decide)⟩

theorem quarters_at (d : Dev nD) (n : S32768.Idx) : quarters m d (rowQuarter n)
    = IntOp.addi (IntOp.muli (tokens m d (ofQuarter n)) 4#32) (BitVec.ofNat 32 ((n 0).val % 4)) := by
  have hrow : ∀ (h1 : S8192.BroadcastsInDim S8192x1 ![0]) (h2 : S8192x1.BroadcastsInDim S8192x4 ![0, 1]),
      broadcastInDim S8192x4 ![0, 1] h2 (broadcastInDim S8192x1 ![0] h1 (tokens m d)) (rowQuarter n) = tokens m d (ofQuarter n) := by
    intro h1 h2
    simp only [broadcastInDim]
    congr 1
    funext a
    match a with
    | 0 => rfl
  have hq : ∀ (h1 : S4.BroadcastsInDim S1x4 ![1]) (h2 : S1x4.BroadcastsInDim S8192x4 ![0, 1]),
      broadcastInDim S8192x4 ![0, 1] h2 (broadcastInDim S1x4 ![1] h1 (iotaInDim S4 32 0)) (rowQuarter n) = BitVec.ofNat 32 ((n 0).val % 4) := fun _ _ => rfl
  exact congrArg₂ IntOp.addi (congrArg₂ IntOp.muli (hrow bcast_S8192_S8192x1_0 bcast_S8192x1_S8192x4_0_1) rfl) (hq bcast_S4_S1x4_1 bcast_S1x4_S8192x4_0_1)

theorem I_at (d : Dev nD) (n : S32768.Idx) : ((AM m).I d : S32768.Idx → BitVec 32) n
    = IntOp.addi (IntOp.muli (tokens m d (ofQuarter n)) 4#32) (BitVec.ofNat 32 ((n 0).val % 4)) := by
  refine (congrFun (I_eq m d) n).trans ((congrArg (quarters m d) (Shape.reshapeEquiv_eq_of_rowMajor (s := S8192x4) (s' := S32768) (y := rowQuarter n) _ ?_)).trans (quarters_at m d n))
  rw [Shape.rowMajor_val_two, Shape.rowMajor_val_one]
  show (n 0).val / 4 * 4 + (n 0).val % 4 = (n 0).val
  omega

theorem R_at (d : Dev nD) (j : S8192x1024.Idx) : (V3 m d (r' main_v11) : S8192x1024.Idx → F .f32) j = (GM m d : S32768x2x128.Idx → F .f32) (toPiece j) := by
  refine (congrFun (R_eq m d) j).trans (congrArg (GM m d : S32768x2x128.Idx → F .f32) (Shape.reshapeEquiv_eq_of_rowMajor (s := S32768x2x128) (s' := S8192x1024) _ ?_))
  rw [Shape.rowMajor_val_two, Shape.rowMajor_val_three]
  show (((j 0).val * 4 + (j 1).val / 256) * 2 + (j 1).val / 128 % 2) * 128 + (j 1).val % 128 = (j 0).val * 1024 + (j 1).val
  omega

/-! ## The rows -/

/-- Every index names a row of the table. -/
def TokOK : Prop := ∀ (d : Dev nD) (n : S8192.Idx), (tokens m d n).toNat < 4096

theorem listOK (h : TokOK m) : ListOK (AM m) := fun d n => by
  have h1 := I_at m d n
  have hq : (n 0).val % 4 < 4 := Nat.mod_lt _ (by decide)
  have h2 := quarter_word (tokens m d (ofQuarter n)) ((n 0).val % 4) (Nat.lt_trans (h d _) (by decide)) hq
  rw [h1, h2]
  have := h d (ofQuarter n)
  omega

/-- The token a result element goes by, and the table's element it holds. -/
def tokOf (j : S8192x1024.Idx) : S8192.Idx := fun | 0 => j 0
def elemOf (w : Nat) (j : S8192x1024.Idx) : S4096x1024.Idx := fun | 0 => ⟨w % 4096, Nat.mod_lt _ (by decide)⟩ | 1 => j 1

/-- The rows the indices name. -/
def rows (d : Dev nD) : S8192x1024.Idx → F .f32 := fun j => table m d (elemOf (tokens m d (tokOf j)).toNat j)

theorem R_rows (h : TokOK m) (d : Dev nD) : (V3 m d (r' main_v11) : S8192x1024.Idx → F .f32) = rows m d := by
  funext j
  rw [R_at]
  show ((AM m).X d : S16384x2x128.Idx → F .f32) (gix (((AM m).I d : S32768.Idx → BitVec 32) (fst (toPiece j))) (toPiece j)) = _
  rw [X_at, I_at]
  have hj0 : (j 0).val < 8192 := (j 0).isLt
  have hj1 : (j 1).val < 1024 := (j 1).isLt
  have hq : ((fst (toPiece j) 0).val % 4) < 4 := Nat.mod_lt _ (by decide)
  have ht : ofQuarter (fst (toPiece j)) = tokOf j := by
    funext a
    match a with
    | 0 => exact Fin.ext (show ((j 0).val * 4 + (j 1).val / 256) / 4 = (j 0).val by omega)
  have hw := quarter_word (tokens m d (ofQuarter (fst (toPiece j)))) _ (Nat.lt_trans (h d _) (by decide)) hq
  have hv := h d (ofQuarter (fst (toPiece j)))
  rw [ht] at hw hv ⊢
  have hm : (fst (toPiece j) 0).val % 4 = (j 1).val / 256 := by
    show ((j 0).val * 4 + (j 1).val / 256) % 4 = _
    omega
  rw [hm] at hw ⊢
  unfold rows
  congr 1
  funext a
  match a with
  | 0 =>
    refine Fin.ext ?_
    show (IntOp.addi (IntOp.muli (tokens m d (tokOf j)) 4#32) (BitVec.ofNat 32 ((j 1).val / 256))).toNat % 16384 / 4 = (tokens m d (tokOf j)).toNat % 4096
    rw [hw]; omega
  | 1 =>
    refine Fin.ext ?_
    show (IntOp.addi (IntOp.muli (tokens m d (tokOf j)) 4#32) (BitVec.ofNat 32 ((j 1).val / 256))).toNat % 16384 % 4 * 256 + (j 1).val / 128 % 2 * 128 + (j 1).val % 128 = (j 1).val
    rw [hw]; omega

end Cert.Proof.Dispatch

end
-- ==== Proof.RowGather.lean ====
/-
  A gather of whole rows of a rank-2 operand, one start index per result row, read at an index.
-/
module

public import Idealize.ShloMosaic.PureOps
public import Idealize.ShloMosaic.Lib.StableHlo.Run

@[expose] public section

noncomputable section

namespace Cert.Proof.RowGather

open Idealize.ShloMosaic

variable {α : Type} {N C R : Nat}

/-- Whole rows of an operand of `N` rows of `C`, at `R` start indices held as a column. -/
abbrev dims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The place of a result row's start index. -/
def col (j : (⟨2, ![R, C]⟩ : Shape).Idx) : (⟨2, ![R, 1]⟩ : Shape).Idx := fun | 0 => j 0 | 1 => ⟨0, Nat.one_pos⟩
/-- Row `w` at a result element's column. -/
def elem (w : Fin N) (j : (⟨2, ![R, C]⟩ : Shape).Idx) : (⟨2, ![N, C]⟩ : Shape).Idx := fun | 0 => w | 1 => j 1

theorem gather_row (wf : GatherDims.WF ⟨2, ![N, C]⟩ ⟨2, ![R, 1]⟩ ⟨2, ![R, C]⟩ [1] [0] [] [0] [] 1 ![1, C])
    (x : (⟨2, ![N, C]⟩ : Shape).Idx → α) (i : IVec ⟨2, ![R, 1]⟩ 32) (j : (⟨2, ![R, C]⟩ : Shape).Idx) (w : Fin N)
    (hi : (i (col j)).toInt.toNat = w.val) : Host.gather (dims N C R wf) x i j = x (elem w j) := by
  have hk : ∀ a : Fin 2, a ∈ (dims N C R wf).sKept ↔ a = 1 := fun a => by
    rw [GatherDims.mem_sKept]
    match a with
    | 0 => simp
    | 1 => simp
  unfold Host.gather
  congr 1
  funext a
  refine Fin.ext ?_
  match a with
  | 0 =>
    show (dims N C R wf).start j i 0 + (dims N C R wf).batchCoord j 0 + (dims N C R wf).offCoord j 0 = w.val
    rw [GatherDims.batchCoord_eq_zero _ _ _ List.not_mem_nil, GatherDims.offCoord_eq_zero _ _ _ (fun h => absurd ((hk 0).mp h) (by decide))]
    unfold GatherDims.start
    rw [dif_pos (show (0 : Fin 2) ∈ (dims N C R wf).startIndexMap from List.mem_singleton.mpr rfl)]
    have hs : (dims N C R wf).siIdx j ⟨List.idxOf (0 : Fin 2) (dims N C R wf).startIndexMap,
        List.idxOf_lt_length_iff.2 (List.mem_singleton.mpr rfl)⟩ = col j := by
      funext b; refine Fin.ext ?_
      match b with
      | 0 => rfl
      | 1 => rfl
    rw [hs, hi]
    have hw := w.isLt
    show min w.val (N - 1) + 0 + 0 = w.val
    omega
  | 1 =>
    show (dims N C R wf).start j i 1 + (dims N C R wf).batchCoord j 1 + (dims N C R wf).offCoord j 1 = (j 1).val
    rw [GatherDims.batchCoord_eq_zero _ _ _ List.not_mem_nil]
    unfold GatherDims.start GatherDims.offCoord
    rw [dif_neg (show ¬ (1 : Fin 2) ∈ (dims N C R wf).startIndexMap from fun h => absurd (List.mem_singleton.mp h) (fun e => absurd (congrArg Fin.val e) Nat.one_ne_zero)),
      dif_pos ((hk 1).mpr rfl)]
    have e : ∀ (k : Nat) (h : k < ([1] : List (Fin 2)).length), ([1] : List (Fin 2))[k] = 1 := fun k h => by
      obtain rfl : k = 0 := Nat.lt_one_iff.mp h
      rfl
    exact (Nat.zero_add _).trans (congrArg (fun b => (j b).val) (e _ _))

/-- An index word below `2³¹`, read as the program reads a possibly negative one, is itself. -/
theorem wrapped (v b : BitVec 32) (hv : v.toNat < 2 ^ 31) :
    (Scalar.select (IntOp.cmpi .slt v 0#32) (IntOp.addi v b) v).toInt.toNat = v.toNat := by
  have h0 : IntOp.cmpi .slt v 0#32 = 0#1 := by
    simp only [IntOp.cmpi, BitVec.slt_eq_decide, BitVec.toInt_eq_toNat_cond, BitVec.toNat_ofNat, Nat.reducePow, Nat.zero_mod]
    rw [decide_eq_false (by omega)]; rfl
  rw [h0]
  show v.toInt.toNat = _
  rw [BitVec.toInt_eq_toNat_cond]
  split <;> omega

end Cert.Proof.RowGather

end
-- ==== Proof.DispatchClaims.lean ====
/-
  The claims of the row gather: its frames, at words and at extended reals, from one run over any float values, and
  its value against the rows written as one indexing.
-/
module

public import proofs.«01_k».proof.Defs
public import proofs.«01_k».proof.Proof.DispatchRows
public import proofs.«01_k».proof.Proof.RowGather
public import proofs.«01_k».proof.Proof.Gen.Kernel
public import proofs.«01_k».proof.Proof.Gen.Pre_tok_in_range
public import proofs.«01_k».proof.Proof.Gen.ReferenceIdeal.Run

@[expose] public section

noncomputable section

namespace Cert.Proof.Dispatch

open Idealize.ShloMosaic
open Idealize.SL.Sem

section Pre

open Cert.KernelIdeal

variable {F : FTy → Type} [FloatOps F]

/-- The precondition, as a fact of the indices. -/
theorem tokOK_of_pre (m : (ℓ : Loc nD τ sig) → Buf (Elt F) ℓ)
    (h : ∀ c : Dev nD, Cert.Pre_tok_in_range.fn (F := F) (m ((c.tc : Thread nD τ).loc main_arg0)) (m ((c.tc : Thread nD τ).loc main_arg1)) = fun _ => 1#1) :
    TokOK m := fun d n => toNat_lt_of_range _ 4096#32 (by decide) (congrFun (h d) n)

end Pre

section Ref

open Cert.ReferenceIdeal Cert.ReferenceIdeal.Gen

variable {F : FTy → Type} [FloatOps F]

/-- The reference's result is the rows the indices name. -/
theorem ref_rows (x : FVec F S4096x1024 .f32) (t : IVec S8192 32) (h : ∀ n, (t n).toNat < 4096) :
    Host.gather gather_S4096x1024_S8192x1_S8192x1024_1_0_n_n_0_1_11024 x (broadcastInDim S8192x1 ![0] bcast_S8192_S8192x1_0
      (select (cmpi .slt t (broadcastInDim S8192 ![] bcast_S_S8192 (constantI S_ 32 0#32))) (addi t (broadcastInDim S8192 ![] bcast_S_S8192 (constantI S_ 32 4096#32))) t))
    = fun j => x (elemOf (t (tokOf j)).toNat j) := by
  funext j
  have hb := h (tokOf j)
  refine (RowGather.gather_row gather_S4096x1024_S8192x1_S8192x1024_1_0_n_n_0_1_11024_wf x _ j ⟨(t (tokOf j)).toNat, hb⟩ ?_).trans (congrArg x ?_)
  · refine Eq.trans (congrArg (fun w : BitVec 32 => w.toInt.toNat) ?_) (RowGather.wrapped (t (tokOf j)) 4096#32 (by omega))
    have hg : ∀ g : IVec S8192 32, broadcastInDim S8192x1 ![0] bcast_S8192_S8192x1_0 g (RowGather.col j) = g (tokOf j) := fun g => by
      simp only [broadcastInDim]
      congr 1
      funext a
      match a with
      | 0 => rfl
    exact hg _
  · funext a
    match a with
    | 0 => exact Fin.ext (Nat.mod_eq_of_lt hb).symm
    | 1 => rfl

end Ref

/-! ## The claims -/

theorem frame_kernelIdeal : Cert.quiescent_KernelIdeal := fun m ρ h =>
  (θ_run Cert.KernelIdeal.defs _ _).mono (fun _ h => ⟨fun c => (h.1 c).2, h.2⟩) (run_main (F := Ideal) m ρ (listOK m (tokOK_of_pre m h)))

theorem frame_kernel : Cert.quiescent_Kernel := fun m ρ h =>
  (θ_run Cert.KernelIdeal.defs _ _).mono (fun _ h => ⟨fun c => (h.1 c).2, h.2⟩) (run_main (F := Bits) m ρ (listOK m (tokOK_of_pre m h)))

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem value : Cert.algebraic_KernelIdeal_ReferenceIdeal := fun m ρ m' ρ' hpre hag =>
  ⟨fun c => rows m c,
    (θ_run Cert.KernelIdeal.defs _ _).mono (fun _ h c => ⟨(h.1 c).1.trans (R_rows m (tokOK_of_pre m hpre) c), (h.1 c).2⟩)
      (run_main (F := Ideal) m ρ (listOK m (tokOK_of_pre m hpre))),
    (θ_run Cert.ReferenceIdeal.defs _ _).mono (fun _ h c => ⟨(h c).1.trans (by
        rw [(hag c).1, (hag c).2]
        exact ref_rows (F := Ideal) _ _ (tokOK_of_pre m hpre c)), (h c).2⟩)
      (Cert.ReferenceIdeal.Value.run m' ρ')⟩

end Cert.Proof.Dispatch

end
-- ==== Proof.CombineBase.lean ====
/-
  The sum of the token's two rows, on the SparseCore: the program as the launch theorem sees it, its arrays and
  buffers, and what the call computes.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.WritesUnit
public import Idealize.ShloMosaic.Lib.VecWindow
public import proofs.«01_k».proof.Proof.Gen.CombineIdeal
public import proofs.«01_k».proof.Proof.Gen.CombineIdeal.Skeleton

@[expose] public section

noncomputable section

namespace Cert.Proof.Combine

open Cert.CombineIdeal Cert.CombineIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev xLoc (d : Dev nD) : Loc nD τ sig := (SparseCore.T d).loc main_v0
abbrev iLoc (d : Dev nD) : Loc nD τ sig := (SparseCore.T d).loc main_v9
abbrev jLoc (d : Dev nD) : Loc nD τ sig := (SparseCore.T d).loc main_v18
abbrev oLoc (d : Dev nD) : Loc nD τ sig := (SparseCore.T d).loc main_v19

/-! ## What the call computes -/

/-- The table's element a result element reads: the piece the list's word names, the same place in it. -/
def gix (w : BitVec 32) (j : S16384x2x128.Idx) : S32768x2x128.Idx :=
  fun | 0 => ⟨w.toNat % 32768, Nat.mod_lt _ (by decide)⟩ | 1 => j 1 | 2 => j 2

theorem gix_zero (w : BitVec 32) (j : S16384x2x128.Idx) (h : w.toNat < 32768) : (gix w j 0).val = w.toNat := Nat.mod_eq_of_lt h

/-- The entry of a list a result element goes by. -/
def fst (j : S16384x2x128.Idx) : S16384.Idx := fun | 0 => j 0

/-- The result: piece `n` is the sum of the table's pieces the two lists' words `n` name. -/
def G (d : Dev nD) (X : Buf (Elt F) (xLoc d)) (I : Buf (Elt F) (iLoc d)) (J : Buf (Elt F) (jLoc d)) : Buf (Elt F) (oLoc d) :=
  fun (j : S16384x2x128.Idx) =>
    FloatOps.addf ((X : S32768x2x128.Idx → F .f32) (gix ((I : S16384.Idx → BitVec 32) (fst j)) j))
      ((X : S32768x2x128.Idx → F .f32) (gix ((J : S16384.Idx → BitVec 32) (fst j)) j))

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

end Tile

/-! ## A buffer of pieces, part of it summed -/

/-- The places of a buffer of pieces in order. -/
abbrev flat (j : S64x2x128.Idx) : ℕ := (j 0).val * 256 + (j 1).val * 128 + (j 2).val

/-- The buffer whose first `16 * k` places hold the sums of `f` and `g`, the rest `f`'s. -/
def mix (f g : S64x2x128.Idx → Elt F .f32) (k : ℕ) : S64x2x128.Idx → Elt F .f32 :=
  fun j => if flat j < 16 * k then (FloatOps.addf (f j : F .f32) (g j) : F .f32) else f j

theorem mix_zero (f g : S64x2x128.Idx → Elt F .f32) : mix f g 0 = f := by
  funext j
  exact if_neg (by omega)

theorem mix_last (f g : S64x2x128.Idx → Elt F .f32) (j : S64x2x128.Idx) :
    mix f g 1024 j = (FloatOps.addf (f j : F .f32) (g j) : F .f32) := by
  have h0 : (j 0).val < 64 := (j 0).isLt
  have h1 : (j 1).val < 2 := (j 1).isLt
  have h2 : (j 2).val < 128 := (j 2).isLt
  exact if_pos (by show (j 0).val * 256 + (j 1).val * 128 + (j 2).val < _; omega)

/-- Row `k` of sixteen places, in the buffer. -/
abbrev row (k : ℕ) : Fin 3 → ℕ := ![k / 16, k / 8 % 2, k % 8 * 16]

/-- A place of the buffer in row `k`. -/
def place (k : ℕ) (hk : k < 1024) (x : S1x1x16.Idx) : S64x2x128.Idx :=
  fun
  | 0 => ⟨k / 16, by show _ < 64; omega⟩
  | 1 => ⟨k / 8 % 2, by show _ < 2; omega⟩
  | 2 => ⟨k % 8 * 16 + (x 2).val, by have := (x 2).isLt; have h : (x 2).val < 16 := this; show _ < 128; omega⟩

theorem place_eq (k : ℕ) (hk : k < 1024) (x : S1x1x16.Idx) (j : S64x2x128.Idx) (h : ∀ a, (j a).val = row k a + (x a).val) :
    j = place k hk x := by
  funext a
  have h0 : (x 0).val < 1 := (x 0).isLt
  have h1 : (x 1).val < 1 := (x 1).isLt
  match a with
  | 0 =>
    apply Fin.ext
    refine (h 0).trans ?_
    show k / 16 + (x 0).val = k / 16
    omega
  | 1 =>
    apply Fin.ext
    refine (h 1).trans ?_
    show k / 8 % 2 + (x 1).val = k / 8 % 2
    omega
  | 2 => exact Fin.ext (h 2)

/-- What a load of row `k` reads. -/
theorem readAt_row (v : View sig .scVector .vmem S64x2x128 .f32) (c : v.ty.Contents (Elt F)) (k : ℕ) (hk : k < 1024)
    (off : Fin 3 → ℕ) (hoff : off = row k) (inb : ∀ a, off a + S1x1x16.size a ≤ S64x2x128.size a) (x : S1x1x16.Idx) :
    View.readAt (Elt F) v (Rect.unit (s := S64x2x128) off S1x1x16.size inb).toLoadRect c x = v.read (Elt F) c (place k hk x) := by
  subst hoff
  rw [View.readAt_apply]
  refine congrArg (v.read (Elt F) c) (place_eq k hk x _ fun a => ?_)
  show row k a + 1 * (x a).val = row k a + (x a).val
  omega

/-- A row's stored payload is the elementwise sum of the two rows loaded. -/
theorem pay_apply (p q : Vec F S1x1x16 .f32) (x : S1x1x16.Idx) :
    k0_pay10 (k0_pay2 p) q x = (FloatOps.addf (p x : F .f32) (q x) : F .f32) := by
  have h0 : (x 0).val < 1 := (x 0).isLt
  have h1 : (x 1).val < 1 := (x 1).isLt
  have hx : ∀ (w : Vec F S1x1x16 .f32), shapeCast S16 w shapeCasts_S1x1x16_S16 (fun | 0 => x 2) = w x := fun w =>
    shapeCast_apply w _ _ x (by
      rw [Shape.rowMajor_val_three, Shape.rowMajor_val_one]
      show ((x 0).val * 1 + (x 1).val) * 16 + (x 2).val = (x 2).val
      omega)
  unfold k0_pay10 k0_pay2
  refine (shapeCast_apply (s := S16) _ _ x (fun | 0 => x 2) ?_).trans ?_
  · rw [Shape.rowMajor_val_three, Shape.rowMajor_val_one]
    show (x 2).val = ((x 0).val * 1 + (x 1).val) * 16 + (x 2).val
    omega
  · exact congrArg₂ (fun a b : F .f32 => (FloatOps.addf a b : F .f32)) (hx p) (hx q)

/-- One trip: a buffer summed up to row `k`, its row `k` stored as the sum of what the two buffers hold there, is summed up
    to row `k + 1`. -/
theorem mix_step (v w : View sig .scVector .vmem S64x2x128 .f32) (c : v.ty.Contents (Elt F)) (e : w.ty.Contents (Elt F))
    (f g : S64x2x128.Idx → Elt F .f32) (k : ℕ) (hk : k < 1024) (hc : v.read (Elt F) c = mix f g k) (he : w.read (Elt F) e = g)
    (off : Fin 3 → ℕ) (hoff : off = row k) (inb : ∀ a, off a + S1x1x16.size a ≤ S64x2x128.size a) :
    v.read (Elt F) (v.writes (Elt F) c [⟨Rect.unit (s := S64x2x128) off S1x1x16.size inb,
        k0_pay10 (k0_pay2 (View.readAt (Elt F) v (Rect.unit (s := S64x2x128) off S1x1x16.size inb).toLoadRect c))
          (View.readAt (Elt F) w (Rect.unit (s := S64x2x128) off S1x1x16.size inb).toLoadRect e)⟩])
      = mix f g (k + 1) := by
  funext j
  have j0 : (j 0).val < 64 := (j 0).isLt
  have j1 : (j 1).val < 2 := (j 1).isLt
  have j2 : (j 2).val < 128 := (j 2).isLt
  by_cases h : 16 * k ≤ flat j ∧ flat j < 16 * (k + 1)
  · have h' : 16 * k ≤ (j 0).val * 256 + (j 1).val * 128 + (j 2).val ∧ (j 0).val * 256 + (j 1).val * 128 + (j 2).val < 16 * (k + 1) := h
    let x : S1x1x16.Idx := fun
      | 0 => ⟨0, Nat.one_pos⟩
      | 1 => ⟨0, Nat.one_pos⟩
      | 2 => ⟨(j 2).val % 16, Nat.mod_lt _ (by decide)⟩
    have hj : ∀ a, (j a).val = row k a + (x a).val := by
      intro a
      match a with
      | 0 => show (j 0).val = k / 16 + 0; omega
      | 1 => show (j 1).val = k / 8 % 2 + 0; omega
      | 2 => show (j 2).val = k % 8 * 16 + (j 2).val % 16; omega
    refine (View.read_writes_cons_unit_of_mem v c inb _ [] j x hoff hj).trans ?_
    rw [pay_apply, readAt_row v c k hk off hoff, readAt_row w e k hk off hoff, hc, he, ← place_eq k hk x j hj]
    have e1 : mix f g k j = f j := if_neg (by omega)
    have e2 : mix f g (k + 1) j = (FloatOps.addf (f j : F .f32) (g j) : F .f32) := if_pos h.2
    rw [e1, e2]
  · have hx : ∃ a, (j a).val < row k a ∨ row k a + S1x1x16.size a ≤ (j a).val := by
      by_contra hn
      have hn' : ∀ a, row k a ≤ (j a).val ∧ (j a).val < row k a + S1x1x16.size a := fun a => by
        have := not_exists.mp hn a
        omega
      have a0 : k / 16 ≤ (j 0).val ∧ (j 0).val < k / 16 + 1 := hn' 0
      have a1 : k / 8 % 2 ≤ (j 1).val ∧ (j 1).val < k / 8 % 2 + 1 := hn' 1
      have a2 : k % 8 * 16 ≤ (j 2).val ∧ (j 2).val < k % 8 * 16 + 16 := hn' 2
      refine h ?_
      show 16 * k ≤ (j 0).val * 256 + (j 1).val * 128 + (j 2).val ∧ (j 0).val * 256 + (j 1).val * 128 + (j 2).val < 16 * (k + 1)
      omega
    obtain ⟨a, ha⟩ := hx
    refine (View.read_writes_cons_unit_of_not_mem v c inb _ [] j hoff a ha).trans ?_
    refine (congrFun hc j).trans ?_
    by_cases hl : flat j < 16 * k
    · exact (if_pos hl).trans (if_pos (show flat j < 16 * (k + 1) by omega)).symm
    · exact (if_neg hl).trans (if_neg (show ¬ flat j < 16 * (k + 1) by omega)).symm

end Cert.Proof.Combine

end
-- ==== Proof.CombineLoop.lean ====
/-
  The sums of a round: a counted loop over the 1024 rows of sixteen places of a buffer of pieces, each row of the first
  buffer replaced by its sum with the second's. One trip of each of the eight rounds' loops.
-/
module

public import proofs.«01_k».proof.Defs
public import proofs.«01_k».proof.Proof.CombineBase
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.CombineIdeal
public import proofs.«01_k».proof.Proof.Gen.CombineIdeal.Skeleton

@[expose] public section

noncomputable section

namespace Cert.Proof.Combine

open Cert.CombineIdeal Cert.CombineIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.CombineIdeal.main_v0_scv : Memref Cert.CombineIdeal.sig Kind.scVector Space.hbm Cert.CombineIdeal.S32768x2x128 EltTy.f32)
local notation "iV" => (Memref.whole Cert.CombineIdeal.main_v9_scv : Memref Cert.CombineIdeal.sig Kind.scVector Space.hbm Cert.CombineIdeal.S16384 EltTy.i32)
local notation "jV'" => (Memref.whole Cert.CombineIdeal.main_v18_scv : Memref Cert.CombineIdeal.sig Kind.scVector Space.hbm Cert.CombineIdeal.S16384 EltTy.i32)
local notation "oV" => (Memref.whole Cert.CombineIdeal.main_v19_scv : Memref Cert.CombineIdeal.sig Kind.scVector Space.hbm Cert.CombineIdeal.S16384x2x128 EltTy.f32)
local notation "lV" => (Memref.whole Cert.CombineIdeal.cc0_scratch0 : Memref Cert.CombineIdeal.sig Kind.scVector Space.vmem Cert.CombineIdeal.S512 EltTy.i32)
local notation "mV" => (Memref.whole Cert.CombineIdeal.cc0_scratch1 : Memref Cert.CombineIdeal.sig Kind.scVector Space.vmem Cert.CombineIdeal.S512 EltTy.i32)
local notation "aV" => (Memref.whole Cert.CombineIdeal.cc0_scratch2 : Memref Cert.CombineIdeal.sig Kind.scVector Space.vmem Cert.CombineIdeal.S64x2x128 EltTy.f32)
local notation "bV" => (Memref.whole Cert.CombineIdeal.cc0_scratch3 : Memref Cert.CombineIdeal.sig Kind.scVector Space.vmem Cert.CombineIdeal.S64x2x128 EltTy.f32)
local notation "aW" => (Memref.whole Cert.CombineIdeal.cc0_scratch4 : Memref Cert.CombineIdeal.sig Kind.scVector Space.vmem Cert.CombineIdeal.S64x2x128 EltTy.f32)
local notation "bW" => (Memref.whole Cert.CombineIdeal.cc0_scratch5 : Memref Cert.CombineIdeal.sig Kind.scVector Space.vmem Cert.CombineIdeal.S64x2x128 EltTy.f32)

theorem k0_off2_row : ∀ k : Fin k0_t1_loop.trips, k0_off2 k = row k.val := by decide +kernel
theorem k0_off4_row : ∀ k : Fin k0_t2_loop.trips, k0_off4 k = row k.val := by decide +kernel
theorem k0_off5_row : ∀ k : Fin k0_t3_loop.trips, k0_off5 k = row k.val := by decide +kernel
theorem k0_off6_row : ∀ k : Fin k0_t4_loop.trips, k0_off6 k = row k.val := by decide +kernel
theorem k0_off7_row : ∀ k : Fin k0_t5_loop.trips, k0_off7 k = row k.val := by decide +kernel
theorem k0_off8_row : ∀ k : Fin k0_t6_loop.trips, k0_off8 k = row k.val := by decide +kernel
theorem k0_off9_row : ∀ k : Fin k0_t7_loop.trips, k0_off9 k = row k.val := by decide +kernel
theorem k0_off10_row : ∀ k : Fin k0_t8_loop.trips, k0_off10 k = row k.val := by decide +kernel

section Tile

variable (d : Dev nD) (L : grid0.Coords)

/-- The two buffers of a round, the first summed with the second up to row `k`: the even rounds' pair and the odd rounds'. -/
abbrev pairA (f g : S64x2x128.Idx → Elt F .f32) (k : ℕ) : sProp 𝕄 :=
  iprop(((aV).view.loc (VT d L) ↦[(aV).view.set]{fullShare} mix f g k) ∗ ((bV).view.loc (VT d L) ↦[(bV).view.set]{fullShare} g))
abbrev pairB (f g : S64x2x128.Idx → Elt F .f32) (k : ℕ) : sProp 𝕄 :=
  iprop(((aW).view.loc (VT d L) ↦[(aW).view.set]{fullShare} mix f g k) ∗ ((bW).view.loc (VT d L) ↦[(bW).view.set]{fullShare} g))

theorem step_a (f g : S64x2x128.Idx → Elt F .f32) (k : ℕ) (hk : k < 1024)
    (off : Fin 3 → ℕ) (hoff : off = row k) (inb : ∀ a, off a + S1x1x16.size a ≤ S64x2x128.size a) :
    (((aV).view.loc (VT d L) ↦[(aV).view.set]{fullShare} (aV).view.writes (Elt F) (mix f g k)
        [⟨Rect.unit (s := S64x2x128) off S1x1x16.size inb,
          k0_pay10 (k0_pay2 (View.readAt (Elt F) (aV).view (Rect.unit (s := S64x2x128) off S1x1x16.size inb).toLoadRect (mix f g k)))
            (View.readAt (Elt F) (bV).view (Rect.unit (s := S64x2x128) off S1x1x16.size inb).toLoadRect g)⟩]) : sProp 𝕄)
      = ((aV).view.loc (VT d L) ↦[(aV).view.set]{fullShare} mix f g (k + 1)) :=
  congrArg (fun c : S64x2x128.Idx → Elt F .f32 => ((aV).view.loc (VT d L) ↦[(aV).view.set]{fullShare} c : sProp 𝕄))
    (mix_step (aV).view (bV).view (mix f g k) g f g k hk rfl rfl off hoff inb)

theorem step_b (f g : S64x2x128.Idx → Elt F .f32) (k : ℕ) (hk : k < 1024)
    (off : Fin 3 → ℕ) (hoff : off = row k) (inb : ∀ a, off a + S1x1x16.size a ≤ S64x2x128.size a) :
    (((aW).view.loc (VT d L) ↦[(aW).view.set]{fullShare} (aW).view.writes (Elt F) (mix f g k)
        [⟨Rect.unit (s := S64x2x128) off S1x1x16.size inb,
          k0_pay10 (k0_pay2 (View.readAt (Elt F) (aW).view (Rect.unit (s := S64x2x128) off S1x1x16.size inb).toLoadRect (mix f g k)))
            (View.readAt (Elt F) (bW).view (Rect.unit (s := S64x2x128) off S1x1x16.size inb).toLoadRect g)⟩]) : sProp 𝕄)
      = ((aW).view.loc (VT d L) ↦[(aW).view.set]{fullShare} mix f g (k + 1)) :=
  congrArg (fun c : S64x2x128.Idx → Elt F .f32 => ((aW).view.loc (VT d L) ↦[(aW).view.set]{fullShare} c : sProp 𝕄))
    (mix_step (aW).view (bW).view (mix f g k) g f g k hk rfl rfl off hoff inb)

theorem trip1 (f g : S64x2x128.Idx → Elt F .f32) (v2 : BitVec 32) (k : Fin k0_t1_loop.trips) (u : Unit) :
    (pairA d L f g k.val : sProp 𝕄)
      ⊢ wp frame (wpE (defs₀ (F := F)) 𝒱₀ (VT d L) none) Set.univ
          (k0_t1_body (F := F) L xV (Memref.isWhole_whole _) iV (Memref.isWhole_whole _) jV' (Memref.isWhole_whole _) oV (Memref.isWhole_whole _)
            lV (Memref.isWhole_whole _) mV (Memref.isWhole_whole _) aV (Memref.isWhole_whole _) bV (Memref.isWhole_whole _)
            aW (Memref.isWhole_whole _) bW (Memref.isWhole_whole _)
            cc0_scratch6 cc0_scratch7 cc0_scratch8 cc0_scratch9 cc0_scratch10 cc0_scoped0 cc0_scoped1 v2 k u)
          fun _ => pairA d L f g (k.val + 1) := by
  unfold k0_t1_body
  iintro ⟨HA, HB⟩
  sl_exec
  sl_step
  isplitl [HA]
  · iapply (Entails.of_eq (step_a d L f g k.val k.isLt _ (k0_off2_row k) (k0_off2_inb k)))
    iexact HA
  · iexact HB

theorem trip2 (f g : S64x2x128.Idx → Elt F .f32) (v2 : BitVec 32) (c0_i32_53 : BitVec 32) (k : Fin k0_t2_loop.trips) (u : Unit) :
    (pairB d L f g k.val : sProp 𝕄)
      ⊢ wp frame (wpE (defs₀ (F := F)) 𝒱₀ (VT d L) none) Set.univ
          (k0_t2_body (F := F) L xV (Memref.isWhole_whole _) iV (Memref.isWhole_whole _) jV' (Memref.isWhole_whole _) oV (Memref.isWhole_whole _)
            lV (Memref.isWhole_whole _) mV (Memref.isWhole_whole _) aV (Memref.isWhole_whole _) bV (Memref.isWhole_whole _)
            aW (Memref.isWhole_whole _) bW (Memref.isWhole_whole _)
            cc0_scratch6 cc0_scratch7 cc0_scratch8 cc0_scratch9 cc0_scratch10 cc0_scoped0 cc0_scoped1 v2 c0_i32_53 k u)
          fun _ => pairB d L f g (k.val + 1) := by
  unfold k0_t2_body
  iintro ⟨HA, HB⟩
  sl_exec
  sl_step
  isplitl [HA]
  · iapply (Entails.of_eq (step_b d L f g k.val k.isLt _ (k0_off4_row k) (k0_off4_inb k)))
    iexact HA
  · iexact HB

theorem trip3 (f g : S64x2x128.Idx → Elt F .f32) (v2 : BitVec 32) (c0_i32_53 : BitVec 32) (k : Fin k0_t3_loop.trips) (u : Unit) :
    (pairA d L f g k.val : sProp 𝕄)
      ⊢ wp frame (wpE (defs₀ (F := F)) 𝒱₀ (VT d L) none) Set.univ
          (k0_t3_body (F := F) L xV (Memref.isWhole_whole _) iV (Memref.isWhole_whole _) jV' (Memref.isWhole_whole _) oV (Memref.isWhole_whole _)
            lV (Memref.isWhole_whole _) mV (Memref.isWhole_whole _) aV (Memref.isWhole_whole _) bV (Memref.isWhole_whole _)
            aW (Memref.isWhole_whole _) bW (Memref.isWhole_whole _)
            cc0_scratch6 cc0_scratch7 cc0_scratch8 cc0_scratch9 cc0_scratch10 cc0_scoped0 cc0_scoped1 v2 c0_i32_53 k u)
          fun _ => pairA d L f g (k.val + 1) := by
  unfold k0_t3_body
  iintro ⟨HA, HB⟩
  sl_exec
  sl_step
  isplitl [HA]
  · iapply (Entails.of_eq (step_a d L f g k.val k.isLt _ (k0_off5_row k) (k0_off5_inb k)))
    iexact HA
  · iexact HB

theorem trip4 (f g : S64x2x128.Idx → Elt F .f32) (v2 : BitVec 32) (v48 : BitVec 32) (k : Fin k0_t4_loop.trips) (u : Unit) :
    (pairB d L f g k.val : sProp 𝕄)
      ⊢ wp frame (wpE (defs₀ (F := F)) 𝒱₀ (VT d L) none) Set.univ
          (k0_t4_body (F := F) L xV (Memref.isWhole_whole _) iV (Memref.isWhole_whole _) jV' (Memref.isWhole_whole _) oV (Memref.isWhole_whole _)
            lV (Memref.isWhole_whole _) mV (Memref.isWhole_whole _) aV (Memref.isWhole_whole _) bV (Memref.isWhole_whole _)
            aW (Memref.isWhole_whole _) bW (Memref.isWhole_whole _)
            cc0_scratch6 cc0_scratch7 cc0_scratch8 cc0_scratch9 cc0_scratch10 cc0_scoped0 cc0_scoped1 v2 v48 k u)
          fun _ => pairB d L f g (k.val + 1) := by
  unfold k0_t4_body
  iintro ⟨HA, HB⟩
  sl_exec
  sl_step
  isplitl [HA]
  · iapply (Entails.of_eq (step_b d L f g k.val k.isLt _ (k0_off6_row k) (k0_off6_inb k)))
    iexact HA
  · iexact HB

theorem trip5 (f g : S64x2x128.Idx → Elt F .f32) (v2 : BitVec 32) (k : Fin k0_t5_loop.trips) (u : Unit) :
    (pairA d L f g k.val : sProp 𝕄)
      ⊢ wp frame (wpE (defs₀ (F := F)) 𝒱₀ (VT d L) none) Set.univ
          (k0_t5_body (F := F) L xV (Memref.isWhole_whole _) iV (Memref.isWhole_whole _) jV' (Memref.isWhole_whole _) oV (Memref.isWhole_whole _)
            lV (Memref.isWhole_whole _) mV (Memref.isWhole_whole _) aV (Memref.isWhole_whole _) bV (Memref.isWhole_whole _)
            aW (Memref.isWhole_whole _) bW (Memref.isWhole_whole _)
            cc0_scratch6 cc0_scratch7 cc0_scratch8 cc0_scratch9 cc0_scratch10 cc0_scoped0 cc0_scoped1 v2 k u)
          fun _ => pairA d L f g (k.val + 1) := by
  unfold k0_t5_body
  iintro ⟨HA, HB⟩
  sl_exec
  sl_step
  isplitl [HA]
  · iapply (Entails.of_eq (step_a d L f g k.val k.isLt _ (k0_off7_row k) (k0_off7_inb k)))
    iexact HA
  · iexact HB

theorem trip6 (f g : S64x2x128.Idx → Elt F .f32) (v2 : BitVec 32) (k : Fin k0_t6_loop.trips) (u : Unit) :
    (pairB d L f g k.val : sProp 𝕄)
      ⊢ wp frame (wpE (defs₀ (F := F)) 𝒱₀ (VT d L) none) Set.univ
          (k0_t6_body (F := F) L xV (Memref.isWhole_whole _) iV (Memref.isWhole_whole _) jV' (Memref.isWhole_whole _) oV (Memref.isWhole_whole _)
            lV (Memref.isWhole_whole _) mV (Memref.isWhole_whole _) aV (Memref.isWhole_whole _) bV (Memref.isWhole_whole _)
            aW (Memref.isWhole_whole _) bW (Memref.isWhole_whole _)
            cc0_scratch6 cc0_scratch7 cc0_scratch8 cc0_scratch9 cc0_scratch10 cc0_scoped0 cc0_scoped1 v2 k u)
          fun _ => pairB d L f g (k.val + 1) := by
  unfold k0_t6_body
  iintro ⟨HA, HB⟩
  sl_exec
  sl_step
  isplitl [HA]
  · iapply (Entails.of_eq (step_b d L f g k.val k.isLt _ (k0_off8_row k) (k0_off8_inb k)))
    iexact HA
  · iexact HB

theorem trip7 (f g : S64x2x128.Idx → Elt F .f32) (v2 : BitVec 32) (k : Fin k0_t7_loop.trips) (u : Unit) :
    (pairA d L f g k.val : sProp 𝕄)
      ⊢ wp frame (wpE (defs₀ (F := F)) 𝒱₀ (VT d L) none) Set.univ
          (k0_t7_body (F := F) L xV (Memref.isWhole_whole _) iV (Memref.isWhole_whole _) jV' (Memref.isWhole_whole _) oV (Memref.isWhole_whole _)
            lV (Memref.isWhole_whole _) mV (Memref.isWhole_whole _) aV (Memref.isWhole_whole _) bV (Memref.isWhole_whole _)
            aW (Memref.isWhole_whole _) bW (Memref.isWhole_whole _)
            cc0_scratch6 cc0_scratch7 cc0_scratch8 cc0_scratch9 cc0_scratch10 cc0_scoped0 cc0_scoped1 v2 k u)
          fun _ => pairA d L f g (k.val + 1) := by
  unfold k0_t7_body
  iintro ⟨HA, HB⟩
  sl_exec
  sl_step
  isplitl [HA]
  · iapply (Entails.of_eq (step_a d L f g k.val k.isLt _ (k0_off9_row k) (k0_off9_inb k)))
    iexact HA
  · iexact HB

theorem trip8 (f g : S64x2x128.Idx → Elt F .f32) (c0_i32_217 : BitVec 32) (c1_i32_219 : BitVec 32) (k : Fin k0_t8_loop.trips) (u : Unit) :
    (pairB d L f g k.val : sProp 𝕄)
      ⊢ wp frame (wpE (defs₀ (F := F)) 𝒱₀ (VT d L) none) Set.univ
          (k0_t8_body (F := F) L xV (Memref.isWhole_whole _) iV (Memref.isWhole_whole _) jV' (Memref.isWhole_whole _) oV (Memref.isWhole_whole _)
            lV (Memref.isWhole_whole _) mV (Memref.isWhole_whole _) aV (Memref.isWhole_whole _) bV (Memref.isWhole_whole _)
            aW (Memref.isWhole_whole _) bW (Memref.isWhole_whole _)
            cc0_scratch6 cc0_scratch7 cc0_scratch8 cc0_scratch9 cc0_scratch10 cc0_scoped0 cc0_scoped1 c0_i32_217 c1_i32_219 k u)
          fun _ => pairB d L f g (k.val + 1) := by
  unfold k0_t8_body
  iintro ⟨HA, HB⟩
  sl_exec
  sl_step
  isplitl [HA]
  · iapply (Entails.of_eq (step_b d L f g k.val k.isLt _ (k0_off10_row k) (k0_off10_inb k)))
    iexact HA
  · iexact HB

end Tile

end Cert.Proof.Combine

end
-- ==== Proof.CombineValue.lean ====
/-
  What one task of the sum moves: the entries of its two lists, the pieces of the table a round's lists name, the blocks
  of the result.
-/
module

public import proofs.«01_k».proof.Defs
public import proofs.«01_k».proof.Proof.CombineBase
public import proofs.«01_k».proof.Proof.CombineLoop
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.CombineIdeal
public import proofs.«01_k».proof.Proof.Gen.CombineIdeal.Skeleton

@[expose] public section

noncomputable section

namespace Cert.Proof.Combine

open Cert.CombineIdeal Cert.CombineIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.CombineIdeal.main_v0_scv : Memref Cert.CombineIdeal.sig Kind.scVector Space.hbm Cert.CombineIdeal.S32768x2x128 EltTy.f32)
local notation "iV" => (Memref.whole Cert.CombineIdeal.main_v9_scv : Memref Cert.CombineIdeal.sig Kind.scVector Space.hbm Cert.CombineIdeal.S16384 EltTy.i32)
local notation "jV'" => (Memref.whole Cert.CombineIdeal.main_v18_scv : Memref Cert.CombineIdeal.sig Kind.scVector Space.hbm Cert.CombineIdeal.S16384 EltTy.i32)
local notation "oV" => (Memref.whole Cert.CombineIdeal.main_v19_scv : Memref Cert.CombineIdeal.sig Kind.scVector Space.hbm Cert.CombineIdeal.S16384x2x128 EltTy.f32)
local notation "lV" => (Memref.whole Cert.CombineIdeal.cc0_scratch0 : Memref Cert.CombineIdeal.sig Kind.scVector Space.vmem Cert.CombineIdeal.S512 EltTy.i32)
local notation "mV" => (Memref.whole Cert.CombineIdeal.cc0_scratch1 : Memref Cert.CombineIdeal.sig Kind.scVector Space.vmem Cert.CombineIdeal.S512 EltTy.i32)
local notation "aV" => (Memref.whole Cert.CombineIdeal.cc0_scratch2 : Memref Cert.CombineIdeal.sig Kind.scVector Space.vmem Cert.CombineIdeal.S64x2x128 EltTy.f32)
local notation "bV" => (Memref.whole Cert.CombineIdeal.cc0_scratch3 : Memref Cert.CombineIdeal.sig Kind.scVector Space.vmem Cert.CombineIdeal.S64x2x128 EltTy.f32)
local notation "aW" => (Memref.whole Cert.CombineIdeal.cc0_scratch4 : Memref Cert.CombineIdeal.sig Kind.scVector Space.vmem Cert.CombineIdeal.S64x2x128 EltTy.f32)
local notation "bW" => (Memref.whole Cert.CombineIdeal.cc0_scratch5 : Memref Cert.CombineIdeal.sig Kind.scVector Space.vmem Cert.CombineIdeal.S64x2x128 EltTy.f32)

section Tile

variable (d : Dev nD) (L : grid0.Coords)

/-- The task's entries of the lists and its eight blocks of the result, as the body slices them. -/
abbrev iRowK (L : grid0.Coords) : Memref sig .scVector .hbm S512 .i32 :=
  (iV).slice (Rect.unit (s := S16384) (k0_off1 L) S512.size (k0_off1_inb L)) (fun _ => rfl)
abbrev jRowK (L : grid0.Coords) : Memref sig .scVector .hbm S512 .i32 :=
  (jV').slice (Rect.unit (s := S16384) (k0_off1 L) S512.size (k0_off1_inb L)) (fun _ => rfl)
abbrev oBlkK (L : grid0.Coords) (j : Fin 8) : Memref sig .scVector .hbm S64x2x128 .f32 :=
  (oV).slice (Rect.unit (s := S16384x2x128) (k0_off3 L (BitVec.ofNat 32 (16 * j.val))) S64x2x128.size (k0_off3_inb L j)) (fun _ => rfl)

abbrev csem (k : Nat) (hk : k < 7 := by decide) : DmaSem sig := ⟨k, hk⟩
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0)

abbrev oPt (j : Fin 8) (f : Buf (Elt F) (oLoc d)) : sProp 𝕄 := (oBlkK L j).view.loc (VT d L) ↦[(oBlkK L j).view.set]{fullShare} f

/-- A buffer last rewritten whole reads as what was written. -/
theorem read_last_whole {κ : Kind} {sp : Space} {s : Shape} {e : EltTy} {Val : EltTy → Type} [∀ e, Nonempty (Val e)]
    (v : View sig κ sp s e) (f : v.ty.Contents Val) (p : s.Idx → Val e) (l : List (View.Piece Val s e)) :
    v.read Val (v.writes Val f (⟨Rect.whole s, p⟩ :: l)) = p := by
  funext x
  have h := View.read_writes_cons_emb (v := v) (f := f) (Rect.whole s) p l x
  rw [Rect.emb_whole_apply] at h
  exact h

/-- Entry `k` of a list's window of 64 at `64 * j`, out of the task's 512 fetched at `k0_off1`. -/
def entry (j : Fin 8) (k : Fin 64) : S16384.Idx :=
  fun | 0 => ⟨1024 * (L 1).val + 512 * (L 0).val + (64 * j.val + k.val), by
    have h1 : (L 1).val < 16 := (L 1).isLt
    have h0 : (L 0).val < 2 := (L 0).isLt
    show _ < 16384
    omega⟩

/-- The pieces of the table the words of round `j` of a list name. -/
def piece (X : Buf (Elt F) (xLoc d)) (I : S16384.Idx → BitVec 32) (j : Fin 8) : S64x2x128.Idx → Elt F .f32 :=
  fun y => (X : S32768x2x128.Idx → F .f32) (gix (I (fst ((oBlkK L j).view.emb y))) ((oBlkK L j).view.emb y))

/-- What the stream of round `j` delivers. -/
theorem gather_val (X : Buf (Elt F) (xLoc d)) (I : S16384.Idx → BitVec 32) (j : Fin 8)
    (hx : ∀ a, (![0, 0, 0] : Fin 3 → Nat) a + S32768x2x128.size a ≤ S32768x2x128.size a)
    (hg : S32768x2x128.Gathers 0 S64x2x128) (hn : S64.numel = 64) (r : S64.Idx → BitVec 32) (hlt : ∀ x, (r x).toNat < 32768)
    (hr : ∀ k : Fin 64, r (S64.rowMajor.symm (k.cast hn.symm)) = I (entry L j k)) (y : S64x2x128.Idx) :
    SparseCore.gatherPayload (F := F) (e := .f32) hg
        (View.read (Elt F) ((xV).slice (Rect.unit (s := S32768x2x128) ![0, 0, 0] S32768x2x128.size hx) (fun _ => rfl)).view X)
        (SparseCore.rows (F := F) (si := S64) (o := 64) (z := 32768) r hn hlt) y
      = piece d L X I j y := by
  unfold SparseCore.gatherPayload piece
  rw [View.read_apply]
  refine (cast_eq _ _).trans ?_
  refine congrArg (X : S32768x2x128.Idx → F .f32) (funext fun b => ?_)
  have hw := hr (y 0)
  have hb := hlt (S64.rowMajor.symm ((y 0).cast hn.symm))
  have he : entry L j (y 0) = fst ((oBlkK L j).view.emb y) := by
    funext b
    match b with
    | 0 =>
      apply Fin.ext
      show _ = k0_off3 L (BitVec.ofNat 32 (16 * j.val)) 0 + 1 * (y 0).val
      rw [k0_off3_eq]
      show 1024 * (L 1).val + 512 * (L 0).val + (64 * j.val + (y 0).val) = 1024 * (L 1).val + 512 * (L 0).val + 64 * j.val + 1 * (y 0).val
      omega
  rw [he] at hw
  generalize hR : (SparseCore.rows (F := F) (si := S64) (o := 64) (z := 32768) r hn hlt) = R
  have hR0 : (R (y 0)).val = (r (S64.rowMajor.symm ((y 0).cast hn.symm))).toNat := by rw [← hR]; rfl
  match b with
  | 0 =>
    apply Fin.ext
    have h0 := congrArg Fin.val (Shape.Gathers.idx_axis hg R y)
    rw [hw] at hb hR0
    exact (Nat.zero_add _).trans ((Nat.one_mul _).trans (h0.trans (hR0.trans (gix_zero _ _ hb).symm)))
  | 1 =>
    apply Fin.ext
    have h1 := Shape.Gathers.idx_of_ne hg R y 1 (by decide)
    show 0 + 1 * (hg.idx R y 1).val = k0_off3 L (BitVec.ofNat 32 (16 * j.val)) 1 + 1 * (y 1).val
    rw [h1, k0_off3_eq]
    rfl
  | 2 =>
    apply Fin.ext
    have h1 := Shape.Gathers.idx_of_ne hg R y 2 (by decide)
    show 0 + 1 * (hg.idx R y 2).val = k0_off3 L (BitVec.ofNat 32 (16 * j.val)) 2 + 1 * (y 2).val
    rw [h1, k0_off3_eq]
    rfl

/-- What the fetch of list one lands in the task's vector memory. -/
abbrev PAY (I : Buf (Elt F) (iLoc d)) : S512.Idx → Elt F .i32 := ReadAs.same.apply ((iRowK L).view.read (Elt F) I)

theorem PAY_apply (I : Buf (Elt F) (iLoc d)) (x : S512.Idx) : PAY d L I x = I ((iRowK L).view.emb x) :=
  (View.read_apply _ _).trans (cast_eq _ _)

theorem lWin (g0 : Buf (Elt F) ((lV).view.loc (VT d L))) (pay : S512.Idx → Elt F .i32) (off : Fin 1 → Nat)
    (h : ∀ a, off a + S64.size a ≤ S512.size a) (x : S64.Idx) :
    View.read (Elt F) ((lV).slice (Rect.unit (s := S512) off S64.size h) (fun _ => rfl)).view
        ((lV).view.writes (Elt F) g0 [⟨Rect.whole S512, pay⟩]) x
      = pay ((Rect.unit (s := S512) off S64.size h).emb x) := by
  have e : View.read (Elt F) ((lV).slice (Rect.unit (s := S512) off S64.size h) (fun _ => rfl)).view
        ((lV).view.writes (Elt F) g0 [⟨Rect.whole S512, pay⟩]) x
      = View.read (Elt F) (lV).view ((lV).view.writes (Elt F) g0 [⟨Rect.whole S512, pay⟩])
          ((Rect.unit (s := S512) off S64.size h).emb x) := by
    rw [View.read_apply, View.read_apply]; rfl
  rw [e]
  exact congrFun (read_last_whole (lV).view g0 pay []) _

/-- The words of any window of fetched list one name pieces of the table. -/
theorem PAY_ok (I : Buf (Elt F) (iLoc d)) (hI : ∀ n : S16384.Idx, ((I : S16384.Idx → BitVec 32) n).toNat < 32768)
    (g0 : Buf (Elt F) ((lV).view.loc (VT d L)))
    (pay : S512.Idx → Elt F .i32) (hpay : pay = PAY d L I) (off : Fin 1 → Nat) (h : ∀ a, off a + S64.size a ≤ S512.size a) :
    ∀ x, (View.read (Elt F) ((lV).slice (Rect.unit (s := S512) off S64.size h) (fun _ => rfl)).view
      ((lV).view.writes (Elt F) g0 [⟨Rect.whole S512, pay⟩]) x).toNat < 32768 := by
  subst hpay; intro x
  rw [lWin, PAY_apply]
  exact hI _

theorem PAY_entry (I : Buf (Elt F) (iLoc d)) (j : Fin 8) (h : ∀ a, (![64 * j.val] : Fin 1 → Nat) a + S64.size a ≤ S512.size a)
    (g0 : Buf (Elt F) ((lV).view.loc (VT d L))) (k : Fin 64) (hn : S64.numel = 64) :
    View.read (Elt F) ((lV).slice (Rect.unit (s := S512) ![64 * j.val] S64.size h) (fun _ => rfl)).view
        ((lV).view.writes (Elt F) g0 [⟨Rect.whole S512, PAY d L I⟩])
        (S64.rowMajor.symm (k.cast hn.symm))
      = (I : S16384.Idx → BitVec 32) (entry L j k) := by
  generalize hx : S64.rowMajor.symm (k.cast hn.symm) = x
  have hz : (x 0).val = k.val := by
    have := Shape.rowMajor_val_one x
    rw [← hx, Equiv.apply_symm_apply] at this
    rw [← hx]
    exact this.symm
  rw [lWin, PAY_apply]
  refine congrArg (I : S16384.Idx → BitVec 32) (funext fun b => ?_)
  match b with
  | 0 =>
    apply Fin.ext
    show k0_off1 L 0 + 1 * (64 * j.val + 1 * (x 0).val) = 1024 * (L 1).val + 512 * (L 0).val + (64 * j.val + k.val)
    rw [hz, k0_off1_eq]
    show 1024 * (L 1).val + 512 * (L 0).val + 1 * (64 * j.val + 1 * k.val) = 1024 * (L 1).val + 512 * (L 0).val + (64 * j.val + k.val)
    omega

/-- What the fetch of list two lands in the task's vector memory. -/
abbrev PAZ (I : Buf (Elt F) (jLoc d)) : S512.Idx → Elt F .i32 := ReadAs.same.apply ((jRowK L).view.read (Elt F) I)

theorem PAZ_apply (I : Buf (Elt F) (jLoc d)) (x : S512.Idx) : PAZ d L I x = I ((jRowK L).view.emb x) :=
  (View.read_apply _ _).trans (cast_eq _ _)

theorem mWin (g0 : Buf (Elt F) ((mV).view.loc (VT d L))) (pay : S512.Idx → Elt F .i32) (off : Fin 1 → Nat)
    (h : ∀ a, off a + S64.size a ≤ S512.size a) (x : S64.Idx) :
    View.read (Elt F) ((mV).slice (Rect.unit (s := S512) off S64.size h) (fun _ => rfl)).view
        ((mV).view.writes (Elt F) g0 [⟨Rect.whole S512, pay⟩]) x
      = pay ((Rect.unit (s := S512) off S64.size h).emb x) := by
  have e : View.read (Elt F) ((mV).slice (Rect.unit (s := S512) off S64.size h) (fun _ => rfl)).view
        ((mV).view.writes (Elt F) g0 [⟨Rect.whole S512, pay⟩]) x
      = View.read (Elt F) (mV).view ((mV).view.writes (Elt F) g0 [⟨Rect.whole S512, pay⟩])
          ((Rect.unit (s := S512) off S64.size h).emb x) := by
    rw [View.read_apply, View.read_apply]; rfl
  rw [e]
  exact congrFun (read_last_whole (mV).view g0 pay []) _

/-- The words of any window of fetched list two name pieces of the table. -/
theorem PAZ_ok (I : Buf (Elt F) (jLoc d)) (hI : ∀ n : S16384.Idx, ((I : S16384.Idx → BitVec 32) n).toNat < 32768)
    (g0 : Buf (Elt F) ((mV).view.loc (VT d L)))
    (pay : S512.Idx → Elt F .i32) (hpay : pay = PAZ d L I) (off : Fin 1 → Nat) (h : ∀ a, off a + S64.size a ≤ S512.size a) :
    ∀ x, (View.read (Elt F) ((mV).slice (Rect.unit (s := S512) off S64.size h) (fun _ => rfl)).view
      ((mV).view.writes (Elt F) g0 [⟨Rect.whole S512, pay⟩]) x).toNat < 32768 := by
  subst hpay; intro x
  rw [mWin, PAZ_apply]
  exact hI _

theorem PAZ_entry (I : Buf (Elt F) (jLoc d)) (j : Fin 8) (h : ∀ a, (![64 * j.val] : Fin 1 → Nat) a + S64.size a ≤ S512.size a)
    (g0 : Buf (Elt F) ((mV).view.loc (VT d L))) (k : Fin 64) (hn : S64.numel = 64) :
    View.read (Elt F) ((mV).slice (Rect.unit (s := S512) ![64 * j.val] S64.size h) (fun _ => rfl)).view
        ((mV).view.writes (Elt F) g0 [⟨Rect.whole S512, PAZ d L I⟩])
        (S64.rowMajor.symm (k.cast hn.symm))
      = (I : S16384.Idx → BitVec 32) (entry L j k) := by
  generalize hx : S64.rowMajor.symm (k.cast hn.symm) = x
  have hz : (x 0).val = k.val := by
    have := Shape.rowMajor_val_one x
    rw [← hx, Equiv.apply_symm_apply] at this
    rw [← hx]
    exact this.symm
  rw [mWin, PAZ_apply]
  refine congrArg (I : S16384.Idx → BitVec 32) (funext fun b => ?_)
  match b with
  | 0 =>
    apply Fin.ext
    show k0_off1 L 0 + 1 * (64 * j.val + 1 * (x 0).val) = 1024 * (L 1).val + 512 * (L 0).val + (64 * j.val + k.val)
    rw [hz, k0_off1_eq]
    show 1024 * (L 1).val + 512 * (L 0).val + 1 * (64 * j.val + 1 * k.val) = 1024 * (L 1).val + 512 * (L 0).val + (64 * j.val + k.val)
    omega

theorem pts_a (c : Buf (Elt F) ((aV).view.loc (VT d L))) (p : S64x2x128.Idx → Elt F .f32) (h : View.read (Elt F) (aV).view c = p) :
    ((aV).view.loc (VT d L) ↦[(aV).view.set]{fullShare} c : sProp 𝕄)
      = ((aV).view.loc (VT d L) ↦[(aV).view.set]{fullShare} p) :=
  congrArg (fun c : S64x2x128.Idx → Elt F .f32 => ((aV).view.loc (VT d L) ↦[(aV).view.set]{fullShare} c : sProp 𝕄)) h

theorem pts_b (c : Buf (Elt F) ((bV).view.loc (VT d L))) (p : S64x2x128.Idx → Elt F .f32) (h : View.read (Elt F) (bV).view c = p) :
    ((bV).view.loc (VT d L) ↦[(bV).view.set]{fullShare} c : sProp 𝕄)
      = ((bV).view.loc (VT d L) ↦[(bV).view.set]{fullShare} p) :=
  congrArg (fun c : S64x2x128.Idx → Elt F .f32 => ((bV).view.loc (VT d L) ↦[(bV).view.set]{fullShare} c : sProp 𝕄)) h

theorem pts_aW (c : Buf (Elt F) ((aW).view.loc (VT d L))) (p : S64x2x128.Idx → Elt F .f32) (h : View.read (Elt F) (aW).view c = p) :
    ((aW).view.loc (VT d L) ↦[(aW).view.set]{fullShare} c : sProp 𝕄)
      = ((aW).view.loc (VT d L) ↦[(aW).view.set]{fullShare} p) :=
  congrArg (fun c : S64x2x128.Idx → Elt F .f32 => ((aW).view.loc (VT d L) ↦[(aW).view.set]{fullShare} c : sProp 𝕄)) h

theorem pts_bW (c : Buf (Elt F) ((bW).view.loc (VT d L))) (p : S64x2x128.Idx → Elt F .f32) (h : View.read (Elt F) (bW).view c = p) :
    ((bW).view.loc (VT d L) ↦[(bW).view.set]{fullShare} c : sProp 𝕄)
      = ((bW).view.loc (VT d L) ↦[(bW).view.set]{fullShare} p) :=
  congrArg (fun c : S64x2x128.Idx → Elt F .f32 => ((bW).view.loc (VT d L) ↦[(bW).view.set]{fullShare} c : sProp 𝕄)) h

theorem land_a (X : Buf (Elt F) (xLoc d)) (I : Buf (Elt F) (iLoc d)) (j : Fin 8)
    (b0 : Buf (Elt F) ((aV).view.loc (VT d L))) (pl : List (View.Piece (Elt F) S64x2x128 .f32)) (g0 : Buf (Elt F) ((lV).view.loc (VT d L)))
    (h : ∀ a, (![64 * j.val] : Fin 1 → Nat) a + S64.size a ≤ S512.size a)
    (hx : ∀ a, (![0, 0, 0] : Fin 3 → Nat) a + S32768x2x128.size a ≤ S32768x2x128.size a)
    (hg : S32768x2x128.Gathers 0 S64x2x128) (hn : S64.numel = 64)
    (hlt : ∀ x, (View.read (Elt F) ((lV).slice (Rect.unit (s := S512) ![64 * j.val] S64.size h) (fun _ => rfl)).view
        ((lV).view.writes (Elt F) g0 [⟨Rect.whole S512, PAY d L I⟩]) x).toNat < 32768) :
    ((aV).view.loc (VT d L) ↦[(aV).view.set]{fullShare} (aV).view.writes (Elt F) b0
          (⟨Rect.whole S64x2x128, SparseCore.gatherPayload (F := F) (e := .f32) hg
            (View.read (Elt F) ((xV).slice (Rect.unit (s := S32768x2x128) ![0, 0, 0] S32768x2x128.size hx) (fun _ => rfl)).view X)
            (SparseCore.rows (F := F) (si := S64) (o := 64) (z := 32768)
              (View.read (Elt F) ((lV).slice (Rect.unit (s := S512) ![64 * j.val] S64.size h) (fun _ => rfl)).view
                ((lV).view.writes (Elt F) g0 [⟨Rect.whole S512, PAY d L I⟩])) hn hlt)⟩ :: pl) : sProp 𝕄)
      = ((aV).view.loc (VT d L) ↦[(aV).view.set]{fullShare} piece d L X I j) := by
  refine pts_a d L _ _ ?_
  funext y
  refine (congrFun (read_last_whole (aV).view b0 _ pl) y).trans ?_
  exact gather_val d L X I j hx hg hn _ hlt (fun k => PAY_entry d L I j h g0 k hn) y

theorem land_b (X : Buf (Elt F) (xLoc d)) (I : Buf (Elt F) (jLoc d)) (j : Fin 8)
    (b0 : Buf (Elt F) ((bV).view.loc (VT d L))) (pl : List (View.Piece (Elt F) S64x2x128 .f32)) (g0 : Buf (Elt F) ((mV).view.loc (VT d L)))
    (h : ∀ a, (![64 * j.val] : Fin 1 → Nat) a + S64.size a ≤ S512.size a)
    (hx : ∀ a, (![0, 0, 0] : Fin 3 → Nat) a + S32768x2x128.size a ≤ S32768x2x128.size a)
    (hg : S32768x2x128.Gathers 0 S64x2x128) (hn : S64.numel = 64)
    (hlt : ∀ x, (View.read (Elt F) ((mV).slice (Rect.unit (s := S512) ![64 * j.val] S64.size h) (fun _ => rfl)).view
        ((mV).view.writes (Elt F) g0 [⟨Rect.whole S512, PAZ d L I⟩]) x).toNat < 32768) :
    ((bV).view.loc (VT d L) ↦[(bV).view.set]{fullShare} (bV).view.writes (Elt F) b0
          (⟨Rect.whole S64x2x128, SparseCore.gatherPayload (F := F) (e := .f32) hg
            (View.read (Elt F) ((xV).slice (Rect.unit (s := S32768x2x128) ![0, 0, 0] S32768x2x128.size hx) (fun _ => rfl)).view X)
            (SparseCore.rows (F := F) (si := S64) (o := 64) (z := 32768)
              (View.read (Elt F) ((mV).slice (Rect.unit (s := S512) ![64 * j.val] S64.size h) (fun _ => rfl)).view
                ((mV).view.writes (Elt F) g0 [⟨Rect.whole S512, PAZ d L I⟩])) hn hlt)⟩ :: pl) : sProp 𝕄)
      = ((bV).view.loc (VT d L) ↦[(bV).view.set]{fullShare} piece d L X I j) := by
  refine pts_b d L _ _ ?_
  funext y
  refine (congrFun (read_last_whole (bV).view b0 _ pl) y).trans ?_
  exact gather_val d L X I j hx hg hn _ hlt (fun k => PAZ_entry d L I j h g0 k hn) y

theorem land_aW (X : Buf (Elt F) (xLoc d)) (I : Buf (Elt F) (iLoc d)) (j : Fin 8)
    (b0 : Buf (Elt F) ((aW).view.loc (VT d L))) (pl : List (View.Piece (Elt F) S64x2x128 .f32)) (g0 : Buf (Elt F) ((lV).view.loc (VT d L)))
    (h : ∀ a, (![64 * j.val] : Fin 1 → Nat) a + S64.size a ≤ S512.size a)
    (hx : ∀ a, (![0, 0, 0] : Fin 3 → Nat) a + S32768x2x128.size a ≤ S32768x2x128.size a)
    (hg : S32768x2x128.Gathers 0 S64x2x128) (hn : S64.numel = 64)
    (hlt : ∀ x, (View.read (Elt F) ((lV).slice (Rect.unit (s := S512) ![64 * j.val] S64.size h) (fun _ => rfl)).view
        ((lV).view.writes (Elt F) g0 [⟨Rect.whole S512, PAY d L I⟩]) x).toNat < 32768) :
    ((aW).view.loc (VT d L) ↦[(aW).view.set]{fullShare} (aW).view.writes (Elt F) b0
          (⟨Rect.whole S64x2x128, SparseCore.gatherPayload (F := F) (e := .f32) hg
            (View.read (Elt F) ((xV).slice (Rect.unit (s := S32768x2x128) ![0, 0, 0] S32768x2x128.size hx) (fun _ => rfl)).view X)
            (SparseCore.rows (F := F) (si := S64) (o := 64) (z := 32768)
              (View.read (Elt F) ((lV).slice (Rect.unit (s := S512) ![64 * j.val] S64.size h) (fun _ => rfl)).view
                ((lV).view.writes (Elt F) g0 [⟨Rect.whole S512, PAY d L I⟩])) hn hlt)⟩ :: pl) : sProp 𝕄)
      = ((aW).view.loc (VT d L) ↦[(aW).view.set]{fullShare} piece d L X I j) := by
  refine pts_aW d L _ _ ?_
  funext y
  refine (congrFun (read_last_whole (aW).view b0 _ pl) y).trans ?_
  exact gather_val d L X I j hx hg hn _ hlt (fun k => PAY_entry d L I j h g0 k hn) y

theorem land_bW (X : Buf (Elt F) (xLoc d)) (I : Buf (Elt F) (jLoc d)) (j : Fin 8)
    (b0 : Buf (Elt F) ((bW).view.loc (VT d L))) (pl : List (View.Piece (Elt F) S64x2x128 .f32)) (g0 : Buf (Elt F) ((mV).view.loc (VT d L)))
    (h : ∀ a, (![64 * j.val] : Fin 1 → Nat) a + S64.size a ≤ S512.size a)
    (hx : ∀ a, (![0, 0, 0] : Fin 3 → Nat) a + S32768x2x128.size a ≤ S32768x2x128.size a)
    (hg : S32768x2x128.Gathers 0 S64x2x128) (hn : S64.numel = 64)
    (hlt : ∀ x, (View.read (Elt F) ((mV).slice (Rect.unit (s := S512) ![64 * j.val] S64.size h) (fun _ => rfl)).view
        ((mV).view.writes (Elt F) g0 [⟨Rect.whole S512, PAZ d L I⟩]) x).toNat < 32768) :
    ((bW).view.loc (VT d L) ↦[(bW).view.set]{fullShare} (bW).view.writes (Elt F) b0
          (⟨Rect.whole S64x2x128, SparseCore.gatherPayload (F := F) (e := .f32) hg
            (View.read (Elt F) ((xV).slice (Rect.unit (s := S32768x2x128) ![0, 0, 0] S32768x2x128.size hx) (fun _ => rfl)).view X)
            (SparseCore.rows (F := F) (si := S64) (o := 64) (z := 32768)
              (View.read (Elt F) ((mV).slice (Rect.unit (s := S512) ![64 * j.val] S64.size h) (fun _ => rfl)).view
                ((mV).view.writes (Elt F) g0 [⟨Rect.whole S512, PAZ d L I⟩])) hn hlt)⟩ :: pl) : sProp 𝕄)
      = ((bW).view.loc (VT d L) ↦[(bW).view.set]{fullShare} piece d L X I j) := by
  refine pts_bW d L _ _ ?_
  funext y
  refine (congrFun (read_last_whole (bW).view b0 _ pl) y).trans ?_
  exact gather_val d L X I j hx hg hn _ hlt (fun k => PAZ_entry d L I j h g0 k hn) y

/-- A block rewritten whole with a round's summed pieces holds the result. -/
theorem blk_pts (X : Buf (Elt F) (xLoc d)) (I : Buf (Elt F) (iLoc d)) (J : Buf (Elt F) (jLoc d)) (j : Fin 8) (o0 : Buf (Elt F) (oLoc d))
    (p : S64x2x128.Idx → Elt F .f32) (hp : p = mix (piece d L X I j) (piece d L X J j) 1024) :
    oPt d L j ((oBlkK L j).view.writes (Elt F) o0 [⟨Rect.whole S64x2x128, p⟩]) = oPt d L j (G d X I J) := by
  refine pointsTo_congr fun i hi => ?_
  obtain ⟨y, rfl⟩ := View.exists_emb_of_mem_set (oBlkK L j).view hi
  have h := congrFun (read_last_whole (oBlkK L j).view o0 p []) y
  rw [View.read_apply] at h
  refine h.trans ?_
  rw [hp, mix_last]
  rfl

end Tile

end Cert.Proof.Combine

end
-- ==== Proof.CombineTile.lean ====
/-
  One task of the sum: vector subcore `(c, i)` fetches its 512 entries of each list and, in eight rounds over two pairs of
  buffers, gathers the 64 pieces a round of each list names out of the table, sums the pair and copies the sums to the
  round's block of the result. Run once, at a symbolic subcore, with the contents carried.
-/
module

public import proofs.«01_k».proof.Defs
public import proofs.«01_k».proof.Proof.CombineBase
public import proofs.«01_k».proof.Proof.CombineLoop
public import proofs.«01_k».proof.Proof.CombineValue
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.CombineIdeal
public import proofs.«01_k».proof.Proof.Gen.CombineIdeal.Skeleton

@[expose] public section

noncomputable section

namespace Cert.Proof.Combine

open Cert.CombineIdeal Cert.CombineIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.CombineIdeal.main_v0_scv : Memref Cert.CombineIdeal.sig Kind.scVector Space.hbm Cert.CombineIdeal.S32768x2x128 EltTy.f32)
local notation "iV" => (Memref.whole Cert.CombineIdeal.main_v9_scv : Memref Cert.CombineIdeal.sig Kind.scVector Space.hbm Cert.CombineIdeal.S16384 EltTy.i32)
local notation "jV'" => (Memref.whole Cert.CombineIdeal.main_v18_scv : Memref Cert.CombineIdeal.sig Kind.scVector Space.hbm Cert.CombineIdeal.S16384 EltTy.i32)
local notation "oV" => (Memref.whole Cert.CombineIdeal.main_v19_scv : Memref Cert.CombineIdeal.sig Kind.scVector Space.hbm Cert.CombineIdeal.S16384x2x128 EltTy.f32)
local notation "lV" => (Memref.whole Cert.CombineIdeal.cc0_scratch0 : Memref Cert.CombineIdeal.sig Kind.scVector Space.vmem Cert.CombineIdeal.S512 EltTy.i32)
local notation "mV" => (Memref.whole Cert.CombineIdeal.cc0_scratch1 : Memref Cert.CombineIdeal.sig Kind.scVector Space.vmem Cert.CombineIdeal.S512 EltTy.i32)
local notation "aV" => (Memref.whole Cert.CombineIdeal.cc0_scratch2 : Memref Cert.CombineIdeal.sig Kind.scVector Space.vmem Cert.CombineIdeal.S64x2x128 EltTy.f32)
local notation "bV" => (Memref.whole Cert.CombineIdeal.cc0_scratch3 : Memref Cert.CombineIdeal.sig Kind.scVector Space.vmem Cert.CombineIdeal.S64x2x128 EltTy.f32)
local notation "aW" => (Memref.whole Cert.CombineIdeal.cc0_scratch4 : Memref Cert.CombineIdeal.sig Kind.scVector Space.vmem Cert.CombineIdeal.S64x2x128 EltTy.f32)
local notation "bW" => (Memref.whole Cert.CombineIdeal.cc0_scratch5 : Memref Cert.CombineIdeal.sig Kind.scVector Space.vmem Cert.CombineIdeal.S64x2x128 EltTy.f32)

section Tile

variable (d : Dev nD) (L : grid0.Coords)

set_option maxHeartbeats 4000000 in
set_option maxRecDepth 100000 in
/-- One subcore's task, run once at a symbolic subcore. -/
theorem tile_run (X : Buf (Elt F) (xLoc d)) (I : Buf (Elt F) (iLoc d)) (J : Buf (Elt F) (jLoc d)) (o0 : Buf (Elt F) (oLoc d))
    (hI : ∀ n : S16384.Idx, ((I : S16384.Idx → BitVec 32) n).toNat < 32768)
    (hJ : ∀ n : S16384.Idx, ((J : S16384.Idx → BitVec 32) n).toNat < 32768)
    (q : PosShare TreeShare)
    (O : CellTallies nD τ sig (HIx 1)) (W : Waits sig (HIx 1))
    (g0 : Buf (Elt F) ((lV).view.loc (VT d L))) (g1 : Buf (Elt F) ((mV).view.loc (VT d L)))
    (a0 : Buf (Elt F) ((aV).view.loc (VT d L))) (b0 : Buf (Elt F) ((bV).view.loc (VT d L)))
    (a1 : Buf (Elt F) ((aW).view.loc (VT d L))) (b1 : Buf (Elt F) ((bW).view.loc (VT d L))) :
    (iprop(Transfers.MayWaits (VT d L) (default : HIx 1) O
        ∗ ((iRowK L).view.loc (VT d L) ↦[(iRowK L).view.set]{fullShare} I)
        ∗ ((jRowK L).view.loc (VT d L) ↦[(jRowK L).view.set]{fullShare} J)
        ∗ ((xV).view.loc (VT d L) ↦{Transfers.shareTokN q 0} X)
        ∗ ((xV).view.loc (VT d L) ↦{Transfers.shareTokN q 1} X)
        ∗ ((xV).view.loc (VT d L) ↦{Transfers.shareTokN q 2} X)
        ∗ ((xV).view.loc (VT d L) ↦{Transfers.shareTokN q 3} X)
        ∗ oPt d L 0 o0 ∗ oPt d L 1 o0 ∗ oPt d L 2 o0 ∗ oPt d L 3 o0 ∗ oPt d L 4 o0 ∗ oPt d L 5 o0 ∗ oPt d L 6 o0 ∗ oPt d L 7 o0
        ∗ ((lV).view.loc (VT d L) ↦[(lV).view.set]{fullShare} g0)
        ∗ ((mV).view.loc (VT d L) ↦[(mV).view.set]{fullShare} g1)
        ∗ ((aV).view.loc (VT d L) ↦[(aV).view.set]{fullShare} a0)
        ∗ ((bV).view.loc (VT d L) ↦[(bV).view.set]{fullShare} b0)
        ∗ ((aW).view.loc (VT d L) ↦[(aW).view.set]{fullShare} a1)
        ∗ ((bW).view.loc (VT d L) ↦[(bW).view.set]{fullShare} b1)
        ∗ cells0 d L
        ∗ owes (VT d L) O W) : sProp 𝕄)
      ⊢ wp frame (wpE (defs₀ (F := F)) 𝒱₀ (VT d L) none) Set.univ
          (cc0_k L xV (Memref.isWhole_whole _) iV (Memref.isWhole_whole _) jV' (Memref.isWhole_whole _) oV (Memref.isWhole_whole _)
            lV (Memref.isWhole_whole _) mV (Memref.isWhole_whole _) aV (Memref.isWhole_whole _) bV (Memref.isWhole_whole _)
            aW (Memref.isWhole_whole _) bW (Memref.isWhole_whole _)
            cc0_scratch6 cc0_scratch7 cc0_scratch8 cc0_scratch9 cc0_scratch10 cc0_scoped0 cc0_scoped1)
          fun _ => iprop(((iRowK L).view.loc (VT d L) ↦[(iRowK L).view.set]{fullShare} I)
            ∗ ((jRowK L).view.loc (VT d L) ↦[(jRowK L).view.set]{fullShare} J)
            ∗ ((xV).view.loc (VT d L) ↦{Transfers.shareTokN q 0} X)
            ∗ ((xV).view.loc (VT d L) ↦{Transfers.shareTokN q 1} X)
            ∗ ((xV).view.loc (VT d L) ↦{Transfers.shareTokN q 2} X)
            ∗ ((xV).view.loc (VT d L) ↦{Transfers.shareTokN q 3} X)
            ∗ oPt d L 0 (G d X I J) ∗ oPt d L 1 (G d X I J) ∗ oPt d L 2 (G d X I J) ∗ oPt d L 3 (G d X I J) ∗ oPt d L 4 (G d X I J) ∗ oPt d L 5 (G d X I J) ∗ oPt d L 6 (G d X I J) ∗ oPt d L 7 (G d X I J)
            ∗ (∃ g, (lV).view.loc (VT d L) ↦[(lV).view.set]{fullShare} g)
            ∗ (∃ g, (mV).view.loc (VT d L) ↦[(mV).view.set]{fullShare} g)
            ∗ (∃ g, (aV).view.loc (VT d L) ↦[(aV).view.set]{fullShare} g)
            ∗ (∃ g, (bV).view.loc (VT d L) ↦[(bV).view.set]{fullShare} g)
            ∗ (∃ g, (aW).view.loc (VT d L) ↦[(aW).view.set]{fullShare} g)
            ∗ (∃ g, (bW).view.loc (VT d L) ↦[(bW).view.set]{fullShare} g)
            ∗ cells0 d L
            ∗ ∃ W', owes (VT d L) O W') := by
  iintro ⟨#Hmw, HI, HJ, HX0, HX1, HX2, HX3, HO0, HO1, HO2, HO3, HO4, HO5, HO6, HO7, HG, HH, HA, HB, HC, HD, ⟨Hc0, Hc1, Hc2, Hc3, Hc4, Hc5, Hc6⟩, HO⟩
  have hin := fun g off h => PAY_ok d L I hI g (PAY d L I) rfl off h
  have hjn := fun g off h => PAZ_ok d L J hJ g (PAZ d L J) rfl off h
  sl_unfold [cc0_k]
  sl_exec
  ihave HA := (show ((aV).view.loc (VT d L) ↦[(aV).view.set]{fullShare} (aV).view.writes (Elt F) (aV).view.junk [⟨Rect.whole cc0_scratch2.ty.shape, tile_run.sl.gather2 d L X I hin⟩] : sProp 𝕄)
    ⊢ ((aV).view.loc (VT d L) ↦[(aV).view.set]{fullShare} piece d L X I 0) from Entails.of_eq (land_a d L X I 0 _ _ _ _ _ _ _ _)) $$ HA
  ihave HB := (show ((bV).view.loc (VT d L) ↦[(bV).view.set]{fullShare} (bV).view.writes (Elt F) (bV).view.junk [⟨Rect.whole cc0_scratch3.ty.shape, tile_run.sl.gather3 d L X J hjn⟩] : sProp 𝕄)
    ⊢ ((bV).view.loc (VT d L) ↦[(bV).view.set]{fullShare} piece d L X J 0) from Entails.of_eq (land_b d L X J 0 _ _ _ _ _ _ _ _)) $$ HB
  sl_for (fun k (_ : Unit) => pairA d L (piece d L X I 0) (piece d L X J 0) k) $$ [HA HB]
  case region => intro k u; exact trip1 d L _ _ _ k u
  · isplitl [HA]
    · rw [mix_zero]
      iexact HA
    · iexact HB
  iintro %_ ⟨HA, HB⟩
  sl_exec
  ihave HC := (show ((aW).view.loc (VT d L) ↦[(aW).view.set]{fullShare} (aW).view.writes (Elt F) (aW).view.junk [⟨Rect.whole cc0_scratch4.ty.shape, tile_run.sl.gather4 d L X I hin⟩] : sProp 𝕄)
    ⊢ ((aW).view.loc (VT d L) ↦[(aW).view.set]{fullShare} piece d L X I 1) from Entails.of_eq (land_aW d L X I 1 _ _ _ _ _ _ _ _)) $$ HC
  ihave HD := (show ((bW).view.loc (VT d L) ↦[(bW).view.set]{fullShare} (bW).view.writes (Elt F) (bW).view.junk [⟨Rect.whole cc0_scratch5.ty.shape, tile_run.sl.gather5 d L X J hjn⟩] : sProp 𝕄)
    ⊢ ((bW).view.loc (VT d L) ↦[(bW).view.set]{fullShare} piece d L X J 1) from Entails.of_eq (land_bW d L X J 1 _ _ _ _ _ _ _ _)) $$ HD
  sl_for (fun k (_ : Unit) => pairB d L (piece d L X I 1) (piece d L X J 1) k) $$ [HC HD]
  case region => intro k u; exact trip2 d L _ _ _ _ k u
  · isplitl [HC]
    · rw [mix_zero]
      iexact HC
    · iexact HD
  iintro %_ ⟨HC, HD⟩
  sl_exec
  ihave HA := (show ((aV).view.loc (VT d L) ↦[(aV).view.set]{fullShare} (aV).view.writes (Elt F) (aV).view.junk [⟨Rect.whole cc0_scratch2.ty.shape, tile_run.sl.gather1 d L X I hin⟩] : sProp 𝕄)
    ⊢ ((aV).view.loc (VT d L) ↦[(aV).view.set]{fullShare} piece d L X I 2) from Entails.of_eq (land_a d L X I 2 _ _ _ _ _ _ _ _)) $$ HA
  ihave HB := (show ((bV).view.loc (VT d L) ↦[(bV).view.set]{fullShare} (bV).view.writes (Elt F) (bV).view.junk [⟨Rect.whole cc0_scratch3.ty.shape, tile_run.sl.gather2_1 d L X J hjn⟩] : sProp 𝕄)
    ⊢ ((bV).view.loc (VT d L) ↦[(bV).view.set]{fullShare} piece d L X J 2) from Entails.of_eq (land_b d L X J 2 _ _ _ _ _ _ _ _)) $$ HB
  sl_for (fun k (_ : Unit) => pairA d L (piece d L X I 2) (piece d L X J 2) k) $$ [HA HB]
  case region => intro k u; exact trip3 d L _ _ _ _ k u
  · isplitl [HA]
    · rw [mix_zero]
      iexact HA
    · iexact HB
  iintro %_ ⟨HA, HB⟩
  sl_exec
  ihave HC := (show ((aW).view.loc (VT d L) ↦[(aW).view.set]{fullShare} (aW).view.writes (Elt F) (aW).view.junk [⟨Rect.whole cc0_scratch4.ty.shape, tile_run.sl.gather1_1 d L X I hin⟩] : sProp 𝕄)
    ⊢ ((aW).view.loc (VT d L) ↦[(aW).view.set]{fullShare} piece d L X I 3) from Entails.of_eq (land_aW d L X I 3 _ _ _ _ _ _ _ _)) $$ HC
  ihave HD := (show ((bW).view.loc (VT d L) ↦[(bW).view.set]{fullShare} (bW).view.writes (Elt F) (bW).view.junk [⟨Rect.whole cc0_scratch5.ty.shape, tile_run.sl.gather2_2 d L X J hjn⟩] : sProp 𝕄)
    ⊢ ((bW).view.loc (VT d L) ↦[(bW).view.set]{fullShare} piece d L X J 3) from Entails.of_eq (land_bW d L X J 3 _ _ _ _ _ _ _ _)) $$ HD
  sl_for (fun k (_ : Unit) => pairB d L (piece d L X I 3) (piece d L X J 3) k) $$ [HC HD]
  case region => intro k u; exact trip4 d L _ _ _ _ k u
  · isplitl [HC]
    · rw [mix_zero]
      iexact HC
    · iexact HD
  iintro %_ ⟨HC, HD⟩
  sl_exec
  ihave HA := (show ((aV).view.loc (VT d L) ↦[(aV).view.set]{fullShare} (aV).view.writes (Elt F) (aV).view.junk [⟨Rect.whole cc0_scratch2.ty.shape, tile_run.sl.gather1_2 d L X I hin⟩] : sProp 𝕄)
    ⊢ ((aV).view.loc (VT d L) ↦[(aV).view.set]{fullShare} piece d L X I 4) from Entails.of_eq (land_a d L X I 4 _ _ _ _ _ _ _ _)) $$ HA
  ihave HB := (show ((bV).view.loc (VT d L) ↦[(bV).view.set]{fullShare} (bV).view.writes (Elt F) (bV).view.junk [⟨Rect.whole cc0_scratch3.ty.shape, tile_run.sl.gather2_3 d L X J hjn⟩] : sProp 𝕄)
    ⊢ ((bV).view.loc (VT d L) ↦[(bV).view.set]{fullShare} piece d L X J 4) from Entails.of_eq (land_b d L X J 4 _ _ _ _ _ _ _ _)) $$ HB
  sl_for (fun k (_ : Unit) => pairA d L (piece d L X I 4) (piece d L X J 4) k) $$ [HA HB]
  case region => intro k u; exact trip5 d L _ _ _ k u
  · isplitl [HA]
    · rw [mix_zero]
      iexact HA
    · iexact HB
  iintro %_ ⟨HA, HB⟩
  sl_exec
  ihave HC := (show ((aW).view.loc (VT d L) ↦[(aW).view.set]{fullShare} (aW).view.writes (Elt F) (aW).view.junk [⟨Rect.whole cc0_scratch4.ty.shape, tile_run.sl.gather1_3 d L X I hin⟩] : sProp 𝕄)
    ⊢ ((aW).view.loc (VT d L) ↦[(aW).view.set]{fullShare} piece d L X I 5) from Entails.of_eq (land_aW d L X I 5 _ _ _ _ _ _ _ _)) $$ HC
  ihave HD := (show ((bW).view.loc (VT d L) ↦[(bW).view.set]{fullShare} (bW).view.writes (Elt F) (bW).view.junk [⟨Rect.whole cc0_scratch5.ty.shape, tile_run.sl.gather2_4 d L X J hjn⟩] : sProp 𝕄)
    ⊢ ((bW).view.loc (VT d L) ↦[(bW).view.set]{fullShare} piece d L X J 5) from Entails.of_eq (land_bW d L X J 5 _ _ _ _ _ _ _ _)) $$ HD
  sl_for (fun k (_ : Unit) => pairB d L (piece d L X I 5) (piece d L X J 5) k) $$ [HC HD]
  case region => intro k u; exact trip6 d L _ _ _ k u
  · isplitl [HC]
    · rw [mix_zero]
      iexact HC
    · iexact HD
  iintro %_ ⟨HC, HD⟩
  sl_exec
  ihave HA := (show ((aV).view.loc (VT d L) ↦[(aV).view.set]{fullShare} (aV).view.writes (Elt F) (aV).view.junk [⟨Rect.whole cc0_scratch2.ty.shape, tile_run.sl.gather1_4 d L X I hin⟩] : sProp 𝕄)
    ⊢ ((aV).view.loc (VT d L) ↦[(aV).view.set]{fullShare} piece d L X I 6) from Entails.of_eq (land_a d L X I 6 _ _ _ _ _ _ _ _)) $$ HA
  ihave HB := (show ((bV).view.loc (VT d L) ↦[(bV).view.set]{fullShare} (bV).view.writes (Elt F) (bV).view.junk [⟨Rect.whole cc0_scratch3.ty.shape, tile_run.sl.gather2_5 d L X J hjn⟩] : sProp 𝕄)
    ⊢ ((bV).view.loc (VT d L) ↦[(bV).view.set]{fullShare} piece d L X J 6) from Entails.of_eq (land_b d L X J 6 _ _ _ _ _ _ _ _)) $$ HB
  sl_for (fun k (_ : Unit) => pairA d L (piece d L X I 6) (piece d L X J 6) k) $$ [HA HB]
  case region => intro k u; exact trip7 d L _ _ _ k u
  · isplitl [HA]
    · rw [mix_zero]
      iexact HA
    · iexact HB
  iintro %_ ⟨HA, HB⟩
  have plan : Transfers.BatchOfUse (VT d L) (SemLoc.dma (sig := sig) (csem 4)) 0 2 := trivial
  sl_exec
  ihave HC := (show ((aW).view.loc (VT d L) ↦[(aW).view.set]{fullShare} (aW).view.writes (Elt F) (aW).view.junk [⟨Rect.whole cc0_scratch4.ty.shape, tile_run.sl.gather1_5 d L X I hin⟩] : sProp 𝕄)
    ⊢ ((aW).view.loc (VT d L) ↦[(aW).view.set]{fullShare} piece d L X I 7) from Entails.of_eq (land_aW d L X I 7 _ _ _ _ _ _ _ _)) $$ HC
  ihave HD := (show ((bW).view.loc (VT d L) ↦[(bW).view.set]{fullShare} (bW).view.writes (Elt F) (bW).view.junk [⟨Rect.whole cc0_scratch5.ty.shape, tile_run.sl.gather2_6 d L X J hjn⟩] : sProp 𝕄)
    ⊢ ((bW).view.loc (VT d L) ↦[(bW).view.set]{fullShare} piece d L X J 7) from Entails.of_eq (land_bW d L X J 7 _ _ _ _ _ _ _ _)) $$ HD
  sl_for (fun k (_ : Unit) => pairB d L (piece d L X I 7) (piece d L X J 7) k) $$ [HC HD]
  case region => intro k u; exact trip8 d L _ _ _ _ k u
  · isplitl [HC]
    · rw [mix_zero]
      iexact HC
    · iexact HD
  iintro %_ ⟨HC, HD⟩
  sl_exec
  sl_step
  ihave HO0 := (show oPt d L 0 ((oBlkK L 0).view.writes (Elt F) (oBlkK L 0).view.junk [⟨Rect.whole S64x2x128, tile_run.sl.dma0_2 d L X I J⟩])
    ⊢ oPt d L 0 (G d X I J) from Entails.of_eq (blk_pts d L X I J 0 _ _ rfl)) $$ HO0
  ihave HO1 := (show oPt d L 1 ((oBlkK L 1).view.writes (Elt F) (oBlkK L 1).view.junk [⟨Rect.whole S64x2x128, tile_run.sl.dma0_3 d L X I J⟩])
    ⊢ oPt d L 1 (G d X I J) from Entails.of_eq (blk_pts d L X I J 1 _ _ rfl)) $$ HO1
  ihave HO2 := (show oPt d L 2 ((oBlkK L 2).view.writes (Elt F) (oBlkK L 2).view.junk [⟨Rect.whole S64x2x128, tile_run.sl.dma0_4 d L X I J⟩])
    ⊢ oPt d L 2 (G d X I J) from Entails.of_eq (blk_pts d L X I J 2 _ _ rfl)) $$ HO2
  ihave HO3 := (show oPt d L 3 ((oBlkK L 3).view.writes (Elt F) (oBlkK L 3).view.junk [⟨Rect.whole S64x2x128, tile_run.sl.dma0_5 d L X I J⟩])
    ⊢ oPt d L 3 (G d X I J) from Entails.of_eq (blk_pts d L X I J 3 _ _ rfl)) $$ HO3
  ihave HO4 := (show oPt d L 4 ((oBlkK L 4).view.writes (Elt F) (oBlkK L 4).view.junk [⟨Rect.whole S64x2x128, tile_run.sl.dma0_6 d L X I J⟩])
    ⊢ oPt d L 4 (G d X I J) from Entails.of_eq (blk_pts d L X I J 4 _ _ rfl)) $$ HO4
  ihave HO5 := (show oPt d L 5 ((oBlkK L 5).view.writes (Elt F) (oBlkK L 5).view.junk [⟨Rect.whole S64x2x128, tile_run.sl.dma0_7 d L X I J⟩])
    ⊢ oPt d L 5 (G d X I J) from Entails.of_eq (blk_pts d L X I J 5 _ _ rfl)) $$ HO5
  ihave HO6 := (show oPt d L 6 ((oBlkK L 6).view.writes (Elt F) o0 [⟨Rect.whole S64x2x128, tile_run.sl.dma0_8 d L X I J⟩])
    ⊢ oPt d L 6 (G d X I J) from Entails.of_eq (blk_pts d L X I J 6 _ _ rfl)) $$ HO6
  ihave HO7 := (show oPt d L 7 ((oBlkK L 7).view.writes (Elt F) o0 [⟨Rect.whole S64x2x128, tile_run.sl.dma0_9 d L X I J⟩])
    ⊢ oPt d L 7 (G d X I J) from Entails.of_eq (blk_pts d L X I J 7 _ _ rfl)) $$ HO7
  sl_close

end Tile

end Cert.Proof.Combine

end
-- ==== Proof.CombineLaunch.lean ====
/-
  The launch of the sum: what each subcore is dealt (its 512 entries of each of the two lists, a read token of the
  table, its eight blocks of the result) and what it brings back (the blocks at the sums of the pieces the lists name).
-/
module

public import proofs.«01_k».proof.Defs
public import proofs.«01_k».proof.Proof.CombineTile
public import Idealize.ShloMosaic.Lib.StableHlo.RunRead
public import Idealize.ShloMosaic.Lib.Pipeline.Frame
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.CombineIdeal
public import proofs.«01_k».proof.Proof.Gen.CombineIdeal.Skeleton

@[expose] public section

noncomputable section

namespace Cert.Proof.Combine

open Cert.CombineIdeal Cert.CombineIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq wp_hlo_within after)
open Idealize.ShloMosaic.Tactic

variable {F : FTy → Type} [FloatOps F]

local notation "𝕄" => MT nD τ sig (HIx 1) (Elt F) ℕ UU ℕ

local notation "xV" => (Memref.whole Cert.CombineIdeal.main_v0_scv : Memref Cert.CombineIdeal.sig Kind.scVector Space.hbm Cert.CombineIdeal.S32768x2x128 EltTy.f32)
local notation "iV" => (Memref.whole Cert.CombineIdeal.main_v9_scv : Memref Cert.CombineIdeal.sig Kind.scVector Space.hbm Cert.CombineIdeal.S16384 EltTy.i32)
local notation "jV'" => (Memref.whole Cert.CombineIdeal.main_v18_scv : Memref Cert.CombineIdeal.sig Kind.scVector Space.hbm Cert.CombineIdeal.S16384 EltTy.i32)
local notation "oV" => (Memref.whole Cert.CombineIdeal.main_v19_scv : Memref Cert.CombineIdeal.sig Kind.scVector Space.hbm Cert.CombineIdeal.S16384x2x128 EltTy.f32)
local notation "lV" => (Memref.whole Cert.CombineIdeal.cc0_scratch0 : Memref Cert.CombineIdeal.sig Kind.scVector Space.vmem Cert.CombineIdeal.S512 EltTy.i32)
local notation "mV" => (Memref.whole Cert.CombineIdeal.cc0_scratch1 : Memref Cert.CombineIdeal.sig Kind.scVector Space.vmem Cert.CombineIdeal.S512 EltTy.i32)
local notation "aV" => (Memref.whole Cert.CombineIdeal.cc0_scratch2 : Memref Cert.CombineIdeal.sig Kind.scVector Space.vmem Cert.CombineIdeal.S64x2x128 EltTy.f32)
local notation "bV" => (Memref.whole Cert.CombineIdeal.cc0_scratch3 : Memref Cert.CombineIdeal.sig Kind.scVector Space.vmem Cert.CombineIdeal.S64x2x128 EltTy.f32)
local notation "aW" => (Memref.whole Cert.CombineIdeal.cc0_scratch4 : Memref Cert.CombineIdeal.sig Kind.scVector Space.vmem Cert.CombineIdeal.S64x2x128 EltTy.f32)
local notation "bW" => (Memref.whole Cert.CombineIdeal.cc0_scratch5 : Memref Cert.CombineIdeal.sig Kind.scVector Space.vmem Cert.CombineIdeal.S64x2x128 EltTy.f32)

/-! ## What each subcore is dealt -/

def coordsV (c : Fin 2) (s : Fin 16) : grid0.Coords :=
  fun | 0 => c | 1 => s | ⟨_ + 2, h⟩ => absurd h (Nat.not_lt.2 (Nat.le_add_left _ _))

abbrev CI : Type := Fin 2 × Fin 16
abbrev LL (p : CI) : grid0.Coords := coordsV p.1 p.2

abbrev iRowSet (p : CI) : Finset S16384.Idx := (iRowK (LL p)).view.set
abbrev oBlkSet (p : CI × Fin 8) : Finset S16384x2x128.Idx := (oBlkK (LL p.1) p.2).view.set

theorem jRowSet_eq (p : CI) : (jRowK (LL p)).view.set = iRowSet p := rfl
theorem iRowSet_eq (p : CI) : iRowSet p = (Rect.unit (s := S16384) (k0_off1 (LL p)) S512.size (k0_off1_inb (LL p))).set := by
  show ((View.whole (main_v9_scv : Ref sig .scVector)).slice _).set = _
  rw [View.set_slice]; exact Finset.map_refl
theorem oBlkSet_eq (p : CI × Fin 8) : oBlkSet p = (Rect.unit (s := S16384x2x128) (k0_off3 (LL p.1) (BitVec.ofNat 32 (16 * p.2.val))) S64x2x128.size (k0_off3_inb (LL p.1) p.2)).set := by
  show ((View.whole (main_v19_scv : Ref sig .scVector)).slice _).set = _
  rw [View.set_slice]; exact Finset.map_refl

theorem mem_iRowSet (p : CI) (x : S16384.Idx) :
    x ∈ iRowSet p ↔ 1024 * p.2.val + 512 * p.1.val ≤ (x 0).val ∧ (x 0).val < 1024 * p.2.val + 512 * p.1.val + 512 := by
  rw [iRowSet_eq, Rect.mem_set_unit, k0_off1_eq]
  constructor
  · intro h; exact h 0
  · intro h a
    match a with
    | 0 => exact h
theorem mem_oBlkSet (p : CI × Fin 8) (x : S16384x2x128.Idx) :
    x ∈ oBlkSet p ↔ 1024 * p.1.2.val + 512 * p.1.1.val + 64 * p.2.val ≤ (x 0).val
      ∧ (x 0).val < 1024 * p.1.2.val + 512 * p.1.1.val + 64 * p.2.val + 64 := by
  rw [oBlkSet_eq, Rect.mem_set_unit, k0_off3_eq]
  constructor
  · intro h; exact h 0
  · intro h a
    match a with
    | 0 => exact h
    | 1 => exact ⟨Nat.zero_le _, (show (x 1).val < 0 + 2 by have := (x 1).isLt; exact (Nat.zero_add 2).symm ▸ this)⟩
    | 2 => exact ⟨Nat.zero_le _, (show (x 2).val < 0 + 128 by have := (x 2).isLt; exact (Nat.zero_add 128).symm ▸ this)⟩

theorem iRows_disjoint : ∀ p ∈ (Finset.univ : Finset CI), ∀ p' ∈ (Finset.univ : Finset CI), p ≠ p' → Disjoint (iRowSet p) (iRowSet p') := by
  intro p _ p' _ h
  rw [Finset.disjoint_left]
  intro x hx hx'
  rw [mem_iRowSet] at hx hx'
  have := p.1.isLt; have := p'.1.isLt
  exact h (Prod.ext (Fin.ext (by omega)) (Fin.ext (by omega)))
theorem oBlks_disjoint : ∀ p ∈ (Finset.univ : Finset (CI × Fin 8)), ∀ p' ∈ (Finset.univ : Finset (CI × Fin 8)), p ≠ p' → Disjoint (oBlkSet p) (oBlkSet p') := by
  intro p _ p' _ h
  rw [Finset.disjoint_left]
  intro x hx hx'
  rw [mem_oBlkSet] at hx hx'
  have := p.1.1.isLt; have := p'.1.1.isLt; have := p.2.isLt; have := p'.2.isLt
  exact h (Prod.ext (Prod.ext (Fin.ext (by omega)) (Fin.ext (by omega))) (Fin.ext (by omega)))
theorem iRows_cover : (Finset.univ : Finset CI).biUnion iRowSet = Finset.univ := by
  refine Finset.eq_univ_of_forall fun x => Finset.mem_biUnion.mpr ?_
  have h0 : (x 0).val < 16384 := (x 0).isLt
  refine ⟨(⟨(x 0).val / 512 % 2, Nat.mod_lt _ (by decide)⟩, ⟨(x 0).val / 1024, by omega⟩), Finset.mem_univ _, ?_⟩
  rw [mem_iRowSet]
  show 1024 * ((x 0).val / 1024) + 512 * ((x 0).val / 512 % 2) ≤ (x 0).val ∧ (x 0).val < 1024 * ((x 0).val / 1024) + 512 * ((x 0).val / 512 % 2) + 512
  omega
theorem oBlks_cover : (Finset.univ : Finset (CI × Fin 8)).biUnion oBlkSet = Finset.univ := by
  refine Finset.eq_univ_of_forall fun x => Finset.mem_biUnion.mpr ?_
  have h0 : (x 0).val < 16384 := (x 0).isLt
  refine ⟨((⟨(x 0).val / 512 % 2, Nat.mod_lt _ (by decide)⟩, ⟨(x 0).val / 1024, by omega⟩), ⟨(x 0).val / 64 % 8, Nat.mod_lt _ (by decide)⟩), Finset.mem_univ _, ?_⟩
  rw [mem_oBlkSet]
  show 1024 * ((x 0).val / 1024) + 512 * ((x 0).val / 512 % 2) + 64 * ((x 0).val / 64 % 8) ≤ (x 0).val
    ∧ (x 0).val < 1024 * ((x 0).val / 1024) + 512 * ((x 0).val / 512 % 2) + 64 * ((x 0).val / 64 % 8) + 64
  omega

/-- The token of the table a subcore reads by. -/
def xk (p : CI) : ℕ := 16 * p.1.val + p.2.val
abbrev xq (p : CI) : PosShare TreeShare := Transfers.shareTokN fullShare (xk p)
theorem xk_inj : Set.InjOn xk ((Finset.univ : Finset CI) : Set CI) := by
  intro p _ p' _ h
  unfold xk at h
  have := p.2.isLt; have := p'.2.isLt
  exact Prod.ext (Fin.ext (by omega)) (Fin.ext (by omega))
theorem xk_range : Finset.range 32 = (Finset.univ : Finset CI).image xk := by decide

theorem iPts_rows (d : Dev nD) (f : Buf (Elt F) (iLoc d)) :
    (iLoc d ↦{fullShare} f : sProp 𝕄) = bigSep Finset.univ fun p : CI => iLoc d ↦[iRowSet p]{fullShare} f := by
  rw [← pointsTo_biUnion Finset.univ (ℓ := iLoc d) iRowSet iRows_disjoint, iRows_cover]; try rfl
theorem jPts_rows (d : Dev nD) (f : Buf (Elt F) (jLoc d)) :
    (jLoc d ↦{fullShare} f : sProp 𝕄) = bigSep Finset.univ fun p : CI => jLoc d ↦[iRowSet p]{fullShare} f := by
  rw [← pointsTo_biUnion Finset.univ (ℓ := jLoc d) iRowSet iRows_disjoint, iRows_cover]; try rfl
theorem oPts_blks (d : Dev nD) (f : Buf (Elt F) (oLoc d)) :
    (oLoc d ↦{fullShare} f : sProp 𝕄) = bigSep Finset.univ fun p : CI × Fin 8 => oLoc d ↦[oBlkSet p]{fullShare} f := by
  rw [← pointsTo_biUnion Finset.univ (ℓ := oLoc d) oBlkSet oBlks_disjoint, oBlks_cover]; try rfl
theorem xPts_toks (d : Dev nD) (f : Buf (Elt F) (xLoc d)) :
    (xLoc d ↦{fullShare} f : sProp 𝕄) = iprop((xLoc d ↦{Transfers.shareDrop fullShare 32} f) ∗ bigSep Finset.univ fun p : CI => xLoc d ↦{xq p} f) := by
  have h := Transfers.pointsTo_toks_range (Ix := HIx 1) (Val := Elt F) (Name := ℕ) (U := UU) (Lvl := ℕ) (ℓ := xLoc d) (S := Finset.univ) (f := f) fullShare 32
  rw [xk_range, SparseCore.bigSep_image_of_injOn xk_inj] at h
  exact BI.Entails.antisymm h.1 h.2

/-! ## What the handshakes carry -/

/-- The table and the two lists the call is handed, and what its result's array held. -/
structure Arrs (F : FTy → Type) where
  X : (d : Dev nD) → Buf (Elt F) (xLoc d)
  I : (d : Dev nD) → Buf (Elt F) (iLoc d)
  J : (d : Dev nD) → Buf (Elt F) (jLoc d)
  o0 : (d : Dev nD) → Buf (Elt F) (oLoc d)

variable (A : Arrs F)

/-- A subcore's pieces, the result's blocks at `f`. -/
abbrev share (d : Dev nD) (f : Buf (Elt F) (oLoc d)) (p : CI) : sProp 𝕄 :=
  iprop((iLoc d ↦[iRowSet p]{fullShare} A.I d) ∗ (jLoc d ↦[iRowSet p]{fullShare} A.J d) ∗ (xLoc d ↦{xq p} A.X d) ∗ bigSep Finset.univ fun j : Fin 8 => oLoc d ↦[oBlkSet (p, j)]{fullShare} f)
/-- A SparseCore's: its subcores'. -/
abbrev shares (d : Dev nD) (f : Buf (Elt F) (oLoc d)) (c : Fin 2) : sProp 𝕄 := bigSep Finset.univ fun i : Fin 16 => share A d f (c, i)

def P : (K (F := F)).Pay (nD := nD) (Val := Elt F) (Name := ℕ) (U := UU) where
  st := fun q d c => match q with | 0 => shares A d (A.o0 d) (Fin.cast nCore_zero c)
  dn := fun q d c => match q with | 0 => shares A d (G d (A.X d) (A.I d) (A.J d)) (Fin.cast nCore_zero c)
  go := fun q d c i => match q with | 0 => share A d (A.o0 d) (Fin.cast nCore_zero c, Fin.cast nSub_zero i)
  td := fun q d c i => match q with | 0 => share A d (G d (A.X d) (A.I d) (A.J d)) (Fin.cast nCore_zero c, Fin.cast nSub_zero i)
  x := fun _ _ => iprop(emp)

instance P_storable : (P (F := F) A).IsStorable where
  st q d c := match q with
    | 0 => (inferInstance : BI.Storable (upEmb : UEmb _ 𝕄) (shares A d (A.o0 d) (Fin.cast nCore_zero c)))
  dn q d c := match q with
    | 0 => (inferInstance : BI.Storable (upEmb : UEmb _ 𝕄) (shares A d (G d (A.X d) (A.I d) (A.J d)) (Fin.cast nCore_zero c)))
  go q d c i := match q with
    | 0 => (inferInstance : BI.Storable (upEmb : UEmb _ 𝕄) (share A d (A.o0 d) (Fin.cast nCore_zero c, Fin.cast nSub_zero i)))
  td q d c i := match q with
    | 0 => (inferInstance : BI.Storable (upEmb : UEmb _ 𝕄) (share A d (G d (A.X d) (A.I d) (A.J d)) (Fin.cast nCore_zero c, Fin.cast nSub_zero i)))

theorem sep_front (a b r x o : sProp 𝕄) : iprop(a ∗ b ∗ (r ∗ x) ∗ o) = iprop(r ∗ a ∗ b ∗ x ∗ o) := by
  have h1 : iprop(a ∗ b ∗ (r ∗ x) ∗ o) ⊢ iprop(r ∗ a ∗ b ∗ x ∗ o) := by
    iintro ⟨HI, HJ, ⟨HR, HX⟩, HO⟩
    isplitl [HR]; · iexact HR
    isplitl [HI]; · iexact HI
    isplitl [HJ]; · iexact HJ
    isplitl [HX]; · iexact HX
    iexact HO
  have h2 : iprop(r ∗ a ∗ b ∗ x ∗ o) ⊢ iprop(a ∗ b ∗ (r ∗ x) ∗ o) := by
    iintro ⟨HR, HI, HJ, HX, HO⟩
    isplitl [HI]; · iexact HI
    isplitl [HJ]; · iexact HJ
    isplitl [HR HX]
    · isplitl [HR]; · iexact HR
      iexact HX
    iexact HO
  exact BI.Entails.antisymm h1 h2

/-- The whole arrays are what the subcores are dealt and what of the table stays. -/
theorem deal_eq (d : Dev nD) (f : Buf (Elt F) (oLoc d)) :
    (iprop((iLoc d ↦{fullShare} A.I d) ∗ (jLoc d ↦{fullShare} A.J d) ∗ (xLoc d ↦{fullShare} A.X d) ∗ (oLoc d ↦{fullShare} f)) : sProp 𝕄)
      = iprop((xLoc d ↦{Transfers.shareDrop fullShare 32} A.X d) ∗ bigSep Finset.univ fun c : Fin 2 => shares A d f c) := by
  have e : (bigSep Finset.univ fun c : Fin 2 => shares A d f c) = (bigSep Finset.univ fun p : CI => share A d f p) := (BI.bigSep_univ_prod _).symm
  rw [e, BI.bigSep_sep', BI.bigSep_sep', BI.bigSep_sep', iPts_rows, jPts_rows, oPts_blks, xPts_toks, BI.bigSep_univ_prod (fun p : CI × Fin 8 => (oLoc d ↦[oBlkSet p]{fullShare} f : sProp 𝕄))]
  exact sep_front _ _ _ _ _

/-! ## One subcore's task -/

section Tile

variable (d : Dev nD) (L : grid0.Coords)

theorem pts_lV' (f : Buf (Elt F) ((VT d L).loc cc0_scratch0)) :
    ((lV).view.loc (VT d L) ↦[(lV).view.set]{fullShare} f : sProp 𝕄) = (VT d L).loc cc0_scratch0 ↦{fullShare} f := by
  rw [View.set_whole]
theorem pts_mV' (f : Buf (Elt F) ((VT d L).loc cc0_scratch1)) :
    ((mV).view.loc (VT d L) ↦[(mV).view.set]{fullShare} f : sProp 𝕄) = (VT d L).loc cc0_scratch1 ↦{fullShare} f := by
  rw [View.set_whole]
theorem pts_aV' (f : Buf (Elt F) ((VT d L).loc cc0_scratch2)) :
    ((aV).view.loc (VT d L) ↦[(aV).view.set]{fullShare} f : sProp 𝕄) = (VT d L).loc cc0_scratch2 ↦{fullShare} f := by
  rw [View.set_whole]
theorem pts_bV' (f : Buf (Elt F) ((VT d L).loc cc0_scratch3)) :
    ((bV).view.loc (VT d L) ↦[(bV).view.set]{fullShare} f : sProp 𝕄) = (VT d L).loc cc0_scratch3 ↦{fullShare} f := by
  rw [View.set_whole]
theorem pts_aW' (f : Buf (Elt F) ((VT d L).loc cc0_scratch4)) :
    ((aW).view.loc (VT d L) ↦[(aW).view.set]{fullShare} f : sProp 𝕄) = (VT d L).loc cc0_scratch4 ↦{fullShare} f := by
  rw [View.set_whole]
theorem pts_bW' (f : Buf (Elt F) ((VT d L).loc cc0_scratch5)) :
    ((bW).view.loc (VT d L) ↦[(bW).view.set]{fullShare} f : sProp 𝕄) = (VT d L).loc cc0_scratch5 ↦{fullShare} f := by
  rw [View.set_whole]

abbrev dcell (d : Dev nD) (c : Fin τ.nSC) (i : Fin τ.nSub) (k : Fin 7) : GSem nD τ sig := (V d c i, .dma (csem k.val k.isLt))

theorem dcell_mem (c : Fin τ.nSC) (i : Fin τ.nSub) (k : Fin 7) : dcell d c i k ∈ ownCells (V d c i) :=
  mem_ownCells.mpr ⟨rfl, (show ∀ s : DmaSem sig, (SemLoc.dma s : SemLoc sig).isScoped .scVector = true by decide) _⟩

/-- The subcore's own cells at zero: the seven the task names and the rest. -/
theorem ownSems0_V :
    (ownSems0 (VT d L) : sProp 𝕄)
      = iprop(cells0 d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The buffers the task works in, by number. -/
def scr : Fin 6 → Ref sig .scVector := ![cc0_scratch0, cc0_scratch1, cc0_scratch2, cc0_scratch3, cc0_scratch4, cc0_scratch5]

theorem scr_inj : Function.Injective scr := by decide

abbrev scrRef (k : Fin 6) : DevRef τ sig := (Proc.scVector (cV L) (jV L)).devRef (scr k)

theorem scr_mem (k : Fin 6) : scrRef L k ∈ ownRefs (τ := τ) (.scVector (cV L) (jV L)) :=
  SparseCore.Cfg.mem_ownRefs_of_owner (p := Proc.scVector (cV L) (jV L)) (b := scrRef L k)
    (match k with | 0 => rfl | 1 => rfl | 2 => rfl | 3 => rfl | 4 => rfl | 5 => rfl)

/-- The six buffers the task works in are among the subcore's own. -/
theorem ownBufs_V :
    (ownBufs (VT d L) : sProp 𝕄)
      = iprop(((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch4 ↦{fullShare} f) ∗ (∃ f, (VT d L).loc cc0_scratch5 ↦{fullShare} f))
          ∗ bigSep ((ownRefs (τ := τ) (.scVector (cV L) (jV L))) \ Finset.univ.image (scrRef L))
              fun b => iprop(∃ f, ((d, b) : Loc nD τ sig) ↦{fullShare} f)) := by
  unfold SparseCore.Cfg.ownBufs
  have inj := Proc.devRef_injective (τ := τ) (sig := sig) (Proc.scVector (cV L) (jV L))
  rw [SparseCore.bigSep_sdiff_split' (t := Finset.univ.image (scrRef L)) (Finset.image_subset_iff.mpr fun k _ => scr_mem L k),
    SparseCore.bigSep_image_of_injOn (fun a _ b _ h => scr_inj (inj h)),
    show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A token of the table as what stays of it and four tokens of its own, for the four gathers in flight at once. -/
theorem xToks (q : PosShare TreeShare) (f : Buf (Elt F) (xLoc d)) :
    (xLoc d ↦{q} f : sProp 𝕄) ⊣⊢ iprop((xLoc d ↦{Transfers.shareDrop q 4} f) ∗ (xLoc d ↦{Transfers.shareTokN q 0} f) ∗ (xLoc d ↦{Transfers.shareTokN q 1} f) ∗ (xLoc d ↦{Transfers.shareTokN q 2} f) ∗ (xLoc d ↦{Transfers.shareTokN q 3} f)) := by
  have h : (xLoc d ↦{q} f : sProp 𝕄) ⊣⊢ iprop((xLoc d ↦{Transfers.shareDrop q 4} f) ∗ bigSep (Finset.range 4) fun i => xLoc d ↦{Transfers.shareTokN q i} f) :=
    Transfers.pointsTo_toks_range (ℓ := xLoc d) (S := Finset.univ) (f := f) q 4
  rw [show Finset.range 4 = {0, 1, 2, 3} by decide, SparseCore.bigSep_insert' (by decide), SparseCore.bigSep_insert' (by decide), SparseCore.bigSep_insert' (by decide), bigSep_singleton] at h
  exact h

/-- The words of the lists name pieces of the table. -/
structure ListOK : Prop where
  one : ∀ (d : Dev nD) (n : S16384.Idx), ((A.I d : S16384.Idx → BitVec 32) n).toNat < 32768
  two : ∀ (d : Dev nD) (n : S16384.Idx), ((A.J d : S16384.Idx → BitVec 32) n).toNat < 32768

theorem tile_body (p : CI) (hF : (K (F := F)).Facts) (hI : ListOK A) (O : CellTallies nD τ sig (HIx 1)) (W : Waits sig (HIx 1)) (hO : ∀ g, O g none = 0) :
    iprop(levAts (K (F := F)).L (K (F := F)).lev ∗ emp ∗ share A d (A.o0 d) p
        ∗ scopedBufs (VT d (LL p)) ∗ scopedSems0 (VT d (LL p)) ∗ owes (VT d (LL p)) O W)
      ⊢ wp frame (wpE (defs₀ (F := F)) 𝒱₀ (VT d (LL p)) none) Set.univ
          (cc0_k (LL p) xV (Memref.isWhole_whole _) iV (Memref.isWhole_whole _) jV' (Memref.isWhole_whole _) oV (Memref.isWhole_whole _)
            lV (Memref.isWhole_whole _) mV (Memref.isWhole_whole _) aV (Memref.isWhole_whole _) bV (Memref.isWhole_whole _)
            aW (Memref.isWhole_whole _) bW (Memref.isWhole_whole _)
            cc0_scratch6 cc0_scratch7 cc0_scratch8 cc0_scratch9 cc0_scratch10 cc0_scoped0 cc0_scoped1)
          fun _ => iprop(share A d (G d (A.X d) (A.I d) (A.J d)) p
            ∗ scopedBufs (VT d (LL p)) ∗ scopedSems0 (VT d (LL p))
            ∗ ∃ W', ⌜∀ p ∈ W', p ∈ W ∨ p.2 = none ∨ p.2 = some (0 : Fin 1)⌝ ∗ owes (VT d (LL p)) O W') := by
  rw [(K (F := F)).scopedBufs_V hF d (cV (LL p)) (jV (LL p)), SparseCore.Cfg.scopedSems0_V (Val := Elt F) d (cV (LL p)) (jV (LL p)), ownSems0_V, ownBufs_V]
  unfold share
  rw [bigSep_fin8, bigSep_fin8]
  iintro ⟨#Hlv, -, ⟨Hi, Hj, Hx, ⟨Ho0, Ho1, Ho2, Ho3, Ho4, Ho5, Ho6, Ho7⟩⟩, ⟨⟨⟨%g0, HG⟩, ⟨%g1, HH⟩, ⟨%a0, HA⟩, ⟨%b0, HB⟩, ⟨%a1, HC⟩, ⟨%b1, HD⟩⟩, Hbufs⟩, ⟨HS, Hsems⟩, HO⟩
  ihave Hmw := (show levAts (K (F := F)).L (K (F := F)).lev ⊢ Transfers.MayWaits (VT d (LL p)) (default : HIx 1) O from
    (K (F := F)).mayWaits_none (thr := VT d (LL p)) hO) $$ Hlv
  ihave HG' := (Entails.of_eq (pts_lV' (F := F) d (LL p) _).symm) $$ HG
  ihave HH' := (Entails.of_eq (pts_mV' (F := F) d (LL p) _).symm) $$ HH
  ihave HA' := (Entails.of_eq (pts_aV' (F := F) d (LL p) _).symm) $$ HA
  ihave HB' := (Entails.of_eq (pts_bV' (F := F) d (LL p) _).symm) $$ HB
  ihave HC' := (Entails.of_eq (pts_aW' (F := F) d (LL p) _).symm) $$ HC
  ihave HD' := (Entails.of_eq (pts_bW' (F := F) d (LL p) _).symm) $$ HD
  ihave Hx' := (xToks d (xq p) (A.X d)).1 $$ Hx
  icases Hx' with ⟨Hxr, Hx0, Hx1, Hx2, Hx3⟩
  iapply (wp_wand_r Idealize.ShloMosaic.frame (wpE (defs₀ (F := F)) 𝒱₀ (VT d (LL p)) none) Set.univ)
  isplitl [Hi Hj Hx0 Hx1 Hx2 Hx3 Ho0 Ho1 Ho2 Ho3 Ho4 Ho5 Ho6 Ho7 HG' HH' HA' HB' HC' HD' HS HO]
  · iapply (tile_run d (LL p) (A.X d) (A.I d) (A.J d) (A.o0 d) (hI.one d) (hI.two d) (xq p) O W g0 g1 a0 b0 a1 b1)
    isplitr; · iexact Hmw
    isplitl [Hi]; · iexact Hi
    isplitl [Hj]; · iexact Hj
    isplitl [Hx0]; · iexact Hx0
    isplitl [Hx1]; · iexact Hx1
    isplitl [Hx2]; · iexact Hx2
    isplitl [Hx3]; · iexact Hx3
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [HG']; · iexact HG'
    isplitl [HH']; · iexact HH'
    isplitl [HA']; · iexact HA'
    isplitl [HB']; · iexact HB'
    isplitl [HC']; · iexact HC'
    isplitl [HD']; · iexact HD'
    isplitl [HS]; · iexact HS
    iexact HO
  iintro %_ ⟨Hi, Hj, Hx0, Hx1, Hx2, Hx3, Ho0, Ho1, Ho2, Ho3, Ho4, Ho5, Ho6, Ho7, ⟨%g0r, HG'⟩, ⟨%g1r, HH'⟩, ⟨%a0r, HA'⟩, ⟨%b0r, HB'⟩, ⟨%a1r, HC'⟩, ⟨%b1r, HD'⟩, HS, ⟨%W', HO⟩⟩
  ihave Hx := (xToks d (xq p) (A.X d)).2 $$ [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hi Hj Hx Ho0 Ho1 Ho2 Ho3 Ho4 Ho5 Ho6 Ho7]
  · isplitl [Hi]; · iexact Hi
    isplitl [Hj]; · iexact Hj
    isplitl [Hx]; · iexact Hx
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [HG' HH' HA' HB' HC' HD' Hbufs]
  · isplitl [HG' HH' HA' HB' HC' HD']
    · isplitl [HG']; · iexists _; iapply (Entails.of_eq (pts_lV' (F := F) d (LL p) _)); iexact HG'
      isplitl [HH']; · iexists _; iapply (Entails.of_eq (pts_mV' (F := F) d (LL p) _)); iexact HH'
      isplitl [HA']; · iexists _; iapply (Entails.of_eq (pts_aV' (F := F) d (LL p) _)); iexact HA'
      isplitl [HB']; · iexists _; iapply (Entails.of_eq (pts_bV' (F := F) d (LL p) _)); iexact HB'
      isplitl [HC']; · iexists _; iapply (Entails.of_eq (pts_aW' (F := F) d (LL p) _)); iexact HC'
      iexists _; iapply (Entails.of_eq (pts_bW' (F := F) d (LL p) _)); iexact HD'
    iexact Hbufs
  isplitl [HS Hsems]
  · isplitl [HS]; · iexact HS
    iexact Hsems
  iexists W'; isplitr
  · ipureintro; intro p _
    rcases p.2 with _ | q
    · exact .inr (.inl rfl)
    · exact .inr (.inr (congrArg some (Subsingleton.elim q 0)))
  · iexact HO

end Tile

theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) jV' (Memref.isWhole_whole _) oV (Memref.isWhole_whole _)
            lV (Memref.isWhole_whole _) mV (Memref.isWhole_whole _) aV (Memref.isWhole_whole _) bV (Memref.isWhole_whole _)
            aW (Memref.isWhole_whole _) bW (Memref.isWhole_whole _)
            cc0_scratch6 cc0_scratch7 cc0_scratch8 cc0_scratch9 cc0_scratch10 cc0_scoped0 cc0_scoped1) ⟨⟩ c s := rfl

theorem tileObl (hF : (K (F := F)).Facts) (hI : ListOK A) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A d (⟨_, hci.1⟩, ⟨_, hci.2⟩) hF hI O W hO

theorem vecSplit : (K (F := F)).VecSplit' (P A) 0 := by
  intro d c
  show shares A d (A.o0 d) (Fin.cast nCore_zero c) ⊢ |={Set.univ}=> iprop(
      (bigSep Finset.univ fun i : Fin ((K (F := F)).nSub 0) => share A d (A.o0 d) (Fin.cast nCore_zero c, Fin.cast nSub_zero i))
      ∗ ((bigSep Finset.univ fun i : Fin ((K (F := F)).nSub 0) => share A d (G d (A.X d) (A.I d) (A.J d)) (Fin.cast nCore_zero c, Fin.cast nSub_zero i))
          -∗ shares A d (G d (A.X d) (A.I d) (A.J d)) (Fin.cast nCore_zero c)))
  iintro H; imodintro
  isplitl [H]; · iexact H
  iintro H; iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), bigSep_emp']
  iempintro

end Cert.Proof.Combine

end
-- ==== Proof.CombineMain.lean ====
/-
  The whole program of the sum: the host operations that cut the table and the two lists of positions into quarters,
  the call, and the reshape of its result; one run, over any float values.
-/
module

public import proofs.«01_k».proof.Defs
public import proofs.«01_k».proof.Proof.CombineLaunch
public import Idealize.ShloMosaic.Lib.StableHlo.RunRead
public import Idealize.ShloMosaic.Lib.Pipeline.Frame
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.CombineIdeal
public import proofs.«01_k».proof.Proof.Gen.CombineIdeal.Skeleton

@[expose] public section

noncomputable section

namespace Cert.Proof.Combine

open Cert.CombineIdeal Cert.CombineIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq wp_hlo_within after)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations -/

/-- The operations before the call. -/
abbrev ops0 : List (HloOp τ sig (Elt F)) :=
  [StableHlo.reshape main_arg0 main_v0 (rfl : (.f32 : EltTy) = .f32) shapeCasts_S8192x1024_S32768x2x128,
   StableHlo.unary main_arg1 main_v1 (broadcastInDim S4096x1 ![0] bcast_S4096_S4096x1_0 : (⟨S4096, .i32⟩ : BufTy).Contents (Elt F) → (⟨S4096x1, .i32⟩ : BufTy).Contents (Elt F)),
   StableHlo.nullary main_c (constantI S_ 32 4#32),
   StableHlo.unary main_c main_v2 (broadcastInDim S4096x1 ![] bcast_S_S4096x1 : (⟨S_, .i32⟩ : BufTy).Contents (Elt F) → (⟨S4096x1, .i32⟩ : BufTy).Contents (Elt F)),
   StableHlo.binary main_v1 main_v2 main_v3 (muli : (⟨S4096x1, .i32⟩ : BufTy).Contents (Elt F) → (⟨S4096x1, .i32⟩ : BufTy).Contents (Elt F) → (⟨S4096x1, .i32⟩ : BufTy).Contents (Elt F)),
   StableHlo.nullary main_v4 (iotaInDim S4 32 0),
   StableHlo.unary main_v4 main_v5 (broadcastInDim S1x4 ![1] bcast_S4_S1x4_1 : (⟨S4, .i32⟩ : BufTy).Contents (Elt F) → (⟨S1x4, .i32⟩ : BufTy).Contents (Elt F)),
   StableHlo.unary main_v3 main_v6 (broadcastInDim S4096x4 ![0, 1] bcast_S4096x1_S4096x4_0_1 : (⟨S4096x1, .i32⟩ : BufTy).Contents (Elt F) → (⟨S4096x4, .i32⟩ : BufTy).Contents (Elt F)),
   StableHlo.unary main_v5 main_v7 (broadcastInDim S4096x4 ![0, 1] bcast_S1x4_S4096x4_0_1 : (⟨S1x4, .i32⟩ : BufTy).Contents (Elt F) → (⟨S4096x4, .i32⟩ : BufTy).Contents (Elt F)),
   StableHlo.binary main_v6 main_v7 main_v8 (addi : (⟨S4096x4, .i32⟩ : BufTy).Contents (Elt F) → (⟨S4096x4, .i32⟩ : BufTy).Contents (Elt F) → (⟨S4096x4, .i32⟩ : BufTy).Contents (Elt F)),
   StableHlo.reshape main_v8 main_v9 (rfl : (.i32 : EltTy) = .i32) shapeCasts_S4096x4_S16384,
   StableHlo.unary main_arg2 main_v10 (broadcastInDim S4096x1 ![0] bcast_S4096_S4096x1_0 : (⟨S4096, .i32⟩ : BufTy).Contents (Elt F) → (⟨S4096x1, .i32⟩ : BufTy).Contents (Elt F)),
   StableHlo.nullary main_c_0 (constantI S_ 32 4#32),
   StableHlo.unary main_c_0 main_v11 (broadcastInDim S4096x1 ![] bcast_S_S4096x1 : (⟨S_, .i32⟩ : BufTy).Contents (Elt F) → (⟨S4096x1, .i32⟩ : BufTy).Contents (Elt F)),
   StableHlo.binary main_v10 main_v11 main_v12 (muli : (⟨S4096x1, .i32⟩ : BufTy).Contents (Elt F) → (⟨S4096x1, .i32⟩ : BufTy).Contents (Elt F) → (⟨S4096x1, .i32⟩ : BufTy).Contents (Elt F)),
   StableHlo.nullary main_v13 (iotaInDim S4 32 0),
   StableHlo.unary main_v13 main_v14 (broadcastInDim S1x4 ![1] bcast_S4_S1x4_1 : (⟨S4, .i32⟩ : BufTy).Contents (Elt F) → (⟨S1x4, .i32⟩ : BufTy).Contents (Elt F)),
   StableHlo.unary main_v12 main_v15 (broadcastInDim S4096x4 ![0, 1] bcast_S4096x1_S4096x4_0_1 : (⟨S4096x1, .i32⟩ : BufTy).Contents (Elt F) → (⟨S4096x4, .i32⟩ : BufTy).Contents (Elt F)),
   StableHlo.unary main_v14 main_v16 (broadcastInDim S4096x4 ![0, 1] bcast_S1x4_S4096x4_0_1 : (⟨S1x4, .i32⟩ : BufTy).Contents (Elt F) → (⟨S4096x4, .i32⟩ : BufTy).Contents (Elt F)),
   StableHlo.binary main_v15 main_v16 main_v17 (addi : (⟨S4096x4, .i32⟩ : BufTy).Contents (Elt F) → (⟨S4096x4, .i32⟩ : BufTy).Contents (Elt F) → (⟨S4096x4, .i32⟩ : BufTy).Contents (Elt F)),
   StableHlo.reshape main_v17 main_v18 (rfl : (.i32 : EltTy) = .i32) shapeCasts_S4096x4_S16384]

/-- The operation after it. -/
abbrev opLast : HloOp τ sig (Elt F) :=
  StableHlo.reshape main_v19 main_v20 (rfl : (.f32 : EltTy) = .f32) shapeCasts_S16384x2x128_S4096x1024

theorem ops0_sub : (ops0 (F := F)).Forall fun op => op.bufs ⊆ StableHlo.tcRefs τ sig :=
  ⟨StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub ..⟩
theorem ops0_fresh : (ops0 (F := F)).Forall fun op => op.fresh = ∅ := ⟨rfl, rfl, rfl, rfl, rfl, rfl, rfl, rfl, rfl, rfl, rfl, rfl, rfl, rfl, rfl, rfl, rfl, rfl, rfl, rfl, rfl⟩

abbrev UC : Finset (DevRef τ sig) := Pipeline.ucRefs τ sig

abbrev r' (b : Ref sig .tc) : DevRef τ sig := Proc.devRef .tc b

def V0 (d : Dev nD) : Valuation τ sig (Elt F) := fun b => m (d, b)
def V1 (d : Dev nD) : Valuation τ sig (Elt F) := after ops0 (V0 m d)

/-- The arrays the call is handed. -/
def AM : Arrs F where
  X d := V1 m d (r' main_v0)
  I d := V1 m d (r' main_v9)
  J d := V1 m d (r' main_v18)
  o0 d := V1 m d (r' main_v19)

/-- The call's result, and the contents after it. -/
abbrev GM (d : Dev nD) : Buf (Elt F) (oLoc d) := G d ((AM m).X d) ((AM m).I d) ((AM m).J d)
def V2 (d : Dev nD) : Valuation τ sig (Elt F) := Function.update (V1 m d) (r' main_v19) (GM m d)
def V3 (d : Dev nD) : Valuation τ sig (Elt F) := (opLast (F := F)).result (V2 m d)

abbrev S3 : Finset (DevRef τ sig) := {r' main_v9, r' main_v18, r' main_v0, r' main_v19}
abbrev SF : Finset (DevRef τ sig) := {r' main_arg0, r' main_arg1, r' main_arg2, r' main_v20}

theorem mem_UC (b : Ref sig .tc) (h : (r' b).isScoped = false) : r' b ∈ UC := by
  unfold UC Pipeline.ucRefs
  exact Finset.mem_filter.mpr ⟨StableHlo.devRef_mem_tcRefs b, by rw [h]; decide⟩
theorem S3_sub : S3 ⊆ UC := by
  intro b hb
  simp only [S3, Finset.mem_insert, Finset.mem_singleton] at hb
  rcases hb with rfl | rfl | rfl | rfl <;> exact mem_UC _ rfl
theorem SF_sub : SF ⊆ UC := by
  intro b hb
  simp only [SF, Finset.mem_insert, Finset.mem_singleton] at hb
  rcases hb with rfl | rfl | rfl | rfl <;> exact mem_UC _ rfl

theorem held_S3 (d : Dev nD) (W : Valuation τ sig (Elt F)) :
    (held (SparseCore.T d) S3 W : sProp 𝕄) = iprop((iLoc d ↦{fullShare} W (r' main_v9)) ∗ (jLoc d ↦{fullShare} W (r' main_v18)) ∗ (xLoc d ↦{fullShare} W (r' main_v0)) ∗ (oLoc d ↦{fullShare} W (r' main_v19))) := by
  unfold held S3
  rw [SparseCore.bigSep_insert' (by decide), SparseCore.bigSep_insert' (by decide), SparseCore.bigSep_insert' (by decide), bigSep_singleton]
theorem held_SF (d : Dev nD) (W : Valuation τ sig (Elt F)) :
    (held (SparseCore.T d) SF W : sProp 𝕄) = iprop(((SparseCore.T d).loc main_arg0 ↦{fullShare} W (r' main_arg0)) ∗ ((SparseCore.T d).loc main_arg1 ↦{fullShare} W (r' main_arg1)) ∗ ((SparseCore.T d).loc main_arg2 ↦{fullShare} W (r' main_arg2))
      ∗ ((SparseCore.T d).loc main_v20 ↦{fullShare} W (r' main_v20))) := by
  unfold held SF
  rw [SparseCore.bigSep_insert' (by decide), SparseCore.bigSep_insert' (by decide), SparseCore.bigSep_insert' (by decide), bigSep_singleton]

theorem V3_arg0 (d : Dev nD) : V3 m d (r' main_arg0) = m ((SparseCore.T d).loc main_arg0) := by
  unfold V3 V2 V1
  rw [StableHlo.result_of_writes_ne _ _ main_v20 main_arg0 rfl (by decide), Function.update_of_ne (by decide)]
  after_reads_simp
  rfl
theorem V3_arg1 (d : Dev nD) : V3 m d (r' main_arg1) = m ((SparseCore.T d).loc main_arg1) := by
  unfold V3 V2 V1
  rw [StableHlo.result_of_writes_ne _ _ main_v20 main_arg1 rfl (by decide), Function.update_of_ne (by decide)]
  after_reads_simp
  rfl
theorem V3_arg2 (d : Dev nD) : V3 m d (r' main_arg2) = m ((SparseCore.T d).loc main_arg2) := by
  unfold V3 V2 V1
  rw [StableHlo.result_of_writes_ne _ _ main_v20 main_arg2 rfl (by decide), Function.update_of_ne (by decide)]
  after_reads_simp
  rfl

theorem unscoped_held (d : Dev nD) : (unscopedBufs d (fun b => m ((SparseCore.T d).loc b)) : sProp 𝕄) = held (SparseCore.T d) UC (V0 m d) :=
  Pipeline.unscopedBufs_held d (V0 m d)

/-! ## @main -/

theorem st0_eq (d : Dev nD) : (bigSep Finset.univ fun c : Fin ((K (F := F)).nCore 0) => (P (AM m)).st 0 d c)
    = (bigSep Finset.univ fun c : Fin 2 => shares (AM m) d ((AM m).o0 d) c : sProp 𝕄) := rfl
theorem dn0_eq (d : Dev nD) : (bigSep Finset.univ fun c : Fin ((K (F := F)).nCore 0) => (P (AM m)).dn 0 d c)
    = (bigSep Finset.univ fun c : Fin 2 => shares (AM m) d (GM m d) c : sProp 𝕄) := rfl

theorem held_out (d : Dev nD) : (held (SparseCore.T d) UC (V1 m d) : sProp 𝕄)
    = iprop(((xLoc d ↦{Transfers.shareDrop fullShare 32} (AM m).X d) ∗ bigSep Finset.univ fun c : Fin 2 => shares (AM m) d ((AM m).o0 d) c)
        ∗ held (SparseCore.T d) (UC \ S3) (V1 m d)) := by
  rw [held_sub_split (SparseCore.T d) S3_sub, held_S3, ← deal_eq (AM m) d ((AM m).o0 d)]; rfl
theorem held_in (d : Dev nD) : (held (SparseCore.T d) UC (V2 m d) : sProp 𝕄)
    = iprop(((xLoc d ↦{Transfers.shareDrop fullShare 32} (AM m).X d) ∗ bigSep Finset.univ fun c : Fin 2 => shares (AM m) d (GM m d) c)
        ∗ held (SparseCore.T d) (UC \ S3) (V1 m d)) := by
  rw [held_sub_split (SparseCore.T d) S3_sub, held_S3, ← deal_eq (AM m) d (GM m d),
    held_congr (SparseCore.T d) (V := V2 m d) (V' := V1 m d) (S := UC \ S3) (fun b hb => ?_)]
  · unfold V2
    rw [Function.update_of_ne (show r' main_v9 ≠ r' main_v19 by decide), Function.update_of_ne (show r' main_v18 ≠ r' main_v19 by decide), Function.update_of_ne (show r' main_v0 ≠ r' main_v19 by decide), Function.update_self]
    rfl
  · unfold V2
    refine Function.update_of_ne (fun e => ?_) _ _
    subst e
    exact (Finset.mem_sdiff.mp hb).2 (by simp [S3])
theorem held_fin (d : Dev nD) : (held (SparseCore.T d) UC (V3 m d) : sProp 𝕄)
    = iprop((((SparseCore.T d).loc main_arg0 ↦{fullShare} m ((SparseCore.T d).loc main_arg0)) ∗ ((SparseCore.T d).loc main_arg1 ↦{fullShare} m ((SparseCore.T d).loc main_arg1))
      ∗ ((SparseCore.T d).loc main_arg2 ↦{fullShare} m ((SparseCore.T d).loc main_arg2)) ∗ ((SparseCore.T d).loc main_v20 ↦{fullShare} V3 m d (r' main_v20))) ∗ held (SparseCore.T d) (UC \ SF) (V3 m d)) := by
  rw [held_sub_split (SparseCore.T d) SF_sub, held_SF, V3_arg0, V3_arg1, V3_arg2]

abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
      ∗ ((SparseCore.T d).loc main_arg2 ↦{fullShare} m ((SparseCore.T d).loc main_arg2)) ∗ ((SparseCore.T d).loc main_v20 ↦{fullShare} V3 m d (r' main_v20)))

/-- What @main does from the call on. -/
abbrev tail (d : Dev nD) : Prog (TpuEff nD τ sig (Elt F) (SparseCore.Sig (ΛP (F := F)) 1) .tc) PUnit :=
  (sc (F := F)).run d 0 >>= fun _ => (hlo rfl (opLast (F := F)) fun _ => .ret (⟨⟩ : PUnit)) >>= fun _ => pure ⟨⟩

theorem main_eq (d : Dev nD) : main (F := F) d = (StableHlo.seq ops0 >>= fun _ => tail d) :=
  (show main (F := F) d = StableHlo.seqK ops0 (tail d) from rfl).trans (StableHlo.seq_bind_seqK ops0 (tail d)).symm

theorem hmain (κ : GSem nD τ sig → ℕ) (d : Dev nD) :
    iprop((K (F := F)).ctx EH (P (AM m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d UC _ ops0
    (fun op h => Pipeline.sub_ucRefs op ((List.forall_iff_forall_mem.mp ops0_sub) op h))
    (fun op h => (List.forall_iff_forall_mem.mp ops0_fresh) op h) (V0 m d)) $$ [Hb Hheld]
  · isplitl [Hb] <;> iassumption
  iintro ⟨Hb, Hheld⟩
  ihave Hh := (show held (d.tc : Thread nD τ) UC (after ops0 (V0 m d)) ⊢ _ from Entails.of_eq (held_out m d)) $$ Hheld
  icases Hh with ⟨⟨Hxr, Hsh⟩, Hrest⟩
  simp only [wp_bind, wp_pure]
  iapply ((K (F := F)).wp_run (D (F := F)) 𝒱 (EH := EH) (P := P (AM m)) κ d 0) $$ [Hst Hsh Hb Hxr Hrest Hts]
  isplitr; · iexact Hctx
  isplitl [Hst]; · iexact Hst
  isplitl [Hsh]
  · rw [st0_eq]; iexact Hsh
  iintro ⟨Hst, Hdn⟩
  ihave Hdn' := (Entails.of_eq (dn0_eq m d)) $$ Hdn
  iapply (wp_hlo_within 𝒱 (SparseCore.T d) none Set.univ (op := opLast) (S := UC) (Pipeline.sub_ucRefs _ (StableHlo.reshape_bufs_sub ..)) (V := V2 m d)) $$ [Hb Hxr Hdn' Hrest]
  · isplitl [Hb]; · iexact Hb
    rw [held_in]
    isplitl [Hxr Hdn']
    · isplitl [Hxr]; · iexact Hxr
      iexact Hdn'
    iexact Hrest
  iintro ⟨Hb, Hheld⟩
  ihave Hh := (show held (SparseCore.T d) UC ((opLast (F := F)).result (V2 m d)) ⊢ _ from Entails.of_eq (held_fin (F := F) m d)) $$ Hheld
  icases Hh with ⟨HF, -⟩
  rw [wp_ret]; imodintro; imodintro
  isplitl [Hst]; · iexact Hst
  isplitr [Hb Hts]
  · iexact HF
  isplitl [Hb] <;> iassumption

def fq (d : Dev nD) (s' : Phys nD τ sig (Elt F)) : Prop :=
  s'.mem.mem ((SparseCore.T d).loc main_v20) = V3 m d (r' main_v20)
  ∧ s'.mem.mem ((SparseCore.T d).loc main_arg0) = m ((SparseCore.T d).loc main_arg0) ∧ s'.mem.mem ((SparseCore.T d).loc main_arg1) = m ((SparseCore.T d).loc main_arg1)
  ∧ s'.mem.mem ((SparseCore.T d).loc main_arg2) = m ((SparseCore.T d).loc main_arg2)

theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (SI_pointsTo_agree (st := s') (ℓ := (SparseCore.T d).loc main_v20) (I := Finset.univ) (q := fullShare) (f := V3 m d (r' main_v20))) $$ [HSI Hr]
  · isplitl [HSI] <;> iassumption
  icases H with %hr
  ipureintro
  exact ⟨funext fun i => hr i (Finset.mem_univ i), funext fun i => h0 i (Finset.mem_univ i), funext fun i => h1 i (Finset.mem_univ i), funext fun i => h2 i (Finset.mem_univ i)⟩

/-! ## The program's run -/

/-- What the launch theorem asks of the launch's semaphores and buffers. -/
theorem callFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

def QC : PUnit × MemSt nD τ sig (Elt F) → Prop := fun r =>
  (∀ c : Dev nD, r.2.mem ((SparseCore.T c).loc main_v20) = V3 m c (r' main_v20)
    ∧ r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2))
  ∧ r.2.sem = fun _ => 0

theorem run_main [∀ e, Nonempty (Elt F e)] (hI : ListOK (AM m)) :
    θ_run (Cert.CombineIdeal.defs (F := F)) (Cert.CombineIdeal.threads (F := F)) ⟨m, fun _ => 0, ρ⟩ (QC m) :=
  SparseCore.Cfg.θ_run_sc_quiescent (K := K (F := F)) (D := D (F := F)) (𝒱 := 𝒱) (EH := EH) (P := P (AM m)) (A := ∅) callFacts v₀
    (fun q hq => match q with | 0 => nomatch hq)
    (fun q _ => match q with | 0 => tileObl (AM m) callFacts hI)
    (fun q _ => match q with | 0 => SparseCore.Cfg.VecSplit.of_plain (vecSplit (AM m)))
    m ρ main (fun _ => iprop(emp)) (FIN m) (u₀ (F := F)) (sep_elim_left.trans (hu₀ (AM m))) (hmain m ρ) (fq m) (hfin m) (QC m) (fun _ h hz => ⟨h, hz⟩)

end Cert.Proof.Combine

end
-- ==== Proof.CombineRows.lean ====
/-
  The sum's result read row by row: the pieces the call moves are quarters of the table's rows, so row `n` of the
  reshaped result is the sum of the two rows of the table the two positions `n` name.
-/
module

public import proofs.«01_k».proof.Defs
public import proofs.«01_k».proof.Proof.CombineMain
public import proofs.«01_k».proof.Proof.DispatchRows
public import Idealize.ShloMosaic.Lib.StableHlo.ReadAt

@[expose] public section

noncomputable section

namespace Cert.Proof.Combine

open Cert.CombineIdeal Cert.CombineIdeal.Gen
open Idealize.ShloMosaic
open Idealize.ShloMosaic.SparseCore (S V T)
open Idealize.ShloMosaic.StableHlo (after)
open Idealize.SL.Sem

variable {F : FTy → Type} [FloatOps F]

/-! ## The host's arrays at an index -/

variable (m : (ℓ : Loc nD τ sig) → Buf (Elt F) ℓ)

abbrev table (d : Dev nD) : S8192x1024.Idx → F .f32 := m ((SparseCore.T d).loc main_arg0)
abbrev pos1 (d : Dev nD) : S4096.Idx → BitVec 32 := m ((SparseCore.T d).loc main_arg1)
abbrev pos2 (d : Dev nD) : S4096.Idx → BitVec 32 := m ((SparseCore.T d).loc main_arg2)

/-- The token a list entry is a quarter of. -/
def ofQuarter (n : S16384.Idx) : S4096.Idx := fun | 0 => ⟨(n 0).val / 4, Nat.div_lt_of_lt_mul (n 0).isLt⟩
/-- The table's element a piece's element is. -/
def ofPiece (t : S32768x2x128.Idx) : S8192x1024.Idx := fun
  | 0 => ⟨(t 0).val / 4, Nat.div_lt_of_lt_mul (t 0).isLt⟩
  | 1 => ⟨(t 0).val % 4 * 256 + (t 1).val * 128 + (t 2).val, by
      have h0 : (t 0).val % 4 < 4 := Nat.mod_lt _ (by decide)
      have h1 : (t 1).val < 2 := (t 1).isLt
      have h2 : (t 2).val < 128 := (t 2).isLt
      show _ < 1024
      omega⟩
/-- The piece's element a result element is. -/
def toPiece (j : S4096x1024.Idx) : S16384x2x128.Idx := fun
  | 0 => ⟨(j 0).val * 4 + (j 1).val / 256, by
      have h0 : (j 0).val < 4096 := (j 0).isLt
      have h1 : (j 1).val < 1024 := (j 1).isLt
      show _ < 16384
      omega⟩
  | 1 => ⟨(j 1).val / 128 % 2, Nat.mod_lt _ (by decide)⟩
  | 2 => ⟨(j 1).val % 128, Nat.mod_lt _ (by decide)⟩

theorem X_eq (d : Dev nD) : V1 m d (r' main_v0) = shapeCast S32768x2x128 (table m d) shapeCasts_S8192x1024_S32768x2x128 := by
  unfold V1 ops0
  after_reads_simp
  rfl

/-- The position of each row, four times over with the four quarters. -/
abbrev quarters (t : IVec S4096 32) : IVec S4096x4 32 :=
  addi (broadcastInDim S4096x4 ![0, 1] bcast_S4096x1_S4096x4_0_1
      (muli (broadcastInDim S4096x1 ![0] bcast_S4096_S4096x1_0 t) (broadcastInDim S4096x1 ![] bcast_S_S4096x1 (constantI S_ 32 4#32))))
    (broadcastInDim S4096x4 ![0, 1] bcast_S1x4_S4096x4_0_1 (broadcastInDim S1x4 ![1] bcast_S4_S1x4_1 (iotaInDim S4 32 0)))

theorem I_eq (d : Dev nD) : V1 m d (r' main_v9) = shapeCast S16384 (quarters (pos1 m d)) shapeCasts_S4096x4_S16384 := by
  unfold V1 ops0
  after_reads_simp
  rfl
theorem J_eq (d : Dev nD) : V1 m d (r' main_v18) = shapeCast S16384 (quarters (pos2 m d)) shapeCasts_S4096x4_S16384 := by
  unfold V1 ops0
  after_reads_simp
  rfl

theorem R_eq (d : Dev nD) : V3 m d (r' main_v20) = shapeCast S4096x1024 (GM m d) shapeCasts_S16384x2x128_S4096x1024 := by
  unfold V3
  rw [StableHlo.reshape_result']
  unfold V2
  rw [Function.update_self]
  rfl

theorem X_at (d : Dev nD) (t : S32768x2x128.Idx) : ((AM m).X d : S32768x2x128.Idx → F .f32) t = table m d (ofPiece t) := by
  refine (congrFun (X_eq m d) t).trans (congrArg (table m d) (Shape.reshapeEquiv_eq_of_rowMajor (s := S8192x1024) (s' := S32768x2x128) _ ?_))
  rw [Shape.rowMajor_val_two, Shape.rowMajor_val_three]
  show (t 0).val / 4 * 1024 + ((t 0).val % 4 * 256 + (t 1).val * 128 + (t 2).val) = ((t 0).val * 2 + (t 1).val) * 128 + (t 2).val
  omega

/-- The row and the quarter a list entry stands for. -/
def rowQuarter (n : S16384.Idx) : S4096x4.Idx := fun
  | 0 => ⟨(n 0).val / 4, Nat.div_lt_of_lt_mul (n 0).isLt⟩
  | 1 => ⟨(n 0).val % 4, Nat.mod_lt _ (by decide)⟩

/-- The word a list holds at `n`, its positions `t`. -/
abbrev word (t : IVec S4096 32) (n : S16384.Idx) : BitVec 32 :=
  IntOp.addi (IntOp.muli (t (ofQuarter n)) 4#32) (BitVec.ofNat 32 ((n 0).val % 4))

theorem quarters_at (t : IVec S4096 32) (n : S16384.Idx) : quarters t (rowQuarter n) = word t n := by
  have hrow : ∀ (h1 : S4096.BroadcastsInDim S4096x1 ![0]) (h2 : S4096x1.BroadcastsInDim S4096x4 ![0, 1]),
      broadcastInDim S4096x4 ![0, 1] h2 (broadcastInDim S4096x1 ![0] h1 t) (rowQuarter n) = t (ofQuarter n) := by
    intro h1 h2
    simp only [broadcastInDim]
    congr 1
    funext a
    match a with
    | 0 => rfl
  have hq : ∀ (h1 : S4.BroadcastsInDim S1x4 ![1]) (h2 : S1x4.BroadcastsInDim S4096x4 ![0, 1]),
      broadcastInDim S4096x4 ![0, 1] h2 (broadcastInDim S1x4 ![1] h1 (iotaInDim S4 32 0)) (rowQuarter n) = BitVec.ofNat 32 ((n 0).val % 4) := fun _ _ => rfl
  exact congrArg₂ IntOp.addi (congrArg₂ IntOp.muli (hrow bcast_S4096_S4096x1_0 bcast_S4096x1_S4096x4_0_1) rfl) (hq bcast_S4_S1x4_1 bcast_S1x4_S4096x4_0_1)

theorem list_at (t : IVec S4096 32) (n : S16384.Idx) : shapeCast S16384 (quarters t) shapeCasts_S4096x4_S16384 n = word t n := by
  refine (congrArg (quarters t) (Shape.reshapeEquiv_eq_of_rowMajor (s := S4096x4) (s' := S16384) (y := rowQuarter n) _ ?_)).trans (quarters_at t n)
  rw [Shape.rowMajor_val_two, Shape.rowMajor_val_one]
  show (n 0).val / 4 * 4 + (n 0).val % 4 = (n 0).val
  omega

theorem I_at (d : Dev nD) (n : S16384.Idx) : ((AM m).I d : S16384.Idx → BitVec 32) n = word (pos1 m d) n :=
  (congrFun (I_eq m d) n).trans (list_at _ n)
theorem J_at (d : Dev nD) (n : S16384.Idx) : ((AM m).J d : S16384.Idx → BitVec 32) n = word (pos2 m d) n :=
  (congrFun (J_eq m d) n).trans (list_at _ n)

theorem R_at (d : Dev nD) (j : S4096x1024.Idx) : (V3 m d (r' main_v20) : S4096x1024.Idx → F .f32) j = (GM m d : S16384x2x128.Idx → F .f32) (toPiece j) := by
  refine (congrFun (R_eq m d) j).trans (congrArg (GM m d : S16384x2x128.Idx → F .f32) (Shape.reshapeEquiv_eq_of_rowMajor (s := S16384x2x128) (s' := S4096x1024) _ ?_))
  rw [Shape.rowMajor_val_two, Shape.rowMajor_val_three]
  show (((j 0).val * 4 + (j 1).val / 256) * 2 + (j 1).val / 128 % 2) * 128 + (j 1).val % 128 = (j 0).val * 1024 + (j 1).val
  omega

/-! ## The rows -/

/-- Every position names a row of the table. -/
structure PosOK : Prop where
  one : ∀ (d : Dev nD) (n : S4096.Idx), (pos1 m d n).toNat < 8192
  two : ∀ (d : Dev nD) (n : S4096.Idx), (pos2 m d n).toNat < 8192

theorem word_toNat (t : IVec S4096 32) (h : ∀ n, (t n).toNat < 8192) (n : S16384.Idx) :
    (word t n).toNat = (t (ofQuarter n)).toNat * 4 + (n 0).val % 4 :=
  Dispatch.quarter_word _ _ (h _) (Nat.mod_lt _ (by decide))

theorem word_lt (t : IVec S4096 32) (h : ∀ n, (t n).toNat < 8192) (n : S16384.Idx) : (word t n).toNat < 32768 := by
  rw [word_toNat t h n]
  have h1 := h (ofQuarter n)
  have h2 : (n 0).val % 4 < 4 := Nat.mod_lt _ (by decide)
  omega

theorem listOK (h : PosOK m) : ListOK (AM m) where
  one d n := (I_at m d n).symm ▸ word_lt _ (h.one d) n
  two d n := (J_at m d n).symm ▸ word_lt _ (h.two d) n

/-- The token a result element is of, and the table's element a position puts there. -/
def tokOf (j : S4096x1024.Idx) : S4096.Idx := fun | 0 => j 0
def elemOf (w : Nat) (j : S4096x1024.Idx) : S8192x1024.Idx := fun | 0 => ⟨w % 8192, Nat.mod_lt _ (by decide)⟩ | 1 => j 1

/-- The sums of the rows the positions name. -/
def sums (x : S8192x1024.Idx → F .f32) (t u : IVec S4096 32) : S4096x1024.Idx → F .f32 := fun j =>
  FloatOps.addf (x (elemOf (t (tokOf j)).toNat j)) (x (elemOf (u (tokOf j)).toNat j))

/-- The piece a list's word names, at a result element's place, is of the row the position names. -/
theorem piece_row (t : IVec S4096 32) (h : ∀ n, (t n).toNat < 8192) (j : S4096x1024.Idx) :
    ofPiece (gix (word t (fst (toPiece j))) (toPiece j)) = elemOf (t (tokOf j)).toNat j := by
  have hj0 : (j 0).val < 4096 := (j 0).isLt
  have hj1 : (j 1).val < 1024 := (j 1).isLt
  have ht : ofQuarter (fst (toPiece j)) = tokOf j := by
    funext a
    match a with
    | 0 => exact Fin.ext (show ((j 0).val * 4 + (j 1).val / 256) / 4 = (j 0).val by omega)
  have hw := word_toNat t h (fst (toPiece j))
  have hm : (fst (toPiece j) 0).val % 4 = (j 1).val / 256 := by
    show ((j 0).val * 4 + (j 1).val / 256) % 4 = _
    omega
  rw [ht, hm] at hw
  have hv := h (tokOf j)
  funext a
  match a with
  | 0 =>
    refine Fin.ext ?_
    show (word t (fst (toPiece j))).toNat % 32768 / 4 = (t (tokOf j)).toNat % 8192
    rw [hw]; omega
  | 1 =>
    refine Fin.ext ?_
    show (word t (fst (toPiece j))).toNat % 32768 % 4 * 256 + (j 1).val / 128 % 2 * 128 + (j 1).val % 128 = (j 1).val
    rw [hw]; omega

theorem R_sums (h : PosOK m) (d : Dev nD) : (V3 m d (r' main_v20) : S4096x1024.Idx → F .f32) = sums (table m d) (pos1 m d) (pos2 m d) := by
  funext j
  rw [R_at]
  show FloatOps.addf (((AM m).X d : S32768x2x128.Idx → F .f32) (gix (((AM m).I d : S16384.Idx → BitVec 32) (fst (toPiece j))) (toPiece j)))
    (((AM m).X d : S32768x2x128.Idx → F .f32) (gix (((AM m).J d : S16384.Idx → BitVec 32) (fst (toPiece j))) (toPiece j))) = _
  rw [X_at, X_at, I_at, J_at, piece_row _ (h.one d), piece_row _ (h.two d)]
  rfl

end Cert.Proof.Combine

end
-- ==== Proof.CombineClaims.lean ====
/-
  The claims of the sum: its frames, at words and at extended reals, from one run over any float values, and its value
  against the two rows indexed and added.
-/
module

public import proofs.«01_k».proof.Defs
public import proofs.«01_k».proof.Proof.CombineRows
public import proofs.«01_k».proof.Proof.RowGather
public import proofs.«01_k».proof.Proof.Gen.Combine
public import proofs.«01_k».proof.Proof.Gen.Pre_pos_in_range
public import proofs.«01_k».proof.Proof.Gen.ReferenceCombineIdeal.Run

@[expose] public section

noncomputable section

namespace Cert.Proof.Combine

open Idealize.ShloMosaic
open Idealize.SL.Sem

theorem andi_one (p q : BitVec 1) (h : IntOp.andi p q = 1#1) : p = 1#1 ∧ q = 1#1 := by
  revert p q
  decide

section Pre

open Cert.CombineIdeal

variable {F : FTy → Type} [FloatOps F]

/-- The precondition, as a fact of the positions. -/
theorem posOK_of_pre (m : (ℓ : Loc nD τ sig) → Buf (Elt F) ℓ)
    (h : ∀ c : Dev nD, Cert.Pre_pos_in_range.fn (F := F) (m ((c.tc : Thread nD τ).loc main_arg0)) (m ((c.tc : Thread nD τ).loc main_arg1))
      (m ((c.tc : Thread nD τ).loc main_arg2)) = fun _ => 1#1) :
    PosOK m where
  one d n := by
    have e : IntOp.andi (IntOp.andi (IntOp.andi (IntOp.cmpi .sge (pos1 m d n) 0#32) (IntOp.cmpi .slt (pos1 m d n) 8192#32))
      (IntOp.cmpi .sge (pos2 m d n) 0#32)) (IntOp.cmpi .slt (pos2 m d n) 8192#32) = 1#1 := congrFun (h d) n
    exact Dispatch.toNat_lt_of_range _ 8192#32 (by decide) (andi_one _ _ (andi_one _ _ e).1).1
  two d n := by
    have e : IntOp.andi (IntOp.andi (IntOp.andi (IntOp.cmpi .sge (pos1 m d n) 0#32) (IntOp.cmpi .slt (pos1 m d n) 8192#32))
      (IntOp.cmpi .sge (pos2 m d n) 0#32)) (IntOp.cmpi .slt (pos2 m d n) 8192#32) = 1#1 := congrFun (h d) n
    have e2 := andi_one _ _ e
    refine Dispatch.toNat_lt_of_range _ 8192#32 (by decide) ?_
    rw [(andi_one _ _ e2.1).2, e2.2]
    decide

end Pre

section Ref

open Cert.ReferenceCombineIdeal Cert.ReferenceCombineIdeal.Gen

variable {F : FTy → Type} [FloatOps F]

/-- The rows one list of positions names, as the reference indexes them. -/
abbrev named (x : FVec F S8192x1024 .f32) (t : IVec S4096 32) : FVec F S4096x1024 .f32 :=
  Host.gather gather_S8192x1024_S4096x1_S4096x1024_1_0_n_n_0_1_11024 x (broadcastInDim S4096x1 ![0] bcast_S4096_S4096x1_0
      (select (cmpi .slt t (broadcastInDim S4096 ![] bcast_S_S4096 (constantI S_ 32 0#32))) (addi t (broadcastInDim S4096 ![] bcast_S_S4096 (constantI S_ 32 8192#32))) t))

theorem named_row (x : FVec F S8192x1024 .f32) (t : IVec S4096 32) (h : ∀ n, (t n).toNat < 8192) (j : S4096x1024.Idx) :
    named x t j = x (elemOf (t (tokOf j)).toNat j) := by
  have hb := h (tokOf j)
  refine (RowGather.gather_row gather_S8192x1024_S4096x1_S4096x1024_1_0_n_n_0_1_11024_wf x _ j ⟨(t (tokOf j)).toNat, hb⟩ ?_).trans (congrArg x ?_)
  · refine Eq.trans (congrArg (fun w : BitVec 32 => w.toInt.toNat) ?_) (RowGather.wrapped (t (tokOf j)) 8192#32 (by omega))
    have hg : ∀ g : IVec S4096 32, broadcastInDim S4096x1 ![0] bcast_S4096_S4096x1_0 g (RowGather.col j) = g (tokOf j) := fun g => by
      simp only [broadcastInDim]
      congr 1
      funext a
      match a with
      | 0 => rfl
    exact hg _
  · funext a
    match a with
    | 0 => exact Fin.ext (Nat.mod_eq_of_lt hb).symm
    | 1 => rfl

/-- The reference's result is the sums of the rows the positions name. -/
theorem ref_sums (x : FVec F S8192x1024 .f32) (t u : IVec S4096 32) (ht : ∀ n, (t n).toNat < 8192) (hu : ∀ n, (u n).toNat < 8192) :
    addf (named x t) (named x u) = sums x t u := by
  funext j
  exact congrArg₂ (fun a b : F .f32 => (FloatOps.addf a b : F .f32)) (named_row x t ht j) (named_row x u hu j)

end Ref

/-! ## The claims -/

theorem frame_combineIdeal : Cert.quiescent_CombineIdeal := fun m ρ h =>
  (θ_run Cert.CombineIdeal.defs _ _).mono (fun _ h => ⟨fun c => (h.1 c).2, h.2⟩) (run_main (F := Ideal) m ρ (listOK m (posOK_of_pre m h)))

theorem frame_combine : Cert.quiescent_Combine := fun m ρ h =>
  (θ_run Cert.CombineIdeal.defs _ _).mono (fun _ h => ⟨fun c => (h.1 c).2, h.2⟩) (run_main (F := Bits) m ρ (listOK m (posOK_of_pre m h)))

theorem frame_reference : Cert.quiescent_ReferenceCombineIdeal := fun m ρ _ =>
  (θ_run Cert.ReferenceCombineIdeal.defs _ _).mono (fun r h => ⟨fun c => (h c).2, Idealize.ShloMosaic.sem_eq_zero_of_no_sems (by decide) r.2⟩)
    (Cert.ReferenceCombineIdeal.Value.run (F := Ideal) m ρ)

theorem value : Cert.algebraic_CombineIdeal_ReferenceCombineIdeal := fun m ρ m' ρ' hpre hag =>
  ⟨fun c => sums (F := Ideal) (table m c) (pos1 m c) (pos2 m c),
    (θ_run Cert.CombineIdeal.defs _ _).mono (fun _ h c => ⟨(h.1 c).1.trans (R_sums m (posOK_of_pre m hpre) c), (h.1 c).2⟩)
      (run_main (F := Ideal) m ρ (listOK m (posOK_of_pre m hpre))),
    (θ_run Cert.ReferenceCombineIdeal.defs _ _).mono (fun _ h c => ⟨(h c).1.trans (by
        rw [(hag c).1, (hag c).2.1, (hag c).2.2]
        exact ref_sums (F := Ideal) _ _ _ ((posOK_of_pre m hpre).one c) ((posOK_of_pre m hpre).two c)), (h c).2⟩)
      (Cert.ReferenceCombineIdeal.Value.run m' ρ')⟩

end Cert.Proof.Combine

end
-- ==== Proof.RouteRow.lean ====
/-
  One row of the router: the two first greatest entries of a row of extended reals, as a stable sort puts them in front
  and as two masked maxima with their least places find them, and the two weights of a softmax over them.
-/
module

public import Idealize.ShloMosaic.PureOps
public import Idealize.ShloMosaic.PureOps.Ideal.Laws
public import Idealize.ShloMosaic.Lib.SortFacts
public import Mathlib.Data.EReal.Operations
public import Mathlib.Data.Finset.Fold
public import Mathlib.Analysis.SpecialFunctions.Exp

@[expose] public section

noncomputable section

namespace Cert.Proof.Route

open Idealize.ShloMosaic

/-! ## Places in order -/

/-- Place `i` comes before place `j`: its entry is greater, or the two are equal and it stands first. -/
def Ahead {n : Nat} (f : Fin n → EReal) (i j : Fin n) : Prop := f j < f i ∨ (f j = f i ∧ i < j)

theorem Ahead.trans {n : Nat} {f : Fin n → EReal} {i j k : Fin n} (h : Ahead f i j) (h' : Ahead f j k) : Ahead f i k := by
  rcases h with h | ⟨h, hi⟩ <;> rcases h' with h' | ⟨h', hj⟩
  · exact .inl (h'.trans h)
  · exact .inl (h'.symm ▸ h)
  · exact .inl (h ▸ h')
  · exact .inr ⟨h'.trans h, hi.trans hj⟩

theorem Ahead.ne {n : Nat} {f : Fin n → EReal} {i j : Fin n} (h : Ahead f i j) : i ≠ j := by
  rintro rfl
  rcases h with h | ⟨_, h⟩
  · exact lt_irrefl _ h
  · exact lt_irrefl _ h

theorem Ahead.le {n : Nat} {f : Fin n → EReal} {i j : Fin n} (h : Ahead f i j) : f j ≤ f i := by
  rcases h with h | ⟨h, _⟩
  · exact h.le
  · exact h.le

theorem insert_ahead {n : Nat} (f : Fin n → EReal) (before : Fin n → Fin n → Bool) (hb : ∀ i j, before i j = true ↔ f j < f i)
    (a : Fin n) (l : List (Fin n)) (hl : l.Pairwise (Ahead f)) (ha : ∀ b ∈ l, a < b) :
    (insertBefore before a l).Pairwise (Ahead f) := by
  induction l with
  | nil => exact List.pairwise_singleton _ _
  | cons b l ih =>
    rw [List.pairwise_cons] at hl
    unfold insertBefore
    by_cases h : before b a = true
    · rw [if_pos h, List.pairwise_cons]
      refine ⟨fun c hc => ?_, ih hl.2 fun c hc => ha c (List.mem_cons_of_mem _ hc)⟩
      rcases List.mem_cons.1 ((perm_insertBefore before a l).mem_iff.1 hc) with rfl | hc
      · exact .inl ((hb _ _).1 h)
      · exact hl.1 c hc
    · rw [if_neg h, List.pairwise_cons]
      have hab : Ahead f a b := by
        have h1 : f b ≤ f a := not_lt.1 fun h2 => h ((hb _ _).2 h2)
        rcases h1.lt_or_eq with h1 | h1
        · exact .inl h1
        · exact .inr ⟨h1, ha b List.mem_cons_self⟩
      refine ⟨fun c hc => ?_, List.pairwise_cons.2 hl⟩
      rcases List.mem_cons.1 hc with rfl | hc
      · exact hab
      · exact hab.trans (hl.1 c hc)

theorem sort_ahead {n : Nat} (f : Fin n → EReal) (before : Fin n → Fin n → Bool) (hb : ∀ i j, before i j = true ↔ f j < f i)
    (l : List (Fin n)) (hl : l.Pairwise (· < ·)) : (stableSort before l).Pairwise (Ahead f) := by
  induction l with
  | nil => exact List.Pairwise.nil
  | cons a l ih =>
    rw [List.pairwise_cons] at hl
    exact insert_ahead f before hb a _ (ih hl.2) fun b hm => hl.1 b ((perm_stableSort before l).mem_iff.1 hm)

theorem sortedFrom_ahead {n : Nat} (f : Fin n → EReal) (before : Fin n → Fin n → Bool) (hb : ∀ i j, before i j = true ↔ f j < f i)
    (s t : Fin n) (h : s < t) : Ahead f (sortedFrom before s) (sortedFrom before t) :=
  List.pairwise_iff_get.1 (sort_ahead f before hb _ (List.pairwise_lt_finRange n)) _ _ h

/-- `p` and `q` are the two first greatest places. -/
structure Two {n : Nat} (f : Fin n → EReal) (p q : Fin n) : Prop where
  first : ∀ k, k ≠ p → Ahead f p k
  second : ∀ k, k ≠ p → k ≠ q → Ahead f q k
  ne : q ≠ p

theorem two_sorted {n : Nat} (f : Fin (n + 2) → EReal) (before : Fin (n + 2) → Fin (n + 2) → Bool)
    (hb : ∀ i j, before i j = true ↔ f j < f i) : Two f (sortedFrom before 0) (sortedFrom before 1) := by
  refine ⟨fun k hk => ?_, fun k hk hk' => ?_, fun h => ?_⟩
  · obtain ⟨s, rfl⟩ := sortedFrom_surjective before k
    refine sortedFrom_ahead f before hb _ _ (Nat.pos_of_ne_zero fun h => hk ?_)
    exact congrArg _ (Fin.ext h)
  · obtain ⟨s, rfl⟩ := sortedFrom_surjective before k
    refine sortedFrom_ahead f before hb _ _ ?_
    have h0 : s.val ≠ 0 := fun h => hk (congrArg _ (Fin.ext h))
    have h1 : s.val ≠ 1 := fun h => hk' (congrArg _ (Fin.ext h))
    show (1 : Fin (n + 2)).val < s.val
    have : (1 : Fin (n + 2)).val = 1 := rfl
    omega
  · have := sortedFrom_injective before h
    exact absurd (congrArg Fin.val this) (by show (1 : Nat) ≠ 0; omega)

/-! ## The greatest entry and its least place, folded -/

theorem fold_max_first {n : Nat} (l : Fin n → EReal) (p : Fin n) (h : ∀ k, k ≠ p → Ahead l p k) :
    Finset.univ.fold max ⊥ l = l p := by
  refine le_antisymm ((Finset.fold_max_le _).2 ⟨bot_le, fun k _ => ?_⟩) ((Finset.le_fold_max _).2 (.inr ⟨p, Finset.mem_univ _, le_rfl⟩))
  by_cases hk : k = p
  · rw [hk]
  · exact (h k hk).le

theorem toInt_minsi (x y : BitVec 32) : (IntOp.minsi x y).toInt = min x.toInt y.toInt := by
  unfold IntOp.minsi
  rw [BitVec.slt_eq_decide]
  by_cases h : x.toInt < y.toInt
  · simp [h, h.le]
  · simp [h, not_lt.1 h]

theorem toInt_fold_minsi {ι : Type} [DecidableEq ι] (s : Finset ι) (b : BitVec 32) (g : ι → BitVec 32) :
    (s.fold IntOp.minsi b g).toInt = s.fold min b.toInt fun k => (g k).toInt := by
  induction s using Finset.induction_on with
  | empty => rfl
  | insert a s ha ih => rw [Finset.fold_insert ha, Finset.fold_insert ha, toInt_minsi, ih]

theorem toInt_lane (k : Fin 128) : (BitVec.ofNat 32 k.val).toInt = k.val := by
  have := k.isLt
  rw [BitVec.toInt_eq_toNat_of_lt (by rw [BitVec.toNat_ofNat]; omega), BitVec.toNat_ofNat]
  omega

theorem fold_min_first (l : Fin 128 → EReal) (p : Fin 128) (h : ∀ k, k ≠ p → Ahead l p k) (g : Fin 128 → BitVec 32)
    (hg : ∀ k, g k = if l k = l p then BitVec.ofNat 32 k.val else 127#32) :
    Finset.univ.fold IntOp.minsi 2147483647#32 g = BitVec.ofNat 32 p.val := by
  apply BitVec.eq_of_toInt_eq
  rw [toInt_fold_minsi, toInt_lane]
  have hp : (g p).toInt = p.val := by rw [hg, if_pos rfl, toInt_lane]
  refine le_antisymm ((Finset.fold_min_le _).2 (.inr ⟨p, Finset.mem_univ _, hp.le⟩)) ((Finset.le_fold_min _).2 ⟨?_, fun k _ => ?_⟩)
  · have := p.isLt
    have h' : (2147483647#32 : BitVec 32).toInt = 2147483647 := by decide
    omega
  · rw [hg]
    by_cases hk : l k = l p
    · rw [if_pos hk, toInt_lane]
      by_cases hkp : k = p
      · rw [hkp]
      · rcases h k hkp with h' | ⟨_, h'⟩
        · exact absurd hk h'.ne
        · exact_mod_cast (Fin.lt_def.1 h').le
    · rw [if_neg hk]
      have := p.isLt
      have h' : (127#32 : BitVec 32).toInt = 127 := by decide
      omega

/-! ## A row of eight in a row of 128 lanes -/

/-- The lane of an entry. -/
abbrev lane (i : Fin 8) : Fin 128 := ⟨i.val, by omega⟩

theorem eq_lane (k : Fin 128) (h8 : k.val < 8) (p : Fin 8) (h : (⟨k.val, h8⟩ : Fin 8) = p) : k = lane p := by
  subst h
  rfl

theorem lane_ne {p q : Fin 8} (h : q ≠ p) : lane q ≠ lane p := fun e => h (Fin.ext (Fin.mk.inj_iff.1 e))

/-- The eight entries, and the lowest value in the lanes after them. -/
def padded (f : Fin 8 → EReal) (k : Fin 128) : EReal := if h : k.val < 8 then f ⟨k.val, h⟩ else ⊥

theorem padded_lane (f : Fin 8 → EReal) (i : Fin 8) : padded f (lane i) = f i := dif_pos i.isLt

/-- The row with the lane of one entry lowered. -/
def struck (f : Fin 8 → EReal) (p : Fin 8) (k : Fin 128) : EReal := if k = lane p then ⊥ else padded f k

theorem padded_first (f : Fin 8 → EReal) (hf : ∀ i, f i ≠ ⊥) (p : Fin 8) (h : ∀ k, k ≠ p → Ahead f p k) (k : Fin 128) (hk : k ≠ lane p) :
    Ahead (padded f) (lane p) k := by
  unfold Ahead
  rw [padded_lane]
  by_cases h8 : k.val < 8
  · have e : padded f k = f ⟨k.val, h8⟩ := dif_pos h8
    rw [e]
    rcases h ⟨k.val, h8⟩ (fun e => hk (eq_lane k h8 _ e)) with h | ⟨h, h'⟩
    · exact .inl h
    · exact .inr ⟨h, h'⟩
  · have e : padded f k = ⊥ := dif_neg h8
    rw [e]
    exact .inl (bot_lt_iff_ne_bot.2 (hf p))

theorem struck_first (f : Fin 8 → EReal) (hf : ∀ i, f i ≠ ⊥) (p q : Fin 8) (hqp : q ≠ p) (h : ∀ k, k ≠ p → k ≠ q → Ahead f q k)
    (k : Fin 128) (hk : k ≠ lane q) : Ahead (struck f p) (lane q) k := by
  unfold Ahead
  have eq : struck f p (lane q) = f q := (if_neg (lane_ne hqp)).trans (padded_lane f q)
  rw [eq]
  by_cases hkp : k = lane p
  · have e : struck f p k = ⊥ := if_pos hkp
    rw [e]
    exact .inl (bot_lt_iff_ne_bot.2 (hf q))
  have e : struck f p k = padded f k := if_neg hkp
  rw [e]
  by_cases h8 : k.val < 8
  · have e : padded f k = f ⟨k.val, h8⟩ := dif_pos h8
    rw [e]
    rcases h ⟨k.val, h8⟩ (fun e => hkp (eq_lane k h8 _ e)) (fun e => hk (eq_lane k h8 _ e)) with h | ⟨h, h'⟩
    · exact .inl h
    · exact .inr ⟨h, h'⟩
  · have e : padded f k = ⊥ := dif_neg h8
    rw [e]
    exact .inl (bot_lt_iff_ne_bot.2 (hf q))

/-! ## The two weights -/

/-- The weight of the first of two entries. -/
def weight (a b : EReal) : EReal := Ideal.div 1 (1 + Ideal.exp (b - a))

theorem weight_coe (a b : ℝ) : weight a b = ((1 / (1 + Real.exp (b - a)) : ℝ) : EReal) := by
  have hpos : (0 : ℝ) < 1 + Real.exp (b - a) := by positivity
  have e : (1 : EReal) + Ideal.exp ((b : EReal) - (a : EReal)) = ((1 + Real.exp (b - a) : ℝ) : EReal) := by
    rw [← EReal.coe_sub]
    rfl
  unfold weight Ideal.div
  rw [e, if_neg (by exact_mod_cast hpos.ne'), one_mul, one_div, EReal.coe_inv]

theorem softmax_first (a b : ℝ) :
    Ideal.div (Ideal.exp ((a : EReal) - a)) (Ideal.exp ((a : EReal) - a) + Ideal.exp ((b : EReal) - a)) = weight a b := by
  have e : Ideal.exp ((a : EReal) - (a : EReal)) = 1 := by
    rw [← EReal.coe_sub, sub_self]
    show ((Real.exp 0 : ℝ) : EReal) = 1
    rw [Real.exp_zero, EReal.coe_one]
  rw [e]
  rfl

theorem softmax_second (a b : ℝ) :
    Ideal.div (Ideal.exp ((b : EReal) - a)) (Ideal.exp ((a : EReal) - a) + Ideal.exp ((b : EReal) - a)) = 1 - weight a b := by
  have hpos : (0 : ℝ) < 1 + Real.exp (b - a) := by positivity
  have e : Ideal.exp ((a : EReal) - (a : EReal)) + Ideal.exp ((b : EReal) - (a : EReal)) = ((1 + Real.exp (b - a) : ℝ) : EReal) := by
    rw [← EReal.coe_sub, ← EReal.coe_sub, sub_self]
    show ((Real.exp 0 : ℝ) : EReal) + ((Real.exp (b - a) : ℝ) : EReal) = _
    rw [Real.exp_zero, ← EReal.coe_add]
  have e' : Ideal.exp ((b : EReal) - (a : EReal)) = ((Real.exp (b - a) : ℝ) : EReal) := by
    rw [← EReal.coe_sub]
    rfl
  rw [weight_coe, e, e']
  unfold Ideal.div
  rw [if_neg (by exact_mod_cast hpos.ne'), ← EReal.coe_inv, ← EReal.coe_mul, ← EReal.coe_one, ← EReal.coe_sub]
  congr 1
  field_simp
  ring

/-! ## Finite sums -/

theorem finite_sum {ι : Type} (s : Finset ι) (g : ι → EReal) (h : ∀ i ∈ s, ∃ r : ℝ, g i = r) : ∃ r : ℝ, ∑ i ∈ s, g i = r := by
  classical
  induction s using Finset.induction_on with
  | empty => exact ⟨0, rfl⟩
  | insert a s ha ih =>
    obtain ⟨r, hr⟩ := h a (Finset.mem_insert_self _ _)
    obtain ⟨t, ht⟩ := ih fun i hi => h i (Finset.mem_insert_of_mem hi)
    exact ⟨r + t, by rw [Finset.sum_insert ha, hr, ht, ← EReal.coe_add]⟩

theorem finite_mul {x y : EReal} (hx : ∃ r : ℝ, x = r) (hy : ∃ r : ℝ, y = r) : ∃ r : ℝ, x * y = r := by
  obtain ⟨r, rfl⟩ := hx
  obtain ⟨t, rfl⟩ := hy
  exact ⟨r * t, (EReal.coe_mul r t).symm⟩

/-- A value whose size is below the greatest is finite. -/
theorem finite_of_abs_lt {x : EReal} (h : max x (-x) < ⊤) : ∃ r : ℝ, x = r := by
  induction x with
  | bot => simp at h
  | top => simp at h
  | coe r => exact ⟨r, rfl⟩

theorem all_of_fold {ι : Type} [DecidableEq ι] (s : Finset ι) (b : BitVec 1) (g : ι → BitVec 1)
    (h : s.fold IntOp.andi b g = 1#1) : ∀ i ∈ s, g i = 1#1 := by
  have key : ∀ p q : BitVec 1, IntOp.andi p q = 1#1 → p = 1#1 ∧ q = 1#1 := by decide
  induction s using Finset.induction_on with
  | empty => exact fun i hi => absurd hi (Finset.notMem_empty i)
  | insert a s ha ih =>
    rw [Finset.fold_insert ha] at h
    intro i hi
    rcases Finset.mem_insert.1 hi with rfl | hi
    · exact (key _ _ h).1
    · exact ih (key _ _ h).2 i hi

theorem all_of_fold_univ {ι : Type} [DecidableEq ι] [Fintype ι] (b : BitVec 1) (g : ι → BitVec 1)
    (h : Finset.univ.fold IntOp.andi b g = 1#1) (i : ι) : g i = 1#1 := all_of_fold Finset.univ b g h i (Finset.mem_univ i)

end Cert.Proof.Route

end
-- ==== Proof.RouteValue.lean ====
/-
  What the router leaves: at each row, the places of the two first greatest products and the two weights of their softmax.
-/
module

public import proofs.«01_k».proof.Proof.RouteRow
public import proofs.«01_k».proof.Proof.Gen.RouteIdeal.Value
public import Idealize.ShloMosaic.Lib.Pipeline.ValueKit
public import Idealize.ShloMosaic.Lib.Pointwise
public import Idealize.ShloMosaic.Lib.Pointwise.Tactic
public import Idealize.ShloMosaic.Lib.Claim
public import Idealize.ShloMosaic.Lib.WordCmp
public import Idealize.ShloMosaic.Lib.Routing.OpsOne

@[expose] public section

set_option maxRecDepth 16384

noncomputable section

namespace Cert.Proof.Route

open Cert.RouteIdeal Cert.RouteIdeal.Gen
open Idealize.ShloMosaic Idealize.ShloMosaic.TcCoe Idealize.SL.Sem
open Idealize.ShloMosaic.Pipeline (Dat)

/-! ## One row of a block -/

theorem lowest : Ideal.ofBits .f32 0xFF800000#32 = ⊥ := by
  unfold Ideal.ofBits Ideal.ieee
  simp

theorem lane_lt (k : Fin 128) : IntOp.cmpi .slt (BitVec.ofNat 32 k.val) 8#32 = 1#1 ↔ k.val < 8 := by
  revert k
  decide

theorem lane_eq (k p : Fin 128) : IntOp.cmpi .eq (BitVec.ofNat 32 k.val) (BitVec.ofNat 32 p.val) = 1#1 ↔ k = p := by
  have hk := k.isLt
  have hp := p.isLt
  have e : (BitVec.ofNat 32 k.val = BitVec.ofNat 32 p.val) ↔ k = p := by
    constructor
    · intro h
      have := congrArg BitVec.toNat h
      rw [BitVec.toNat_ofNat, BitVec.toNat_ofNat] at this
      exact Fin.ext (by omega)
    · rintro rfl
      rfl
  have one : ∀ b : Bool, BitVec.ofBool b = 1#1 ↔ b = true := by decide
  rw [WordCmp.cmpi_eq_eq, one, decide_eq_true_iff, e]

section Row

variable (x : Vec Ideal S1024x1024 .f32) (w : Vec Ideal S1024x128 .f32) (r : Fin 1024) (f : Fin 8 → EReal)

theorem masked (h : ∀ i : Fin 8, (∑ c : Fin 1024, x (ix2 r c) * w (ix2 c (lane i)) : EReal) = f i) (k : Fin 128) :
    k0_pay2 (F := Ideal) x w (ix2 r k) = padded f k := by
  unfold k0_pay2
  dsimp only
  pointwise
  unfold Scalar.select padded
  by_cases h8 : k.val < 8
  · refine (if_pos ((lane_lt k).2 h8)).trans (Eq.trans ?_ (dif_pos h8).symm)
    exact h ⟨k.val, h8⟩
  · refine (if_neg fun e => h8 ((lane_lt k).1 e)).trans (Eq.trans ?_ (dif_neg h8).symm)
    exact lowest

theorem top_value (p : Fin 8) (hf : ∀ i, f i ≠ ⊥) (hp : ∀ k, k ≠ p → Ahead f p k)
    (h : ∀ i : Fin 8, (∑ c : Fin 1024, x (ix2 r c) * w (ix2 c (lane i)) : EReal) = f i) :
    k0_pay3 (F := Ideal) x w (ix2 r 0) = f p := by
  unfold k0_pay3
  dsimp only
  pointwise
  rw [lowest]
  refine Eq.trans (congrArg (fun g => Finset.fold max ⊥ g Finset.univ) (funext fun k => masked x w r f h k)) ?_
  exact (fold_max_first (padded f) (lane p) (padded_first f hf p hp)).trans (padded_lane f p)

theorem top_place (p : Fin 8) (hf : ∀ i, f i ≠ ⊥) (hp : ∀ k, k ≠ p → Ahead f p k)
    (h : ∀ i : Fin 8, (∑ c : Fin 1024, x (ix2 r c) * w (ix2 c (lane i)) : EReal) = f i) :
    k0_pay4 (F := Ideal) x w (ix2 r 0) = BitVec.ofNat 32 p.val := by
  unfold k0_pay4
  dsimp only
  pointwise
  refine fold_min_first (padded f) (lane p) (padded_first f hf p hp) _ fun k => ?_
  rw [padded_lane, ← masked x w r f h k, ← top_value x w r f p hf hp h]

theorem masked_again (p : Fin 8) (hf : ∀ i, f i ≠ ⊥) (hp : ∀ k, k ≠ p → Ahead f p k)
    (h : ∀ i : Fin 8, (∑ c : Fin 1024, x (ix2 r c) * w (ix2 c (lane i)) : EReal) = f i) (k : Fin 128) :
    k0_pay5 (F := Ideal) x w (ix2 r k) = struck f p k := by
  unfold k0_pay5
  dsimp only
  pointwise
  unfold Scalar.select struck
  have e : k0_pay4 (F := Ideal) x w (ix2 r 0) = BitVec.ofNat 32 (lane p).val := top_place x w r f p hf hp h
  by_cases hk : k = lane p
  · refine (if_pos ?_).trans (lowest.trans (if_pos hk).symm)
    exact (congrArg (IntOp.cmpi .eq (BitVec.ofNat 32 k.val)) e).trans ((lane_eq _ _).2 hk)
  · refine (if_neg fun he => hk ((lane_eq _ _).1 ((congrArg (IntOp.cmpi .eq (BitVec.ofNat 32 k.val)) e).symm.trans he))).trans
      (Eq.trans ?_ (if_neg hk).symm)
    exact masked x w r f h k

theorem next_value (p q : Fin 8) (hf : ∀ i, f i ≠ ⊥) (hpq : Two f p q)
    (h : ∀ i : Fin 8, (∑ c : Fin 1024, x (ix2 r c) * w (ix2 c (lane i)) : EReal) = f i) :
    k0_pay6 (F := Ideal) x w (ix2 r 0) = f q := by
  unfold k0_pay6
  dsimp only
  pointwise
  rw [lowest]
  refine Eq.trans (congrArg (fun g => Finset.fold max ⊥ g Finset.univ) (funext fun k => masked_again x w r f p hf hpq.first h k)) ?_
  exact (fold_max_first (struck f p) (lane q) (struck_first f hf p q hpq.ne hpq.second)).trans
    ((if_neg (lane_ne hpq.ne)).trans (padded_lane f q))

theorem next_place (p q : Fin 8) (hf : ∀ i, f i ≠ ⊥) (hpq : Two f p q)
    (h : ∀ i : Fin 8, (∑ c : Fin 1024, x (ix2 r c) * w (ix2 c (lane i)) : EReal) = f i) :
    k0_pay7 (F := Ideal) x w (ix2 r 0) = BitVec.ofNat 32 q.val := by
  unfold k0_pay7
  dsimp only
  pointwise
  refine fold_min_first (struck f p) (lane q) (struck_first f hf p q hpq.ne hpq.second) _ fun k => ?_
  have e : struck f p (lane q) = f q := (if_neg (lane_ne hpq.ne)).trans (padded_lane f q)
  rw [e, ← masked_again x w r f p hf hpq.first h k, ← next_value x w r f p q hf hpq h]

theorem top_weight (p q : Fin 8) (hf : ∀ i, f i ≠ ⊥) (hpq : Two f p q)
    (h : ∀ i : Fin 8, (∑ c : Fin 1024, x (ix2 r c) * w (ix2 c (lane i)) : EReal) = f i) :
    k0_pay8 (F := Ideal) x w (ix2 r 0) = weight (f p) (f q) := by
  unfold k0_pay8
  pointwise
  unfold weight
  rw [← top_value x w r f p hf hpq.first h, ← next_value x w r f p q hf hpq h]

theorem next_weight (p q : Fin 8) (hf : ∀ i, f i ≠ ⊥) (hpq : Two f p q)
    (h : ∀ i : Fin 8, (∑ c : Fin 1024, x (ix2 r c) * w (ix2 c (lane i)) : EReal) = f i) :
    k0_pay1 (F := Ideal) (k0_pay8 (F := Ideal) x w) (ix2 r 0) = 1 - weight (f p) (f q) := by
  unfold k0_pay1
  pointwise
  rw [top_weight x w r f p q hf hpq h]

end Row

/-! ## The weights among 128 lanes -/

section Spread

/-- The dimension numbers of the write of eight columns into 128. -/
abbrev spread : ScatterDims S1024x128 S1 S1024x8 := scatter_S1024x128_S1_S1024x8_01_n_1_0

theorem spread_start (j : S1024x8.Idx) (o : IVec S1 32) (ho : ∀ j, o j = 0#32) : spread.start j o 1 = 0 := by
  show (o _).toInt = 0
  rw [ho]
  rfl

theorem spread_lands (j : S1024x8.Idx) (o : IVec S1 32) (ho : ∀ j, o j = 0#32) (k : Fin 1024) (l : Fin 128) :
    spread.resultIdx? j o = some (ix2 k l) ↔ (j 0).val = k.val ∧ (j 1).val = l.val := by
  have h0 : spread.start j o 0 + (spread.window j 0 : Int) = ((j 0).val : Int) := zero_add _
  have h1 : spread.start j o 1 + (spread.window j 1 : Int) = ((j 1).val : Int) := by
    rw [spread_start j o ho]
    exact zero_add _
  refine (Routing.resultIdx?_ix2 (R := 1024) (C := 128) spread j o k l).trans ?_
  rw [h0, h1]
  omega

/-- A write whose one start index is the origin leaves the eight columns in the first lanes. -/
theorem spread_lane (z : Vec Ideal S1024x128 .f32) (o : IVec S1 32) (ho : ∀ j, o j = 0#32) (u : Vec Ideal S1024x8 .f32) (k : Fin 1024) (i : Fin 8) :
    Host.scatter spread (fun _ b => b) z o u (ix2 k (lane i)) = u (ix2 k i) := by
  refine Routing.scatter_set_hit spread z o u _ _ (fun j hj => congrArg u ?_) (ix2 k i) ((spread_lands _ o ho k (lane i)).2 ⟨rfl, rfl⟩)
  obtain ⟨h0, h1⟩ := (spread_lands j o ho k (lane i)).1 hj
  funext a
  match a with
  | 0 => exact Fin.ext h0
  | 1 => exact Fin.ext h1

end Spread

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

/-- The two inputs' blocks at a point. -/
abbrev rows (c : Dev nD) (t : Fin cfg0.N) : Vec Ideal S1024x1024 .f32 := iblk m c 0 t

abbrev lanes (c : Dev nD) (t : Fin cfg0.N) : Vec Ideal S1024x128 .f32 := iblk m c 1 t

/-- The tokens and the router's weights. -/
abbrev tokens (c : Dev nD) : Vec Ideal S4096x1024 .f32 := m ((c : Thread nD τ).loc main_arg0)

abbrev router (c : Dev nD) : Vec Ideal S1024x8 .f32 := m ((c : Thread nD τ).loc main_arg1)

theorem iblk1 (c : Dev nD) (t : Fin cfg0.N) (k : Fin 1024) (i : Fin 8) :
    lanes m c t (ix2 k (lane i)) = router m c (ix2 k i) := by
  have e : iblk m c 1 t = V m c main_v2 := by
    blk_ext! [iblk, idx t]
  unfold lanes
  rw [e]
  entry_read
  exact spread_lane _ _ (fun j => rfl) _ k i

theorem iblk0 (c : Dev nD) (t : Fin cfg0.N) (r k : Fin 1024) (n : Fin 4096) (hn : n.val = t.val * 1024 + r.val) :
    rows m c t (ix2 r k) = tokens m c (ix2 n k) := by
  unfold rows
  blk_simp [iblk, idx t]
  rw [V_main_arg0]
  refine congrArg (tokens m c) ?_
  funext a
  match a with
  | 0 => exact Fin.ext (Eq.trans (by blk_simp [idx t]) hn.symm)
  | 1 => exact Fin.ext (by blk_simp [idx t])

/-! ## The arrays -/

/-- The products of a token's row. -/
def products (a : Vec Ideal S4096x1024 .f32) (w : Vec Ideal S1024x8 .f32) (n : Fin 4096) (i : Fin 8) : EReal :=
  ∑ k : Fin 1024, a (ix2 n k) * w (ix2 k i)

/-- The weights of two of a token's products. -/
def firstOf (a : Vec Ideal S4096x1024 .f32) (w : Vec Ideal S1024x8 .f32) (p q : Fin 4096 → Fin 8) (n : Fin 4096) : EReal :=
  weight (products a w n (p n)) (products a w n (q n))

def secondOf (a : Vec Ideal S4096x1024 .f32) (w : Vec Ideal S1024x8 .f32) (p q : Fin 4096 → Fin 8) (n : Fin 4096) : EReal :=
  1 - weight (products a w n (p n)) (products a w n (q n))

theorem block_row (c : Dev nD) (t : Fin cfg0.N) (r : Fin 1024) (n : Fin 4096) (hn : n.val = t.val * 1024 + r.val) (i : Fin 8) :
    (∑ k : Fin 1024, rows m c t (ix2 r k) * lanes m c t (ix2 k (lane i)) : EReal) = products (tokens m c) (router m c) n i :=
  Finset.sum_congr rfl fun k _ => congrArg₂ (· * ·) (iblk0 m c t r k n hn) (iblk1 m c t k i)

/-- A row of a block of a result: its row of the whole result. -/
theorem row_of (t : Fin cfg0.N) (y : S1024x1.Idx) : ∃ (r : Fin 1024) (n : Fin 4096), y = ix2 r 0 ∧ n.val = t.val * 1024 + r.val := by
  have ht : t.val < 4 := t.isLt
  have hr : (y 0).val < 1024 := (y 0).isLt
  refine ⟨y 0, ⟨t.val * 1024 + (y 0).val, by omega⟩, ?_, rfl⟩
  funext a
  match a with
  | 0 => rfl
  | 1 => exact Subsingleton.elim (α := Fin 1) _ _

variable (c : Dev nD) (p q : Fin 4096 → Fin 8) (hf : ∀ n i, products (tokens m c) (router m c) n i ≠ ⊥)
  (h : ∀ n, Two (products (tokens m c) (router m c) n) (p n) (q n))

include hf h

theorem array2 : (dats m 0 c).arrAt 2 cfg0.N = fun j : S4096x1.Idx => BitVec.ofNat 32 (p (j 0)).val := by
  refine (dats m 0 c).arrAt_eq_of_covers 2 _ (by decide +kernel) fun t hf' y => ?_
  blk_simp
  rw [after0_2]
  frame_out
  obtain ⟨r, n, hy, hn⟩ := row_of t y
  have e : ((View.whole main_v3_0).slice (win0_2.rect t)).emb y 0 = n := Fin.ext (Eq.trans (by blk_simp [idx t]; rw [hy]; rfl) hn.symm)
  rw [e, hy]
  exact top_place _ _ r _ (p n) (hf n) (h n).first (block_row m c t r n hn)

theorem array3 : (dats m 0 c).arrAt 3 cfg0.N = fun j : S4096x1.Idx => BitVec.ofNat 32 (q (j 0)).val := by
  refine (dats m 0 c).arrAt_eq_of_covers 3 _ (by decide +kernel) fun t hf' y => ?_
  blk_simp
  rw [after0_3]
  frame_out
  obtain ⟨r, n, hy, hn⟩ := row_of t y
  have e : ((View.whole main_v3_1).slice (win0_3.rect t)).emb y 0 = n := Fin.ext (Eq.trans (by blk_simp [idx t]; rw [hy]; rfl) hn.symm)
  rw [e, hy]
  exact next_place _ _ r _ (p n) (q n) (hf n) (h n) (block_row m c t r n hn)

theorem array4 : (dats m 0 c).arrAt 4 cfg0.N = fun j : S4096x1.Idx => firstOf (tokens m c) (router m c) p q (j 0) := by
  refine (dats m 0 c).arrAt_eq_of_covers 4 _ (by decide +kernel) fun t hf' y => ?_
  blk_simp
  rw [after0_4]
  unfold out0_4 k0_pay9
  frame_out
  obtain ⟨r, n, hy, hn⟩ := row_of t y
  have e : ((View.whole main_v3_2).slice (win0_4.rect t)).emb y 0 = n := Fin.ext (Eq.trans (by blk_simp [idx t]; rw [hy]; rfl) hn.symm)
  rw [e, hy]
  exact top_weight _ _ r _ (p n) (q n) (hf n) (h n) (block_row m c t r n hn)

theorem array5 : (dats m 0 c).arrAt 5 cfg0.N = fun j : S4096x1.Idx => secondOf (tokens m c) (router m c) p q (j 0) := by
  refine (dats m 0 c).arrAt_eq_of_covers 5 _ (by decide +kernel) fun t hf' y => ?_
  blk_simp
  rw [after0_5]
  unfold out0_5 k0_pay9
  frame_out
  obtain ⟨r, n, hy, hn⟩ := row_of t y
  have e : ((View.whole main_v3_3).slice (win0_5.rect t)).emb y 0 = n := Fin.ext (Eq.trans (by blk_simp [idx t]; rw [hy]; rfl) hn.symm)
  rw [e, hy]
  exact next_weight _ _ r _ (p n) (q n) (hf n) (h n) (block_row m c t r n hn)

end Cert.Proof.Route

end
-- ==== Proof.RouteRef.lean ====
/-
  What the router's reference leaves: the two places a sort puts in front and the softmax of their products.
-/
module

public import proofs.«01_k».proof.Proof.RouteValue
public import proofs.«01_k».proof.Proof.Gen.ReferenceRouteIdeal.Run
public import proofs.«01_k».proof.Proof.Gen.Pre_finite

@[expose] public section

set_option maxRecDepth 16384

noncomputable section

namespace Cert.Proof.Route

open Cert.ReferenceRouteIdeal Cert.ReferenceRouteIdeal.Gen
open Idealize.ShloMosaic Idealize.ShloMosaic.TcCoe Idealize.SL.Sem

/-- The products as the reference takes them. -/
abbrev logits (a : FVec Ideal S4096x1024 .f32) (w : FVec Ideal S1024x8 .f32) : FVec Ideal S4096x8 .f32 :=
  Host.dotGeneral (F := Ideal) dot_S4096x1024_S1024x8_S4096x8_1_0_0_1_n_n none a w

theorem logits_apply (a : FVec Ideal S4096x1024 .f32) (w : FVec Ideal S1024x8 .f32) (n : Fin 4096) (i : Fin 8) :
    logits a w (ix2 n i) = products a w n i := by
  unfold logits products
  pointwise

/-! ## The sort -/

/-- Whether one place of a row is sorted before another. -/
abbrev greater (f : Fin 8 → EReal) (i j : Fin 8) : Bool := decide (f j < f i)

/-- The place that a row's sort puts first, and second. -/
abbrev first (f : Fin 8 → EReal) : Fin 8 := sortedFrom (greater f) 0

abbrev second (f : Fin 8 → EReal) : Fin 8 := sortedFrom (greater f) 1

theorem two_places (f : Fin 8 → EReal) : Two f (first f) (second f) :=
  two_sorted (n := 6) f (greater f) fun i j => decide_eq_true_iff

theorem along_row (n : Fin 4096) (i k : Fin 8) : (ix2 n i : S4096x8.Idx).along 1 k = ix2 n k := by
  funext a
  match a with
  | 0 => rfl
  | 1 => rfl

theorem sorted_along (l : FVec Ideal S4096x8 .f32) (n : Fin 4096) (i : Fin 8) :
    sortedFrom (fun k k' => FloatOps.cmpfTotal (F := Ideal) (φ := .f32) .gt (l ((ix2 n i : S4096x8.Idx).along 1 k)) (l ((ix2 n i : S4096x8.Idx).along 1 k')) == 1#1)
      = sortedFrom (greater fun k => l (ix2 n k)) := by
  have one : ∀ b : Bool, (BitVec.ofBool b == 1#1) = b := by decide
  refine congrArg sortedFrom (funext fun k : Fin 8 => funext fun k' : Fin 8 => ?_)
  exact (congrArg₂ (fun x y : EReal => FloatOps.cmpfTotal (F := Ideal) (φ := .f32) .gt x y == 1#1) (congrArg l (along_row n i k)) (congrArg l (along_row n i k'))).trans (one _)

/-- The two greatest entries of each row and their places. -/
abbrev best (l : FVec Ideal S4096x8 .f32) : (FVec Ideal S4096x2 .f32) × IVec S4096x2 32 :=
  Host.topK S4096x2 1 (FloatOps.cmpfTotal (F := Ideal) (φ := .f32) .gt) l sliceFits_S4096x8_S4096x2

theorem cut_row (n : Fin 4096) (s : Fin 2) (i : Fin 8) (hi : i.val = s.val) {α : Type} (g : S4096x8.Idx → α) :
    extractStridedSlice S4096x2 (fun _ => 0) g sliceFits_S4096x8_S4096x2 (ix2 n s) = g (ix2 n i) := by
  refine congrArg g ?_
  funext a
  match a with
  | 0 => exact Fin.ext (Nat.zero_add _)
  | 1 => exact Fin.ext ((Nat.zero_add _).trans hi.symm)

theorem best_value (l : FVec Ideal S4096x8 .f32) (n : Fin 4096) (s : Fin 2) (i : Fin 8) (hi : i.val = s.val) :
    (best l).1 (ix2 n s) = l (ix2 n (sortedFrom (greater fun k => l (ix2 n k)) i)) := by
  unfold best Host.topK Host.sort2
  dsimp only
  rw [dif_pos (by decide : 1 < 2)]
  refine (cut_row n s i hi _).trans (congrArg l (Eq.trans ?_ (along_row n i _)))
  exact congrArg (fun g : Fin 8 → Fin 8 => (ix2 n i : S4096x8.Idx).along 1 (g i)) (sorted_along l n i)

theorem best_place (l : FVec Ideal S4096x8 .f32) (n : Fin 4096) (s : Fin 2) (i : Fin 8) (hi : i.val = s.val) :
    (best l).2 (ix2 n s) = BitVec.ofNat 32 (sortedFrom (greater fun k => l (ix2 n k)) i).val := by
  unfold best Host.topK Host.sort2
  dsimp only
  rw [dif_pos (by decide : 1 < 2)]
  refine (cut_row n s i hi _).trans ?_
  dsimp only
  rw [dif_pos (by decide : 1 < 2)]
  exact (congrArg (iotaInDim S4096x8 32 1) (Eq.trans
    (congrArg (fun g : Fin 8 → Fin 8 => (ix2 n i : S4096x8.Idx).along 1 (g i)) (sorted_along l n i)) (along_row n i _))).trans rfl

/-! ## The softmax -/

abbrev shifted (v : FVec Ideal S4096x2 .f32) : FVec Ideal S4096x2 .f32 :=
  Host.exp (F := Ideal) (subf v (broadcastInDim S4096x2 ![0, 1] bcast_S4096x1_S4096x2_0_1 (broadcastInDim S4096x1 ![0] bcast_S4096_S4096x1_0 (maximumf (broadcastInDim S4096 ![] bcast_S_S4096 (constant S_ .f32 0xFF800000#32)) (Host.reduce FloatOps.maximumf v (constant S_ .f32 0xFF800000#32) reducesTo_S4096x2_S4096_d1 h_S_)))))

/-- The softmax of each row of two. -/
abbrev softmax (v : FVec Ideal S4096x2 .f32) : FVec Ideal S4096x2 .f32 :=
  Host.divf (F := Ideal) (shifted v) (broadcastInDim S4096x2 ![0, 1] bcast_S4096x1_S4096x2_0_1 (broadcastInDim S4096x1 ![0] bcast_S4096_S4096x1_0 (Host.reduceAdd (shifted v) (constant S_ .f32 0x00000000#32) reducesTo_S4096x2_S4096_d1 h_S_)))

theorem greatest (v : FVec Ideal S4096x2 .f32) (n : Fin 4096) (h : v (ix2 n 1) ≤ v (ix2 n 0)) :
    max (Ideal.ofBits .f32 0xFF800000#32) (Finset.fold max (Ideal.ofBits .f32 0xFF800000#32) (fun s : Fin 2 => v (ix2 n s)) Finset.univ) = v (ix2 n 0) := by
  rw [lowest, max_eq_right bot_le]
  refine fold_max_first (fun s : Fin 2 => v (ix2 n s)) 0 fun k hk => ?_
  have e : k = 1 := by omega
  subst e
  rcases h.lt_or_eq with h | h
  · exact .inl h
  · exact .inr ⟨h, Nat.one_pos⟩

theorem softmax_row (v : FVec Ideal S4096x2 .f32) (n : Fin 4096) (s : Fin 2) (h : v (ix2 n 1) ≤ v (ix2 n 0)) :
    softmax v (ix2 n s) = Ideal.div (Ideal.exp (v (ix2 n s) - v (ix2 n 0)))
      (Ideal.exp (v (ix2 n 0) - v (ix2 n 0)) + Ideal.exp (v (ix2 n 1) - v (ix2 n 0))) := by
  unfold softmax shifted
  pointwise
  rw [greatest v n h, Fin.sum_univ_two]

/-! ## The precondition -/

theorem highest : Ideal.ofBits .f32 0x7F800000#32 = ⊤ := by
  unfold Ideal.ofBits Ideal.ieee
  simp

theorem finite_of_pre (a : FVec Ideal S4096x1024 .f32) (w : FVec Ideal S1024x8 .f32) (h : Cert.Pre_finite.fn (F := Ideal) a w = fun _ => 1#1) :
    (∀ n k, ∃ r : ℝ, a (ix2 n k) = r) ∧ ∀ k i, ∃ r : ℝ, w (ix2 k i) = r := by
  have both : ∀ p q : BitVec 1, IntOp.andi p q = 1#1 → p = 1#1 ∧ q = 1#1 := by decide
  have one : ∀ b : Bool, BitVec.ofBool b = 1#1 → b = true := by decide
  have e := congrFun h (fun a => a.elim0)
  unfold Cert.Pre_finite.fn at e
  dsimp only at e
  pointwise at e
  rw [highest] at e
  obtain ⟨e0, e1⟩ := both _ _ e
  have f0 := all_of_fold_univ _ _ e0
  have f1 := all_of_fold_univ _ _ e1
  refine ⟨fun n k => ?_, fun k i => ?_⟩
  · have g := f0 (n, k)
    have g' := of_decide_eq_true (one _ g)
    rw [Ideal.absf_def] at g'
    exact finite_of_abs_lt g'
  · have g := f1 (k, i)
    have g' := of_decide_eq_true (one _ g)
    rw [Ideal.absf_def] at g'
    exact finite_of_abs_lt g'

theorem finite_products (a : FVec Ideal S4096x1024 .f32) (w : FVec Ideal S1024x8 .f32) (h : Cert.Pre_finite.fn (F := Ideal) a w = fun _ => 1#1)
    (n : Fin 4096) (i : Fin 8) : ∃ r : ℝ, products a w n i = r :=
  finite_sum _ _ fun k _ => finite_mul ((finite_of_pre a w h).1 n k) ((finite_of_pre a w h).2 k i)

/-! ## The reference's four results -/

section Results

variable (a : FVec Ideal S4096x1024 .f32) (w : FVec Ideal S1024x8 .f32)

/-- The two places of each token. -/
abbrev firsts (n : Fin 4096) : Fin 8 := first (products a w n)

abbrev seconds (n : Fin 4096) : Fin 8 := second (products a w n)

theorem row_eq (n : Fin 4096) : (fun k => logits a w (ix2 n k)) = products a w n := funext fun k => logits_apply a w n k

theorem value_first (n : Fin 4096) : (best (logits a w)).1 (ix2 n 0) = products a w n (firsts a w n) := by
  rw [best_value (logits a w) n 0 0 rfl, row_eq, logits_apply]

theorem value_second (n : Fin 4096) : (best (logits a w)).1 (ix2 n 1) = products a w n (seconds a w n) := by
  rw [best_value (logits a w) n 1 1 rfl, row_eq, logits_apply]

theorem col_row (j : S4096x1.Idx) : ∃ n : Fin 4096, j = ix2 n 0 := by
  refine ⟨j 0, ?_⟩
  funext a
  match a with
  | 0 => rfl
  | 1 => exact Subsingleton.elim (α := Fin 1) _ _

theorem cut_col {α : Type} (g : S4096x2.Idx → α) (n : Fin 4096) :
    extractStridedSlice S4096x1 ![0, 0] g slices_S4096x2_S4096x1_0_0 (ix2 n 0) = g (ix2 n 0)
    ∧ extractStridedSlice S4096x1 ![0, 1] g slices_S4096x2_S4096x1_0_1 (ix2 n 0) = g (ix2 n 1) := by
  constructor <;> refine congrArg g ?_ <;> funext a
  · match a with
    | 0 => exact Fin.ext (Nat.zero_add _)
    | 1 => rfl
  · match a with
    | 0 => exact Fin.ext (Nat.zero_add _)
    | 1 => rfl

theorem ref_place_first : extractStridedSlice S4096x1 ![0, 0] (best (logits a w)).2 slices_S4096x2_S4096x1_0_0
    = fun j : S4096x1.Idx => BitVec.ofNat 32 (firsts a w (j 0)).val := by
  funext j
  obtain ⟨n, rfl⟩ := col_row j
  rw [(cut_col _ _).1, best_place (logits a w) _ 0 0 rfl, row_eq]
  rfl

theorem ref_place_second : extractStridedSlice S4096x1 ![0, 1] (best (logits a w)).2 slices_S4096x2_S4096x1_0_1
    = fun j : S4096x1.Idx => BitVec.ofNat 32 (seconds a w (j 0)).val := by
  funext j
  obtain ⟨n, rfl⟩ := col_row j
  rw [(cut_col _ _).2, best_place (logits a w) _ 1 1 rfl, row_eq]
  rfl

theorem value_le (n : Fin 4096) : (best (logits a w)).1 (ix2 n 1) ≤ (best (logits a w)).1 (ix2 n 0) := by
  rw [value_first, value_second]
  exact ((two_places (products a w n)).first _ (two_places (products a w n)).ne).le

theorem ref_weight_first (h : ∀ n i, ∃ r : ℝ, products a w n i = r) :
    extractStridedSlice S4096x1 ![0, 0] (softmax (best (logits a w)).1) slices_S4096x2_S4096x1_0_0
    = fun j : S4096x1.Idx => firstOf a w (firsts a w) (seconds a w) (j 0) := by
  funext j
  obtain ⟨n, rfl⟩ := col_row j
  rw [(cut_col _ _).1, softmax_row _ _ _ (value_le a w _), value_first, value_second]
  obtain ⟨x, hx⟩ := h n (firsts a w n)
  obtain ⟨y, hy⟩ := h n (seconds a w n)
  show _ = weight (products a w n (firsts a w n)) (products a w n (seconds a w n))
  rw [hx, hy]
  exact softmax_first x y

theorem ref_weight_second (h : ∀ n i, ∃ r : ℝ, products a w n i = r) :
    extractStridedSlice S4096x1 ![0, 1] (softmax (best (logits a w)).1) slices_S4096x2_S4096x1_0_1
    = fun j : S4096x1.Idx => secondOf a w (firsts a w) (seconds a w) (j 0) := by
  funext j
  obtain ⟨n, rfl⟩ := col_row j
  rw [(cut_col _ _).2, softmax_row _ _ _ (value_le a w _), value_first, value_second]
  obtain ⟨x, hx⟩ := h n (firsts a w n)
  obtain ⟨y, hy⟩ := h n (seconds a w n)
  show _ = 1 - weight (products a w n (firsts a w n)) (products a w n (seconds a w n))
  rw [hx, hy]
  exact softmax_second x y

end Results

end Cert.Proof.Route

end
-- ==== Proof.RouteClaims.lean ====
/-
  The claims of the router: its frames, and its value against the first two of a sort and their softmax.
-/
module

public import proofs.«01_k».proof.Defs
public import proofs.«01_k».proof.Proof.RouteRef
public import proofs.«01_k».proof.Proof.Gen.Route.Frame

@[expose] public section

noncomputable section

namespace Cert.Proof.Route

open Idealize.ShloMosaic
open Idealize.SL.Sem

theorem frame_route : Cert.quiescent_Route := fun m ρ _ => Cert.Route.Gen.frame m ρ

theorem frame_routeIdeal : Cert.quiescent_RouteIdeal := fun m ρ _ => Cert.RouteIdeal.Gen.frame m ρ

theorem frame_routeIdeal_finite : Cert.quiescent_RouteIdeal_pre_finite := fun m ρ _ => Cert.RouteIdeal.Gen.frame m ρ

theorem frame_reference : Cert.quiescent_ReferenceRouteIdeal := fun m ρ _ =>
  (θ_run Cert.ReferenceRouteIdeal.defs _ _).mono
    (fun r h => ⟨fun c => (h c).2.2.2.2, Idealize.ShloMosaic.sem_eq_zero_of_no_sems (by decide) r.2⟩)
    (Cert.ReferenceRouteIdeal.Value.run (F := Ideal) m ρ)

theorem frame_reference_finite : Cert.quiescent_ReferenceRouteIdeal_pre_finite := fun m ρ _ => frame_reference m ρ trivial

section Value

open Cert.RouteIdeal

variable (m : (ℓ : Loc nD τ sig) → Buf (Elt Ideal) ℓ) (c : Dev nD)

abbrev fs (n : Fin 4096) : Fin 8 := firsts (tokens m c) (router m c) n

abbrev ss (n : Fin 4096) : Fin 8 := seconds (tokens m c) (router m c) n

theorem lowest_free (h : ∀ n i, ∃ r : ℝ, products (tokens m c) (router m c) n i = r) (n : Fin 4096) (i : Fin 8) :
    products (tokens m c) (router m c) n i ≠ ⊥ := by
  obtain ⟨r, hr⟩ := h n i
  rw [hr]
  exact EReal.coe_ne_bot r

theorem value_of : Cert.algebraic_RouteIdeal_ReferenceRouteIdeal_pre_finite := fun m ρ m' ρ' hpre hag => by
  have hfin : ∀ c n i, ∃ r : ℝ, products (tokens m c) (router m c) n i = r := fun c => finite_products _ _ (hpre c)
  have htwo : ∀ c n, Two (products (tokens m c) (router m c) n) (fs m c n) (ss m c n) := fun c n => two_places _
  refine ⟨fun c => fun j : S4096x1.Idx => BitVec.ofNat 32 (fs m c (j 0)).val, fun c => fun j : S4096x1.Idx => BitVec.ofNat 32 (ss m c (j 0)).val,
    fun c => fun j : S4096x1.Idx => firstOf (tokens m c) (router m c) (fs m c) (ss m c) (j 0),
    fun c => fun j : S4096x1.Idx => secondOf (tokens m c) (router m c) (fs m c) (ss m c) (j 0), ?_, ?_⟩
  · refine (θ_run Cert.RouteIdeal.defs _ _).mono (fun r h c => ?_) (Cert.RouteIdeal.Value.run_blocks (F := Ideal) m ρ)
    obtain ⟨h0, h1, h2, h3, h4⟩ := h c
    exact ⟨h0.trans (array2 m c _ _ (lowest_free m c (hfin c)) (htwo c)), h1.trans (array3 m c _ _ (lowest_free m c (hfin c)) (htwo c)),
      h2.trans (array4 m c _ _ (lowest_free m c (hfin c)) (htwo c)), h3.trans (array5 m c _ _ (lowest_free m c (hfin c)) (htwo c)), h4⟩
  · refine (θ_run Cert.ReferenceRouteIdeal.defs _ _).mono (fun r h c => ?_) (Cert.ReferenceRouteIdeal.Value.run (F := Ideal) m' ρ')
    obtain ⟨h0, h1, h2, h3, h4⟩ := h c
    rw [(hag c).1, (hag c).2] at h0 h1 h2 h3
    exact ⟨h0.trans (ref_place_first _ _), h1.trans (ref_place_second _ _), h2.trans (ref_weight_first _ _ (hfin c)),
      h3.trans (ref_weight_second _ _ (hfin c)), h4⟩

end Value

end Cert.Proof.Route

end
-- ==== Proof.ExpertsBody.lean ====
/-
  The body of the expert step, at any grid point and over any float values: from the four input blocks, the tables and
  the block of results so far, it leaves the block of results the step's flag selects.
-/
module

public import proofs.«01_k».proof.Proof.Gen.ExpertsIdeal.Skeleton
public import proofs.«01_k».proof.Proof.Gen.ExpertsIdeal.Launch
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Exec
public import Idealize.ShloMosaic.Lib.Tactic
public import Idealize.ShloMosaic.PureOps.Ideal

@[expose] public section

set_option maxRecDepth 16384

noncomputable section

namespace Cert.Proof.Experts

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The index of a table's entry. -/
def cell (n : Fin 23) : S23.Idx := fun a => ⟨n.val, by rw [Subsingleton.elim a 0]; exact n.isLt⟩

/-- The word of a table at a grid point. -/
abbrev word (T : S23.Idx → BitVec 32) (i : grid0.Coords) : BitVec 32 := T (cell (i 0))

/-- The step's contribution, from its four blocks and the two bounds of its rows. -/
abbrev part (i : grid0.Coords) (lo hi : S23.Idx → BitVec 32) (x : FVec F S512x1024 .f32) (g : FVec F S1x512x1 .f32)
    (w1 : FVec F S1x1024x2048 .bf16) (w2 : FVec F S1x2048x1024 .bf16) : FVec F S512x1024 .f32 :=
  k0_pay2 x w1 w2 g (word lo i) (word hi i)

/-- What a step leaves of the block of results `y`: the contribution `v` where its flag is one, `y` and `v` added where it
    is zero, `y` otherwise. -/
def left (f : BitVec 32) (v y : FVec F S512x1024 .f32) : FVec F S512x1024 .f32 :=
  if k0_cond2 f = 1#1 then k0_pay1 v (if k0_cond1 f = 1#1 then v else y) else if k0_cond1 f = 1#1 then v else y

theorem cast_small (n : Fin 23) : (Scalar.indexCast (BitVec.ofNat 32 n.val) : Index).toNat = n.val := by
  revert n; decide

theorem word_read (T : S23.Idx → BitVec 32) (i : grid0.Coords) (off : Fin 1 → Nat) (h : off = ![(i 0).val])
    (inb : ∀ a, off a + S1.size a ≤ S23.size a) (z : (Rect.unit (s := S23) off S1.size inb).shape.Idx) :
    T ((Rect.unit (s := S23) off S1.size inb).toLoadRect.idx z) = word T i := by
  subst h
  refine congrArg T (funext fun a => Fin.ext ?_)
  have ha : a = 0 := Subsingleton.elim _ _
  subst ha
  have hz : (z 0).val < 1 := (z 0).isLt
  show (i 0).val + 1 * (z 0).val = (i 0).val
  omega

theorem off1_eq (i : grid0.Coords) : k0_off1 i = ![(i 0).val] := by
  show ![_] = _
  rw [cast_small (i 0)]

theorem off2_eq (i : grid0.Coords) : k0_off2 i = ![(i 0).val] := by
  show ![_] = _
  rw [cast_small (i 0)]

theorem body_run {Name : Type} [DecidableEq Name] (c : Dev nD) (i : grid0.Coords)
    (a6 : Memref sig .tc .vmem S512x1024 .f32) (h6 : a6.IsWhole) (a7 : Memref sig .tc .vmem S1x512x1 .f32) (h7 : a7.IsWhole)
    (a8 : Memref sig .tc .vmem S1x1024x2048 .bf16) (h8 : a8.IsWhole) (a9 : Memref sig .tc .vmem S1x2048x1024 .bf16) (h9 : a9.IsWhole)
    (a10 : Memref sig .tc .vmem S512x1024 .f32) (h10 : a10.IsWhole)
    (T0 T1 T2 T3 T4 : S23.Idx → BitVec 32)
    (x0 : FVec F S512x1024 .f32) (x1 : FVec F S1x512x1 .f32) (x2 : FVec F S1x1024x2048 .bf16) (x3 : FVec F S1x2048x1024 .bf16)
    (y : FVec F S512x1024 .f32) (K : PUnit → sProp (MT nD τ sig Unit (Elt F) ℕ (UR sig nD τ) ℕ)) :
    iprop(owns (c : Thread nD τ) a6 fullShare x0 ∗ owns (c : Thread nD τ) a7 fullShare x1
        ∗ owns (c : Thread nD τ) a8 fullShare x2 ∗ owns (c : Thread nD τ) a9 fullShare x3
        ∗ ((Memref.whole main_arg4 : Memref sig .tc .smem S23 .i32).view.loc (c : Thread nD τ) ↦[Finset.univ]{fullShare.right} T0) ∗ ((Memref.whole main_arg5 : Memref sig .tc .smem S23 .i32).view.loc (c : Thread nD τ) ↦[Finset.univ]{fullShare.right} T1)
        ∗ ((Memref.whole main_arg6 : Memref sig .tc .smem S23 .i32).view.loc (c : Thread nD τ) ↦[Finset.univ]{fullShare.right} T2) ∗ ((Memref.whole main_arg7 : Memref sig .tc .smem S23 .i32).view.loc (c : Thread nD τ) ↦[Finset.univ]{fullShare.right} T3)
        ∗ ((Memref.whole main_arg8 : Memref sig .tc .smem S23 .i32).view.loc (c : Thread nD τ) ↦[Finset.univ]{fullShare.right} T4)
        ∗ owns (c : Thread nD τ) a10 fullShare y
        ∗ (iprop(owns (c : Thread nD τ) a6 fullShare x0 ∗ owns (c : Thread nD τ) a7 fullShare x1
            ∗ owns (c : Thread nD τ) a8 fullShare x2 ∗ owns (c : Thread nD τ) a9 fullShare x3
            ∗ ((Memref.whole main_arg4 : Memref sig .tc .smem S23 .i32).view.loc (c : Thread nD τ) ↦[Finset.univ]{fullShare.right} T0) ∗ ((Memref.whole main_arg5 : Memref sig .tc .smem S23 .i32).view.loc (c : Thread nD τ) ↦[Finset.univ]{fullShare.right} T1)
            ∗ ((Memref.whole main_arg6 : Memref sig .tc .smem S23 .i32).view.loc (c : Thread nD τ) ↦[Finset.univ]{fullShare.right} T2) ∗ ((Memref.whole main_arg7 : Memref sig .tc .smem S23 .i32).view.loc (c : Thread nD τ) ↦[Finset.univ]{fullShare.right} T3)
            ∗ ((Memref.whole main_arg8 : Memref sig .tc .smem S23 .i32).view.loc (c : Thread nD τ) ↦[Finset.univ]{fullShare.right} T4)
            ∗ owns (c : Thread nD τ) a10 fullShare (left (word T4 i) (part i T2 T3 x0 x1 x2 x3) y)) -∗ K ⟨⟩))
      ⊢ wp frame (wpE (defs₀ (F := F)) Variants.none c none) Set.univ
          (cc0__mlp_body i (Memref.whole main_arg4) (Memref.isWhole_whole _) (Memref.whole main_arg5) (Memref.isWhole_whole _)
            (Memref.whole main_arg6) (Memref.isWhole_whole _) (Memref.whole main_arg7) (Memref.isWhole_whole _)
            (Memref.whole main_arg8) (Memref.isWhole_whole _) a6 h6 a7 h7 a8 h8 a9 h9 a10 h10) K := by
  unfold owns
  rw [cc0__mlp_body_eq_skeleton]; unfold cc0__mlp_body_skel
  iintro ⟨⟨%f0, %e0, H0⟩, ⟨%f1, %e1, H1⟩, ⟨%f2, %e2, H2⟩, ⟨%f3, %e3, H3⟩, HT0, HT1, HT2, HT3, HT4, ⟨%f4, %e4, H4⟩, Hk⟩
  have hT2 : (Memref.whole main_arg6 : Memref sig .tc .smem S23 .i32).IsWhole := Memref.isWhole_whole _
  have hT3 : (Memref.whole main_arg7 : Memref sig .tc .smem S23 .i32).IsWhole := Memref.isWhole_whole _
  have hT4 : (Memref.whole main_arg8 : Memref sig .tc .smem S23 .i32).IsWhole := Memref.isWhole_whole _
  obtain rfl := h6.eq_unread e0
  obtain rfl := h7.eq_unread e1
  obtain rfl := h8.eq_unread e2
  obtain rfl := h9.eq_unread e3
  obtain rfl := h10.eq_unread e4
  sl_exec!
  sl_step
  iapply Hk
  isplitl [H0]
  · iexists _; isplitr
    · ipureintro; exact e0
    · iexact H0
  isplitl [H1]
  · iexists _; isplitr
    · ipureintro; exact e1
    · iexact H1
  isplitl [H2]
  · iexists _; isplitr
    · ipureintro; exact e2
    · iexact H2
  isplitl [H3]
  · iexists _; isplitr
    · ipureintro; exact e3
    · iexact H3
  isplitl [HT0]
  · iexact HT0
  isplitl [HT1]
  · iexact HT1
  isplitl [HT2]
  · iexact HT2
  isplitl [HT3]
  · iexact HT3
  isplitl [HT4]
  · iexact HT4
  iexists _; isplitr
  swap
  · iexact H4
  · ipureintro
    have r2 : body_run.sl.r_2 c i a6 h6 a7 h7 a8 h8 a9 h9 T2 T3 x0 x1 x2 x3 = part i T2 T3 x0 x1 x2 x3 := by
      have q0 : body_run.sl.r (F := F) i T2 = word T2 i := word_read T2 i _ (off1_eq i) _ _
      have q1 : body_run.sl.r_1 (F := F) i T3 = word T3 i := word_read T3 i _ (off1_eq i) _ _
      delta body_run.sl.r_2
      rw [q0, q1, View.readAt_full, View.readAt_full, View.readAt_full, View.readAt_full, e0, e1, e2, e3]
    have r3 : body_run.sl.r_3 (F := F) i T4 = word T4 i := word_read T4 i _ (off1_eq i) _ _
    have r4 : body_run.sl.r_4 (F := F) i T4 = word T4 i := word_read T4 i _ (off2_eq i) _ _
    have r5 : body_run.sl.v50 c i a6 h6 a7 h7 a8 h8 a9 h9 a10 h10 T2 T3 T4 x0 x1 x2 x3 y
        = if k0_cond1 (word T4 i) = 1#1 then part i T2 T3 x0 x1 x2 x3 else y := by
      delta body_run.sl.v50
      rw [View.readAt_full, r2, r3]
      split
      · rw [View.read_writes_full]
      · exact e4
    rw [r2, r3, r4, r5]
    unfold left
    split
    · rw [View.read_writes_full]
    · split
      · rw [View.read_writes_full]
      · exact e4

end Cert.Proof.Experts

end
-- ==== Proof.ExpertsTables.lean ====
/-
  The tables of the expert step: the blocks they name, and the condition under which every block lies inside its array.
-/
module

public import proofs.«01_k».proof.Proof.ExpertsBody

@[expose] public section

set_option maxRecDepth 16384

noncomputable section

namespace Cert.Proof.Experts

open Cert.ExpertsIdeal Cert.ExpertsIdeal.Gen
open Idealize.ShloMosaic
open Idealize.ShloMosaic.TcCoe Idealize.ShloMosaic.Tactic
open Idealize.SL.Sem

variable {F : FTy → Type} [FloatOps F]

/-- The word of table `k` at entry `n`. -/
abbrev blockOf (pf : pre0.Contents (Elt F)) (n : Fin 23) : BitVec 32 := (pf 0 : S23.Idx → BitVec 32) (cell n)
abbrev expertOf (pf : pre0.Contents (Elt F)) (n : Fin 23) : BitVec 32 := (pf 1 : S23.Idx → BitVec 32) (cell n)

theorem at_word (T : S23.Idx → BitVec 32) (i : grid0.Coords)
    (inb : ∀ a, (![(Scalar.indexCast (BitVec.ofNat 32 (i 0).val) : Index).toNat] : Fin 1 → Nat) a + S1.size a ≤ S23.size a)
    (z : (Rect.unit (s := S23) ![(Scalar.indexCast (BitVec.ofNat 32 (i 0).val) : Index).toNat] S1.size inb).shape.Idx) :
    T ((Rect.unit (s := S23) ![(Scalar.indexCast (BitVec.ofNat 32 (i 0).val) : Index).toNat] S1.size inb).emb z) = T (cell (i 0)) :=
  word_read T i _ (by rw [cast_small (i 0)]) inb z

theorem tr0 (pf : pre0.Contents (Elt F)) (i : grid0.Coords) :
    cc0_transform_0 Facts₀.k0_off1_inb Facts₀.numel1_S1 pf i = ![(blockOf pf (i 0)).toNat, 0] := by
  unfold cc0_transform_0
  dsimp only
  refine congrArg (fun w : BitVec 32 => ![w.toNat, 0]) ?_
  exact at_word _ _ _ _

theorem tr1 (pf : pre0.Contents (Elt F)) (i : grid0.Coords) :
    cc0_transform_1 Facts₀.k0_off1_inb Facts₀.numel1_S1 pf i = ![(blockOf pf (i 0)).toNat, 0, 0] := by
  unfold cc0_transform_1
  dsimp only
  refine congrArg (fun w : BitVec 32 => ![w.toNat, 0, 0]) ?_
  exact at_word _ _ _ _

theorem tr2 (pf : pre0.Contents (Elt F)) (i : grid0.Coords) :
    cc0_transform_2 Facts₀.k0_off1_inb Facts₀.numel1_S1 pf i = ![(expertOf pf (i 0)).toNat, 0, 0] := by
  unfold cc0_transform_2
  dsimp only
  refine congrArg (fun w : BitVec 32 => ![w.toNat, 0, 0]) ?_
  exact at_word _ _ _ _

theorem tr3 (pf : pre0.Contents (Elt F)) (i : grid0.Coords) :
    cc0_transform_3 Facts₀.k0_off1_inb Facts₀.numel1_S1 pf i = ![(expertOf pf (i 0)).toNat, 0, 0] := by
  unfold cc0_transform_3
  dsimp only
  refine congrArg (fun w : BitVec 32 => ![w.toNat, 0, 0]) ?_
  exact at_word _ _ _ _

theorem tr4 (pf : pre0.Contents (Elt F)) (i : grid0.Coords) :
    cc0_transform_4 Facts₀.k0_off1_inb Facts₀.numel1_S1 pf i = ![(blockOf pf (i 0)).toNat, 0] := by
  unfold cc0_transform_4
  dsimp only
  refine congrArg (fun w : BitVec 32 => ![w.toNat, 0]) ?_
  exact at_word _ _ _ _

/-- The tables name blocks and experts there are. -/
def Within (pf : pre0.Contents (Elt F)) : Prop :=
  (∀ n : Fin 23, (blockOf pf n).toNat < 16) ∧ ∀ n : Fin 23, (expertOf pf n).toNat < 8

theorem ok_of_within (pf : pre0.Contents (Elt F)) (h : Within pf) : ok0 pf := by
  refine ⟨fun i => ⟨fun a => ?_, .inl rfl⟩, fun i => ⟨fun a => ?_, .inl rfl⟩, fun i => ⟨fun a => ?_, .inr ?_⟩,
    fun i => ⟨fun a => ?_, .inr ?_⟩, fun i => ⟨fun a => ?_, .inl rfl⟩⟩
  · rw [tr0]; have := h.1 (i 0)
    match a with
    | 0 => show ((blockOf pf (i 0)).toNat + 1) * 512 ≤ 8192; omega
    | 1 => exact Nat.le_refl _
  · rw [tr1]; have := h.1 (i 0)
    match a with
    | 0 => show ((blockOf pf (i 0)).toNat + 1) * 1 ≤ 16; omega
    | 1 => exact Nat.le_refl _
    | 2 => exact Nat.le_refl _
  · rw [tr2]; have := h.2 (i 0)
    match a with
    | 0 => show ((expertOf pf (i 0)).toNat + 1) * 1 ≤ 8; omega
    | 1 => exact Nat.le_refl _
    | 2 => exact Nat.le_refl _
  · exact .inr ⟨by decide, rfl, by show cc0_transform_2 _ _ pf i 1 * 1024 = 0; rw [tr2]; rfl, rfl⟩
  · rw [tr3]; have := h.2 (i 0)
    match a with
    | 0 => show ((expertOf pf (i 0)).toNat + 1) * 1 ≤ 8; omega
    | 1 => exact Nat.le_refl _
    | 2 => exact Nat.le_refl _
  · exact .inr ⟨by decide, rfl, by show cc0_transform_3 _ _ pf i 1 * 2048 = 0; rw [tr3]; rfl, rfl⟩
  · rw [tr4]; have := h.1 (i 0)
    match a with
    | 0 => show ((blockOf pf (i 0)).toNat + 1) * 512 ≤ 8192; omega
    | 1 => exact Nat.le_refl _

end Cert.Proof.Experts

end
-- ==== Proof.ExpertsLaunch.lean ====
/-
  The launch of the expert step at any tables that name blocks and experts there are: the proof data with the results
  left open, the body at a grid point, and the run whose inputs end as they began.
-/
module

public import proofs.«01_k».proof.Proof.ExpertsTables
public import Idealize.ShloMosaic.Lib.Pipeline.Frame

@[expose] public section

set_option maxRecDepth 16384

noncomputable section

namespace Cert.Proof.Experts

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

/-- The tables a launch finds. -/
abbrev tables (m : (ℓ : Loc nD τ sig) → Buf (Elt F) ℓ) : pre0.Contents (Elt F) :=
  fun k => m (((0 : Dev nD) : Thread nD τ).loc (pre0.ref k))

variable (m : (ℓ : Loc nD τ sig) → Buf (Elt F) ℓ) (hw : Within (tables m))

/-- The tables as contents the launch admits, and the pipeline there. -/
abbrev adm : (p : Fin 1) → (pcfgs (F := F) p).Adm := fun _ => ⟨tables m, ok_of_within _ hw⟩
abbrev cfgA : Cfg sig Λ₀ := cfg0 (F := F) ⟨tables m, ok_of_within _ hw⟩

/-- The block of window `w` at point `t`. -/
def iblk (c : Dev nD) (w : Fin (cfgA m hw).W) (t : Fin (cfgA m hw).N) :
    (((cfgA m hw).win w).xblock ((cfgA m hw).grid.coords t)).Idx → Elt F ((cfgA m hw).win w).elt :=
  (((cfgA m hw).win w).blk t).view.read (Elt F) (m (((cfgA m hw).win w).arr.view.loc (c : Thread nD τ)))

/-- The proof data, the results left to `out`. -/
def dats (out : Dev nD → Fin (cfgA m hw).N → FVec F S512x1024 .f32) (_ : Fin 1) (c : Dev nD) :
    Dat τ (Elt F) Unit ℕ (UR sig nD τ) ℕ (cfgA m hw) c where
  A w := m (((cfgA m hw).win w).arr.view.loc (c : Thread nD τ))
  after w t := match w with
    | ⟨0, _⟩ => iblk m hw c (0 : Fin 5) t
    | ⟨1, _⟩ => iblk m hw c (1 : Fin 5) t
    | ⟨2, _⟩ => iblk m hw c (2 : Fin 5) t
    | ⟨3, _⟩ => iblk m hw c (3 : Fin 5) t
    | ⟨4, _⟩ => out c t
  Φ _ := iprop(Pipeline.ΦA spec0 c ∗ Pipeline.ΦT pre0 (tables m) c)
  q _ := fullShare
  owed _ := 0

variable (out : Dev nD → Fin (cfgA m hw).N → FVec F S512x1024 .f32)

theorem before_0 (c : Dev nD) (t : Fin (cfgA m hw).N) (d) :
    (dats m hw out 0 c).before (0 : Fin 5) t d = iblk m hw c (0 : Fin 5) t :=
  ((dats m hw out 0 c).before_in_eq_fetched (0 : Fin 5) rfl (fun _ => rfl) (fun _ _ _ => rfl) (fun t => rfl) t d).trans rfl
theorem before_1 (c : Dev nD) (t : Fin (cfgA m hw).N) (d) :
    (dats m hw out 0 c).before (1 : Fin 5) t d = iblk m hw c (1 : Fin 5) t :=
  ((dats m hw out 0 c).before_in_eq_fetched (1 : Fin 5) rfl (fun _ => rfl) (fun _ _ _ => rfl) (fun t => rfl) t d).trans rfl
theorem before_2 (c : Dev nD) (t : Fin (cfgA m hw).N) (d) :
    (dats m hw out 0 c).before (2 : Fin 5) t d = iblk m hw c (2 : Fin 5) t :=
  ((dats m hw out 0 c).before_in_eq_fetched (2 : Fin 5) rfl (fun _ => rfl) (fun _ _ _ => rfl) (fun t => rfl) t d).trans rfl
theorem before_3 (c : Dev nD) (t : Fin (cfgA m hw).N) (d) :
    (dats m hw out 0 c).before (3 : Fin 5) t d = iblk m hw c (3 : Fin 5) t :=
  ((dats m hw out 0 c).before_in_eq_fetched (3 : Fin 5) rfl (fun _ => rfl) (fun _ _ _ => rfl) (fun t => rfl) t d).trans rfl

/-- The tables held, one by one. -/
theorem prefHeld_each (c : Dev nD) (q : Fin 5 → PosShare TreeShare) (v : pre0.Contents (Elt F)) :
    (Pipeline.prefHeld (Ix := Unit) (Name := ℕ) (U := UR sig nD τ) (Lvl := ℕ) pre0 c q v : sProp (MT nD τ sig Unit (Elt F) ℕ (UR sig nD τ) ℕ))
      = iprop((((c : Thread nD τ).loc main_arg4) ↦{q 0} v 0) ∗ (((c : Thread nD τ).loc main_arg5) ↦{q 1} v 1)
        ∗ (((c : Thread nD τ).loc main_arg6) ↦{q 2} v 2) ∗ (((c : Thread nD τ).loc main_arg7) ↦{q 3} v 3)
        ∗ (((c : Thread nD τ).loc main_arg8) ↦{q 4} v 4)) := by
  unfold Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- The step's contribution at point `t`. -/
abbrev partAt (c : Dev nD) (t : Fin (cfgA m hw).N) : FVec F S512x1024 .f32 :=
  part (grid0.coords t) (tables m 2) (tables m 3) (iblk m hw c (0 : Fin 5) t) (iblk m hw c (1 : Fin 5) t)
    (iblk m hw c (2 : Fin 5) t) (iblk m hw c (3 : Fin 5) t)

abbrev flagAt (t : Fin (cfgA m hw).N) : BitVec 32 := word (tables m 4) (grid0.coords t)

theorem body_at (c : Dev nD) (t : Fin (cfgA m hw).N) (y : FVec F S512x1024 .f32) :
    iprop((dats m hw out 0 c).Φ t.castSucc ∗ (dats m hw out 0 c).owesAt () t.castSucc
        ∗ (∃ d, owns (c : Thread nD τ) (((cfgA m hw).win (0 : Fin 5)).stage ((cfgA m hw).slots t (0 : Fin 5))) fullShare ((dats m hw out 0 c).before (0 : Fin 5) t d))
        ∗ (∃ d, owns (c : Thread nD τ) (((cfgA m hw).win (1 : Fin 5)).stage ((cfgA m hw).slots t (1 : Fin 5))) fullShare ((dats m hw out 0 c).before (1 : Fin 5) t d))
        ∗ (∃ d, owns (c : Thread nD τ) (((cfgA m hw).win (2 : Fin 5)).stage ((cfgA m hw).slots t (2 : Fin 5))) fullShare ((dats m hw out 0 c).before (2 : Fin 5) t d))
        ∗ (∃ d, owns (c : Thread nD τ) (((cfgA m hw).win (3 : Fin 5)).stage ((cfgA m hw).slots t (3 : Fin 5))) fullShare ((dats m hw out 0 c).before (3 : Fin 5) t d))
        ∗ owns (c : Thread nD τ) (((cfgA m hw).win (4 : Fin 5)).stage ((cfgA m hw).slots t (4 : Fin 5))) fullShare y)
      ⊢ wp frame (wpE (defs₀ (F := F)) Variants.none c none) Set.univ
          (defs₀ (F := F) .tc (cfgA m hw).body ((cfgA m hw).bodyArgs t ((cfgA m hw).slots t))) fun _ =>
        iprop((dats m hw out 0 c).Φ t.succ ∗ (dats m hw out 0 c).owesAt () t.succ
        ∗ owns (c : Thread nD τ) (((cfgA m hw).win (0 : Fin 5)).stage ((cfgA m hw).slots t (0 : Fin 5))) fullShare ((dats m hw out 0 c).after (0 : Fin 5) t)
        ∗ owns (c : Thread nD τ) (((cfgA m hw).win (1 : Fin 5)).stage ((cfgA m hw).slots t (1 : Fin 5))) fullShare ((dats m hw out 0 c).after (1 : Fin 5) t)
        ∗ owns (c : Thread nD τ) (((cfgA m hw).win (2 : Fin 5)).stage ((cfgA m hw).slots t (2 : Fin 5))) fullShare ((dats m hw out 0 c).after (2 : Fin 5) t)
        ∗ owns (c : Thread nD τ) (((cfgA m hw).win (3 : Fin 5)).stage ((cfgA m hw).slots t (3 : Fin 5))) fullShare ((dats m hw out 0 c).after (3 : Fin 5) t)
        ∗ owns (c : Thread nD τ) (((cfgA m hw).win (4 : Fin 5)).stage ((cfgA m hw).slots t (4 : Fin 5))) fullShare
            (left (flagAt m hw t) (partAt m hw c t) y)) := by
  simp only [before_0, before_1, before_2, before_3]
  rw [show (dats m hw out 0 c).Φ t.castSucc = iprop(Pipeline.ΦA spec0 c ∗ Pipeline.ΦT pre0 (tables m) c) from rfl,
    show (dats m hw out 0 c).Φ t.succ = iprop(Pipeline.ΦA spec0 c ∗ Pipeline.ΦT pre0 (tables m) c) from rfl]
  unfold Pipeline.ΦT
  rw [prefHeld_each]
  iintro ⟨⟨HA, HT0, HT1, HT2, HT3, HT4⟩, HO, ⟨%d0, H0⟩, ⟨%d1, H1⟩, ⟨%d2, H2⟩, ⟨%d3, H3⟩, H4⟩
  iapply (body_run (F := F) (Name := ℕ) c (grid0.coords t)
    (((cfgA m hw).win (0 : Fin 5)).stage ((cfgA m hw).slots t (0 : Fin 5))) (Facts₀.hstage0_0 (((cfgA m hw).slots t (0 : Fin 5)).cast Facts₀.nbuf0_0))
    (((cfgA m hw).win (1 : Fin 5)).stage ((cfgA m hw).slots t (1 : Fin 5))) (Facts₀.hstage0_1 (((cfgA m hw).slots t (1 : Fin 5)).cast Facts₀.nbuf0_1))
    (((cfgA m hw).win (2 : Fin 5)).stage ((cfgA m hw).slots t (2 : Fin 5))) (Facts₀.hstage0_2 (((cfgA m hw).slots t (2 : Fin 5)).cast Facts₀.nbuf0_2))
    (((cfgA m hw).win (3 : Fin 5)).stage ((cfgA m hw).slots t (3 : Fin 5))) (Facts₀.hstage0_3 (((cfgA m hw).slots t (3 : Fin 5)).cast Facts₀.nbuf0_3))
    (((cfgA m hw).win (4 : Fin 5)).stage ((cfgA m hw).slots t (4 : Fin 5))) (Facts₀.hstage0_4 (((cfgA m hw).slots t (4 : Fin 5)).cast Facts₀.nbuf0_4))
    (tables m 0) (tables m 1) (tables m 2) (tables m 3) (tables m 4)
    (iblk m hw c (0 : Fin 5) t) (iblk m hw c (1 : Fin 5) t) (iblk m hw c (2 : Fin 5) t) (iblk m hw c (3 : Fin 5) t) y)
  isplitl [H0]; · iexact H0
  isplitl [H1]; · iexact H1
  isplitl [H2]; · iexact H2
  isplitl [H3]; · iexact H3
  isplitl [HT0]; · iexact HT0
  isplitl [HT1]; · iexact HT1
  isplitl [HT2]; · iexact HT2
  isplitl [HT3]; · iexact HT3
  isplitl [HT4]; · iexact HT4
  isplitl [H4]; · iexact H4
  iintro ⟨H0, H1, H2, H3, HT0, HT1, HT2, HT3, HT4, H4⟩
  isplitl [HA HT0 HT1 HT2 HT3 HT4]
  · isplitl [HA]; · iexact HA
    isplitl [HT0]; · iexact HT0
    isplitl [HT1]; · iexact HT1
    isplitl [HT2]; · iexact HT2
    isplitl [HT3]; · iexact HT3
    iexact HT4
  isplitl [HO]; · iexact HO
  isplitl [H0]; · iexact H0
  isplitl [H1]; · iexact H1
  isplitl [H2]; · iexact H2
  isplitl [H3]; · iexact H3
  iexact H4

/-- The run's results are left open. -/
abbrev forgets : Fin 5 → Bool := fun w => w.val == 4

theorem body_open (c : Dev nD) :
    Pipeline.BodyObligation (dats m hw out 0 c) (defs₀ (F := F)) Variants.none () Set.univ forgets := fun t => by
  rw [bigSep_W0, bigSep_W0]
  show iprop((dats m hw out 0 c).Φ t.castSucc ∗ (dats m hw out 0 c).owesAt () t.castSucc
        ∗ (∃ d, owns (c : Thread nD τ) (((cfgA m hw).win (0 : Fin 5)).stage ((cfgA m hw).slots t (0 : Fin 5))) fullShare ((dats m hw out 0 c).before (0 : Fin 5) t d))
        ∗ (∃ d, owns (c : Thread nD τ) (((cfgA m hw).win (1 : Fin 5)).stage ((cfgA m hw).slots t (1 : Fin 5))) fullShare ((dats m hw out 0 c).before (1 : Fin 5) t d))
        ∗ (∃ d, owns (c : Thread nD τ) (((cfgA m hw).win (2 : Fin 5)).stage ((cfgA m hw).slots t (2 : Fin 5))) fullShare ((dats m hw out 0 c).before (2 : Fin 5) t d))
        ∗ (∃ d, owns (c : Thread nD τ) (((cfgA m hw).win (3 : Fin 5)).stage ((cfgA m hw).slots t (3 : Fin 5))) fullShare ((dats m hw out 0 c).before (3 : Fin 5) t d))
        ∗ (∃ X, owns (c : Thread nD τ) (((cfgA m hw).win (4 : Fin 5)).stage ((cfgA m hw).slots t (4 : Fin 5))) fullShare X))
      ⊢ wp frame (wpE (defs₀ (F := F)) Variants.none c none) Set.univ
          (defs₀ (F := F) .tc (cfgA m hw).body ((cfgA m hw).bodyArgs t ((cfgA m hw).slots t))) fun _ =>
        iprop((dats m hw out 0 c).Φ t.succ ∗ (dats m hw out 0 c).owesAt () t.succ
        ∗ owns (c : Thread nD τ) (((cfgA m hw).win (0 : Fin 5)).stage ((cfgA m hw).slots t (0 : Fin 5))) fullShare ((dats m hw out 0 c).after (0 : Fin 5) t)
        ∗ owns (c : Thread nD τ) (((cfgA m hw).win (1 : Fin 5)).stage ((cfgA m hw).slots t (1 : Fin 5))) fullShare ((dats m hw out 0 c).after (1 : Fin 5) t)
        ∗ owns (c : Thread nD τ) (((cfgA m hw).win (2 : Fin 5)).stage ((cfgA m hw).slots t (2 : Fin 5))) fullShare ((dats m hw out 0 c).after (2 : Fin 5) t)
        ∗ owns (c : Thread nD τ) (((cfgA m hw).win (3 : Fin 5)).stage ((cfgA m hw).slots t (3 : Fin 5))) fullShare ((dats m hw out 0 c).after (3 : Fin 5) t)
        ∗ (∃ X, owns (c : Thread nD τ) (((cfgA m hw).win (4 : Fin 5)).stage ((cfgA m hw).slots t (4 : Fin 5))) fullShare X))
  iintro ⟨HΦ, HO, H0, H1, H2, H3, ⟨%y, H4⟩⟩
  iapply (wp_mono _ _ _ fun _ => sep_mono .rfl (sep_mono .rfl (sep_mono .rfl (sep_mono .rfl (sep_mono .rfl (sep_mono .rfl
    (exists_intro (left (flagAt m hw t) (partAt m hw c t) y))))))))
  iapply (body_at m hw out c t y)
  isplitl [HΦ]; · iexact HΦ
  isplitl [HO]; · iexact HO
  isplitl [H0]; · iexact H0
  isplitl [H1]; · iexact H1
  isplitl [H2]; · iexact H2
  isplitl [H3]; · iexact H3
  iexact H4

theorem share_full (c : Dev nD) (w : Fin (cfgA m hw).W) : (dats m hw out 0 c).share w = fullShare := by
  unfold Dat.share; split <;> rfl

/-- The pipeline's launch from any launch contents. -/
theorem to_main : Pipeline.HMainP (Ix := Unit) (Name := ℕ) (U := UR sig nD τ) (Lvl := ℕ) (pcfgs (F := F)) 0 (defs₀ (F := F))
    Variants.none m (main (F := F)) (fun c b => m ((c : Thread nD τ).loc b)) := fun c Q => by
  delta main; simp only [Prog.bind_lift, Prog.pure_eq_ret]
  iintro ⟨Hk, Hb⟩; iapply Hk; iexact Hb

theorem kept_0 (c : Dev nD) (n : Nat) : (dats m hw out 0 c).arrAt (0 : Fin 5) n = m ((c : Thread nD τ).loc main_arg0) :=
  ((dats m hw out 0 c).arrAt_in (0 : Fin 5) rfl n).trans rfl
theorem kept_1 (c : Dev nD) (n : Nat) : (dats m hw out 0 c).arrAt (1 : Fin 5) n = m ((c : Thread nD τ).loc main_arg1) :=
  ((dats m hw out 0 c).arrAt_in (1 : Fin 5) rfl n).trans rfl
theorem kept_2 (c : Dev nD) (n : Nat) : (dats m hw out 0 c).arrAt (2 : Fin 5) n = m ((c : Thread nD τ).loc main_arg2) :=
  ((dats m hw out 0 c).arrAt_in (2 : Fin 5) rfl n).trans rfl
theorem kept_3 (c : Dev nD) (n : Nat) : (dats m hw out 0 c).arrAt (3 : Fin 5) n = m ((c : Thread nD τ).loc main_arg3) :=
  ((dats m hw out 0 c).arrAt_in (3 : Fin 5) rfl n).trans rfl
theorem rest_4 : main_arg4 ∈ Pipeline.restRefs sig spec0 := by decide
theorem rest_5 : main_arg5 ∈ Pipeline.restRefs sig spec0 := by decide
theorem rest_6 : main_arg6 ∈ Pipeline.restRefs sig spec0 := by decide
theorem rest_7 : main_arg7 ∈ Pipeline.restRefs sig spec0 := by decide
theorem rest_8 : main_arg8 ∈ Pipeline.restRefs sig spec0 := by decide

set_option maxHeartbeats 2000000 in
include hw in
/-- The run ends with every argument as it began and every counter at zero. -/
theorem run_frame (ρ : Dev nD → PrngReg) :
    θ_run (defs (F := F)) (onTc (τ := τ) (main (F := F))) (s₀ m ρ) fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8))
      ∧ r.2.sem = fun _ => 0 := by
  refine Pipeline.θ_run_frameP_forget pcfgs (adm m hw) (dats m hw (partAt m hw)) 0 (launch0 (F := F)) defs₀ Variants.none
    forgets m ρ main (hbody := fun c => (body_open m hw _ c).loose) (hshare := share_full m hw _) (howed := fun _ _ => rfl)
    (V := fun c b => m ((c : Thread nD τ).loc b)) (hmain := to_main m) (hA := fun _ _ => rfl)
    (hpf := fun c k => by obtain rfl := Subsingleton.elim c 0; rfl) (hΦ := fun _ _ => rfl)
    (Q' := _) (hQ' := fun r h => ⟨fun c => ⟨?_, ?_, ?_, ?_, ?_, ?_, ?_, ?_, ?_⟩, h.2⟩)
  · exact ((Dat.toRForget_arrAt_iff (dats m hw (partAt m hw) 0 c) (w := (0 : Fin 5)) rfl _ _).mp ((h.1 c).1 (0 : Fin 5))).trans
      (kept_0 m hw (partAt m hw) c _)
  · exact ((Dat.toRForget_arrAt_iff (dats m hw (partAt m hw) 0 c) (w := (1 : Fin 5)) rfl _ _).mp ((h.1 c).1 (1 : Fin 5))).trans
      (kept_1 m hw (partAt m hw) c _)
  · exact ((Dat.toRForget_arrAt_iff (dats m hw (partAt m hw) 0 c) (w := (2 : Fin 5)) rfl _ _).mp ((h.1 c).1 (2 : Fin 5))).trans
      (kept_2 m hw (partAt m hw) c _)
  · exact ((Dat.toRForget_arrAt_iff (dats m hw (partAt m hw) 0 c) (w := (3 : Fin 5)) rfl _ _).mp ((h.1 c).1 (3 : Fin 5))).trans
      (kept_3 m hw (partAt m hw) c _)
  · exact (h.1 c).2 main_arg4 rest_4
  · exact (h.1 c).2 main_arg5 rest_5
  · exact (h.1 c).2 main_arg6 rest_6
  · exact (h.1 c).2 main_arg7 rest_7
  · exact (h.1 c).2 main_arg8 rest_8

end Cert.Proof.Experts

end
-- ==== Proof.ExpertsValue.lean ====
/-
  The value of the launch at a schedule that visits the blocks in order: what the result block holds after each visit,
  and the array the run leaves.
-/
module

public import proofs.«01_k».proof.Proof.ExpertsLaunch
public import Idealize.ShloMosaic.Lib.Pipeline.ValueKit

@[expose] public section

set_option maxRecDepth 16384

noncomputable section

namespace Cert.Proof.Experts

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

abbrev firstOf (pf : pre0.Contents (Elt F)) (n : Fin 23) : BitVec 32 := (pf 4 : S23.Idx → BitVec 32) (cell n)

/-- The visits go through the blocks in order, the first visit of each marked. -/
structure Scheduled (pf : pre0.Contents (Elt F)) : Prop where
  within : Within pf
  start : firstOf pf 0 = 1#32
  zero : (blockOf pf 0).toNat = 0
  last : (blockOf pf 22).toNat = 15
  step : ∀ n : Fin 22, (firstOf pf n.succ = 0#32 ∧ blockOf pf n.succ = blockOf pf n.castSucc)
    ∨ (firstOf pf n.succ = 1#32 ∧ (blockOf pf n.succ).toNat = (blockOf pf n.castSucc).toNat + 1)

theorem left_one (v y : FVec F S512x1024 .f32) : left 1#32 v y = v := by
  unfold left; rw [if_neg (by decide), if_pos (by decide)]

theorem left_zero (v y : FVec F S512x1024 .f32) : left 0#32 v y = k0_pay1 v y := by
  unfold left; rw [if_pos (by decide), if_neg (by decide)]

theorem coord_val : ∀ t : Fin grid0.N, (grid0.coords t 0).val = t.val := by decide +kernel

variable (m : (ℓ : Loc nD τ sig) → Buf (Elt F) ℓ) (hw : Within (tables m)) (hs : Scheduled (tables m))

/-- What the result block holds after visit `n`. -/
def acc (c : Dev nD) : (n : ℕ) → n < grid0.N → FVec F S512x1024 .f32
  | 0, h => left (flagAt m hw ⟨0, h⟩) (partAt m hw c ⟨0, h⟩) (partAt m hw c ⟨0, h⟩)
  | n + 1, h => left (flagAt m hw ⟨n + 1, h⟩) (partAt m hw c ⟨n + 1, h⟩) (acc c n (Nat.lt_of_succ_lt h))

abbrev accAt (c : Dev nD) (t : Fin (cfgA m hw).N) : FVec F S512x1024 .f32 := acc m hw c t.val t.isLt

theorem N_eq : grid0.N = 23 := rfl

theorem flag_eq (t : Fin grid0.N) (n : Fin 23) (h : n.val = t.val) : flagAt m hw t = firstOf (tables m) n := by
  have e : grid0.coords t 0 = n := Fin.ext ((coord_val t).trans h.symm)
  exact congrArg (fun k => (tables m 4 : S23.Idx → BitVec 32) (cell k)) e

theorem index_eq (t : Fin (cfgA m hw).N) :
    ((cfgA m hw).win (4 : Fin 5)).index t = ![(blockOf (tables m) (grid0.coords t 0)).toNat, 0] :=
  (show ((cfgA m hw).win (4 : Fin 5)).index t = cc0_transform_4 Facts₀.k0_off1_inb Facts₀.numel1_S1 (tables m) (grid0.coords t) from rfl).trans
    (tr4 (tables m) (grid0.coords t))

theorem at_cell (i : grid0.Coords) (off : Fin 1 → Nat) (e : off = ![(i 0).val]) (h : ∀ a, off a + 1 ≤ S23.size a) :
    (fun a => ⟨off a, h a⟩ : S23.Idx) = cell (i 0) := by
  subst e
  funext a
  match a with
  | 0 => rfl

theorem live_result (t : Fin (cfgA m hw).N) (h : flagAt m hw t = 0#32 ∨ flagAt m hw t = 1#32) :
    (cfgA m hw).idle (4 : Fin 5) ((cfgA m hw).grid.coords t) = false := by
  have e1 : (tables m).atD 4 (k0_off1 (grid0.coords t)) = flagAt m hw t := by
    have hb : ∀ a, k0_off1 (grid0.coords t) a + 1 ≤ S23.size a := fun a => by
      rw [off1_eq, Subsingleton.elim a 0]; exact (grid0.coords t 0).isLt
    refine (dif_pos hb).trans ?_
    exact congrArg (tables m 4 : S23.Idx → BitVec 32) (at_cell (grid0.coords t) _ (off1_eq _) hb)
  have e2 : (tables m).atD 4 (k0_off2 (grid0.coords t)) = flagAt m hw t := by
    rw [show k0_off2 (grid0.coords t) = k0_off1 (grid0.coords t) from (off2_eq _).trans (off1_eq _).symm]; exact e1
  show (!(k0_cond1 ((tables m).atD 4 (k0_off1 (grid0.coords t))) == 1#1) && !(k0_cond2 ((tables m).atD 4 (k0_off2 (grid0.coords t))) == 1#1)) = false
  rw [e1, e2]
  rcases h with h | h <;> rw [h] <;> decide

include hs in
theorem flag_cases (t : Fin (cfgA m hw).N) : flagAt m hw t = 0#32 ∨ flagAt m hw t = 1#32 := by
  obtain ⟨n, h⟩ := t
  match n, h with
  | 0, h => exact .inr ((flag_eq m hw ⟨0, h⟩ 0 rfl).trans hs.start)
  | n + 1, h =>
    have hn : n < 22 := by have : n + 1 < 23 := h; omega
    have e := flag_eq m hw ⟨n + 1, h⟩ (⟨n, hn⟩ : Fin 22).succ rfl
    rcases hs.step ⟨n, hn⟩ with q | q
    · exact .inl (e.trans q.1)
    · exact .inr (e.trans q.1)

include hs in
theorem acc_step (c : Dev nD) (t : Fin (cfgA m hw).N) (d) :
    left (flagAt m hw t) (partAt m hw c t) ((dats m hw (accAt m hw) 0 c).before (4 : Fin 5) t d) = accAt m hw c t := by
  obtain ⟨n, h⟩ := t
  match n, h with
  | 0, h =>
    show left (flagAt m hw ⟨0, h⟩) _ _ = left (flagAt m hw ⟨0, h⟩) _ _
    rw [(flag_eq m hw ⟨0, h⟩ 0 rfl).trans hs.start, left_one, left_one]
  | n + 1, h =>
    have hn : n < 22 := by have : n + 1 < 23 := h; omega
    have e := flag_eq m hw ⟨n + 1, h⟩ (⟨n, hn⟩ : Fin 22).succ rfl
    show left (flagAt m hw ⟨n + 1, h⟩) _ _ = left (flagAt m hw ⟨n + 1, h⟩) _ (acc m hw c n _)
    rcases hs.step ⟨n, hn⟩ with q | q
    · refine congrArg (left _ _) ?_
      have hn' : n < (cfgA m hw).N := Nat.lt_of_succ_lt h
      have hix : ((cfgA m hw).win (4 : Fin 5)).index ⟨n + 1, h⟩ = ((cfgA m hw).win (4 : Fin 5)).index ⟨n, hn'⟩ := by
        rw [index_eq, index_eq, show grid0.coords ⟨n + 1, h⟩ 0 = (⟨n, hn⟩ : Fin 22).succ from Fin.ext (coord_val ⟨n + 1, h⟩),
          show grid0.coords ⟨n, hn'⟩ 0 = (⟨n, hn⟩ : Fin 22).castSucc from Fin.ext (coord_val ⟨n, hn'⟩), q.2]
      have hfl : ((cfgA m hw).win (4 : Fin 5)).flush ⟨n, hn'⟩ = false := by
        unfold Window.flush
        have h1 : ¬ (n + 1 = (cfgA m hw).N) := by show ¬ (n + 1 = 23); omega
        have h2 : ¬ ∃ h' : n + 1 < (cfgA m hw).N, ((cfgA m hw).win (4 : Fin 5)).index ⟨n + 1, h'⟩ ≠ ((cfgA m hw).win (4 : Fin 5)).index ⟨n, hn'⟩ :=
          fun ⟨_, hne⟩ => hne hix
        simp [h1, h2]
      rw [(dats m hw (accAt m hw) 0 c).before_of_pos (4 : Fin 5) ⟨n + 1, h⟩ (Nat.succ_ne_zero _) (((cfgA m hw).win (4 : Fin 5)).fetch_out rfl _) d]
      rw [if_neg (by rw [show ((cfgA m hw).win (4 : Fin 5)).flush ⟨n + 1 - 1, _⟩ = false from hfl]; exact Bool.false_ne_true)]
      unfold Dat.left
      rw [show (cfgA m hw).idle (4 : Fin 5) ((cfgA m hw).grid.coords ⟨n + 1 - 1, _⟩) = false from
        live_result m hw ⟨n, hn'⟩ (flag_cases m hw hs ⟨n, hn'⟩)]
      rfl
    · rw [e.trans q.1, left_one, left_one]

include hs in
theorem body_exact (c : Dev nD) :
    Pipeline.BodyObligation (dats m hw (accAt m hw) 0 c) (defs₀ (F := F)) Variants.none () Set.univ := fun t => by
  rw [bigSep_W0, bigSep_W0]
  have key : iprop((dats m hw (accAt m hw) 0 c).Φ t.castSucc ∗ (dats m hw (accAt m hw) 0 c).owesAt () t.castSucc
        ∗ (∃ d, owns (c : Thread nD τ) (((cfgA m hw).win (0 : Fin 5)).stage ((cfgA m hw).slots t (0 : Fin 5))) fullShare ((dats m hw (accAt m hw) 0 c).before (0 : Fin 5) t d))
        ∗ (∃ d, owns (c : Thread nD τ) (((cfgA m hw).win (1 : Fin 5)).stage ((cfgA m hw).slots t (1 : Fin 5))) fullShare ((dats m hw (accAt m hw) 0 c).before (1 : Fin 5) t d))
        ∗ (∃ d, owns (c : Thread nD τ) (((cfgA m hw).win (2 : Fin 5)).stage ((cfgA m hw).slots t (2 : Fin 5))) fullShare ((dats m hw (accAt m hw) 0 c).before (2 : Fin 5) t d))
        ∗ (∃ d, owns (c : Thread nD τ) (((cfgA m hw).win (3 : Fin 5)).stage ((cfgA m hw).slots t (3 : Fin 5))) fullShare ((dats m hw (accAt m hw) 0 c).before (3 : Fin 5) t d))
        ∗ (∃ d, owns (c : Thread nD τ) (((cfgA m hw).win (4 : Fin 5)).stage ((cfgA m hw).slots t (4 : Fin 5))) fullShare ((dats m hw (accAt m hw) 0 c).before (4 : Fin 5) t d)))
      ⊢ wp frame (wpE (defs₀ (F := F)) Variants.none c none) Set.univ
          (defs₀ (F := F) .tc (cfgA m hw).body ((cfgA m hw).bodyArgs t ((cfgA m hw).slots t))) fun _ =>
        iprop((dats m hw (accAt m hw) 0 c).Φ t.succ ∗ (dats m hw (accAt m hw) 0 c).owesAt () t.succ
        ∗ owns (c : Thread nD τ) (((cfgA m hw).win (0 : Fin 5)).stage ((cfgA m hw).slots t (0 : Fin 5))) fullShare ((dats m hw (accAt m hw) 0 c).after (0 : Fin 5) t)
        ∗ owns (c : Thread nD τ) (((cfgA m hw).win (1 : Fin 5)).stage ((cfgA m hw).slots t (1 : Fin 5))) fullShare ((dats m hw (accAt m hw) 0 c).after (1 : Fin 5) t)
        ∗ owns (c : Thread nD τ) (((cfgA m hw).win (2 : Fin 5)).stage ((cfgA m hw).slots t (2 : Fin 5))) fullShare ((dats m hw (accAt m hw) 0 c).after (2 : Fin 5) t)
        ∗ owns (c : Thread nD τ) (((cfgA m hw).win (3 : Fin 5)).stage ((cfgA m hw).slots t (3 : Fin 5))) fullShare ((dats m hw (accAt m hw) 0 c).after (3 : Fin 5) t)
        ∗ owns (c : Thread nD τ) (((cfgA m hw).win (4 : Fin 5)).stage ((cfgA m hw).slots t (4 : Fin 5))) fullShare ((dats m hw (accAt m hw) 0 c).after (4 : Fin 5) t)) := by
    iintro ⟨HΦ, HO, H0, H1, H2, H3, ⟨%d, H4⟩⟩
    rw [show (dats m hw (accAt m hw) 0 c).after (4 : Fin 5) t = left (flagAt m hw t) (partAt m hw c t) ((dats m hw (accAt m hw) 0 c).before (4 : Fin 5) t d) from
      (acc_step m hw hs c t d).symm]
    iapply (body_at m hw (accAt m hw) c t ((dats m hw (accAt m hw) 0 c).before (4 : Fin 5) t d))
    isplitl [HΦ]; · iexact HΦ
    isplitl [HO]; · iexact HO
    isplitl [H0]; · iexact H0
    isplitl [H1]; · iexact H1
    isplitl [H2]; · iexact H2
    isplitl [H3]; · iexact H3
    iexact H4
  have hi := live_result m hw t (flag_cases m hw hs t)
  show iprop((dats m hw (accAt m hw) 0 c).Φ t.castSucc ∗ (dats m hw (accAt m hw) 0 c).owesAt () t.castSucc
        ∗ (∃ d, owns (c : Thread nD τ) (((cfgA m hw).win (0 : Fin 5)).stage ((cfgA m hw).slots t (0 : Fin 5))) fullShare ((dats m hw (accAt m hw) 0 c).before (0 : Fin 5) t d))
        ∗ (∃ d, owns (c : Thread nD τ) (((cfgA m hw).win (1 : Fin 5)).stage ((cfgA m hw).slots t (1 : Fin 5))) fullShare ((dats m hw (accAt m hw) 0 c).before (1 : Fin 5) t d))
        ∗ (∃ d, owns (c : Thread nD τ) (((cfgA m hw).win (2 : Fin 5)).stage ((cfgA m hw).slots t (2 : Fin 5))) fullShare ((dats m hw (accAt m hw) 0 c).before (2 : Fin 5) t d))
        ∗ (∃ d, owns (c : Thread nD τ) (((cfgA m hw).win (3 : Fin 5)).stage ((cfgA m hw).slots t (3 : Fin 5))) fullShare ((dats m hw (accAt m hw) 0 c).before (3 : Fin 5) t d))
        ∗ (∃ d, owns (c : Thread nD τ) (((cfgA m hw).win (4 : Fin 5)).stage ((cfgA m hw).slots t (4 : Fin 5))) fullShare ((dats m hw (accAt m hw) 0 c).before (4 : Fin 5) t d)))
      ⊢ wp frame (wpE (defs₀ (F := F)) Variants.none c none) Set.univ
          (defs₀ (F := F) .tc (cfgA m hw).body ((cfgA m hw).bodyArgs t ((cfgA m hw).slots t))) fun _ =>
        iprop((dats m hw (accAt m hw) 0 c).Φ t.succ ∗ (dats m hw (accAt m hw) 0 c).owesAt () t.succ
        ∗ owns (c : Thread nD τ) (((cfgA m hw).win (0 : Fin 5)).stage ((cfgA m hw).slots t (0 : Fin 5))) fullShare ((dats m hw (accAt m hw) 0 c).after (0 : Fin 5) t)
        ∗ owns (c : Thread nD τ) (((cfgA m hw).win (1 : Fin 5)).stage ((cfgA m hw).slots t (1 : Fin 5))) fullShare ((dats m hw (accAt m hw) 0 c).after (1 : Fin 5) t)
        ∗ owns (c : Thread nD τ) (((cfgA m hw).win (2 : Fin 5)).stage ((cfgA m hw).slots t (2 : Fin 5))) fullShare ((dats m hw (accAt m hw) 0 c).after (2 : Fin 5) t)
        ∗ owns (c : Thread nD τ) (((cfgA m hw).win (3 : Fin 5)).stage ((cfgA m hw).slots t (3 : Fin 5))) fullShare ((dats m hw (accAt m hw) 0 c).after (3 : Fin 5) t)
        ∗ (match (cfgA m hw).idle (4 : Fin 5) ((cfgA m hw).grid.coords t) with
          | true => match ((cfgA m hw).win (4 : Fin 5)).flush t with
            | false => iprop(∃ d, owns (c : Thread nD τ) (((cfgA m hw).win (4 : Fin 5)).stage ((cfgA m hw).slots t (4 : Fin 5))) fullShare ((dats m hw (accAt m hw) 0 c).before (4 : Fin 5) t d))
            | true => owns (c : Thread nD τ) (((cfgA m hw).win (4 : Fin 5)).stage ((cfgA m hw).slots t (4 : Fin 5))) fullShare ((dats m hw (accAt m hw) 0 c).after (4 : Fin 5) t)
          | false => owns (c : Thread nD τ) (((cfgA m hw).win (4 : Fin 5)).stage ((cfgA m hw).slots t (4 : Fin 5))) fullShare ((dats m hw (accAt m hw) 0 c).after (4 : Fin 5) t)))
  rw [hi]
  exact key

/-! ## Visits in order -/

/-- A run of visits: block zero first, each next visit in the same block or the one after. -/
def InOrder (b : Fin 23 → ℕ) : Prop :=
  b 0 = 0 ∧ b 22 = 15 ∧ ∀ n (h : n + 1 < 23), b ⟨n + 1, h⟩ = b ⟨n, Nat.lt_of_succ_lt h⟩ ∨ b ⟨n + 1, h⟩ = b ⟨n, Nat.lt_of_succ_lt h⟩ + 1

theorem InOrder.mono {b : Fin 23 → ℕ} (hb : InOrder b) (n : ℕ) : ∀ h : n < 23, ∀ k : Fin 23, k.val ≤ n → b k ≤ b ⟨n, h⟩ := by
  induction n with
  | zero => intro h k hk; exact le_of_eq (congrArg b (Fin.ext (Nat.le_zero.mp hk)))
  | succ n ih =>
    intro h k hk
    rcases Nat.lt_or_ge n k.val with q | q
    · exact le_of_eq (congrArg b (Fin.ext (by show k.val = n + 1; omega)))
    · have := ih (Nat.lt_of_succ_lt h) k q
      rcases hb.2.2 n h with e | e <;> omega

/-- Sums gathered along the visits of one block. -/
theorem gathered {M : Type} [AddCommMonoid M] {b : Fin 23 → ℕ} (hb : InOrder b) (f : Fin 23 → M) (a : (n : ℕ) → n < 23 → M)
    (h0 : a 0 (by decide) = f 0)
    (hs : ∀ n (h : n + 1 < 23), (b ⟨n + 1, h⟩ = b ⟨n, Nat.lt_of_succ_lt h⟩ ∧ a (n + 1) h = a n (Nat.lt_of_succ_lt h) + f ⟨n + 1, h⟩)
      ∨ (b ⟨n + 1, h⟩ = b ⟨n, Nat.lt_of_succ_lt h⟩ + 1 ∧ a (n + 1) h = f ⟨n + 1, h⟩)) (n : ℕ) :
    ∀ h : n < 23, a n h = ∑ k : Fin 23, if k.val ≤ n ∧ b k = b ⟨n, h⟩ then f k else 0 := by
  induction n with
  | zero =>
    intro h
    rw [Finset.sum_eq_single (0 : Fin 23)]
    · rw [if_pos ⟨Nat.le_refl _, rfl⟩]; exact h0
    · intro k _ hk
      exact if_neg fun q => hk (Fin.ext (Nat.le_zero.mp q.1))
    · exact fun q => absurd (Finset.mem_univ _) q
  | succ n ih =>
    intro h
    have h' : n < 23 := Nat.lt_of_succ_lt h
    rcases hs n h with ⟨e, q⟩ | ⟨e, q⟩
    · rw [q, ih h', ← Finset.sum_add_sum_compl {(⟨n + 1, h⟩ : Fin 23)} (fun k : Fin 23 => if k.val ≤ n + 1 ∧ b k = b ⟨n + 1, h⟩ then f k else 0),
        Finset.sum_singleton, if_pos ⟨Nat.le_refl _, rfl⟩, add_comm]
      refine congrArg (f ⟨n + 1, h⟩ + ·) ?_
      rw [← Finset.sum_add_sum_compl {(⟨n + 1, h⟩ : Fin 23)} (fun k : Fin 23 => if k.val ≤ n ∧ b k = b ⟨n, h'⟩ then f k else 0),
        Finset.sum_singleton, if_neg (by rintro ⟨hq, -⟩; exact Nat.not_succ_le_self n hq), zero_add]
      refine Finset.sum_congr rfl fun k hk => ?_
      have hne : k ≠ ⟨n + 1, h⟩ := by simpa using hk
      have hv : k.val ≠ n + 1 := fun z => hne (Fin.ext z)
      exact if_congr (by rw [e]; constructor <;> rintro ⟨u, v⟩ <;> exact ⟨by omega, v⟩) rfl rfl
    · rw [q, Finset.sum_eq_single (⟨n + 1, h⟩ : Fin 23)]
      · rw [if_pos ⟨Nat.le_refl _, rfl⟩]
      · intro k _ hk
        refine if_neg fun z => ?_
        have hv : k.val ≠ n + 1 := fun z => hk (Fin.ext z)
        have := hb.mono n h' k (by have := z.1; omega)
        have := z.2
        omega
      · exact fun z => absurd (Finset.mem_univ _) z

/-- Every block has a last visit. -/
theorem InOrder.last {b : Fin 23 → ℕ} (hb : InOrder b) (x : ℕ) (hx : x < 16) :
    ∃ t : Fin 23, b t = x ∧ ∀ h : t.val + 1 < 23, b ⟨t.val + 1, h⟩ ≠ b t := by
  have hn : (Finset.univ.filter fun k : Fin 23 => b k ≤ x).Nonempty := ⟨0, by simp [hb.1]⟩
  obtain ⟨t, ht, hm⟩ := Finset.exists_max_image _ (fun k : Fin 23 => k.val) hn
  have hle : b t ≤ x := (Finset.mem_filter.mp ht).2
  have hnext : ∀ h : t.val + 1 < 23, x < b ⟨t.val + 1, h⟩ := fun h => by
    by_contra hc
    have := hm ⟨t.val + 1, h⟩ (Finset.mem_filter.mpr ⟨Finset.mem_univ _, Nat.le_of_not_lt hc⟩)
    exact Nat.not_succ_le_self _ this
  refine ⟨t, ?_, fun h => by have := hnext h; omega⟩
  rcases Nat.lt_or_ge (t.val + 1) 23 with h | h
  · have := hnext h
    have e : (⟨t.val, Nat.lt_of_succ_lt h⟩ : Fin 23) = t := rfl
    rcases hb.2.2 t.val h with q | q <;> rw [e] at q <;> omega
  · have e : t = 22 := Fin.ext (by show t.val = 22; omega)
    have := hb.2.1
    rw [e] at hle ⊢
    omega

end Cert.Proof.Experts

end
-- ==== Proof.ExpertsSum.lean ====
/-
  The array the expert step leaves: each result the sum of the contributions of the visits to its block.
-/
module

public import proofs.«01_k».proof.Proof.ExpertsValue
public import Idealize.ShloMosaic.PureOps.Ideal
public import Idealize.ShloMosaic.Lib.Pointwise
public import Idealize.ShloMosaic.Lib.Pointwise.Tactic

@[expose] public section

set_option maxRecDepth 16384

noncomputable section

namespace Cert.Proof.Experts

open Cert.ExpertsIdeal Cert.ExpertsIdeal.Gen
open Idealize.ShloMosaic
open Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (hw : Within (tables m)) (hs : Scheduled (tables m))

abbrev visit (n : Fin 23) : ℕ := (blockOf (tables m) n).toNat

include hs in
theorem in_order : InOrder (visit m) := by
  refine ⟨hs.zero, hs.last, fun n h => ?_⟩
  have hn : n < 22 := by omega
  rcases hs.step ⟨n, hn⟩ with q | q
  · exact .inl (congrArg BitVec.toNat q.2)
  · exact .inr q.2

theorem pay1_at (v y : FVec Ideal S512x1024 .f32) (i : S512x1024.Idx) :
    k0_pay1 (F := Ideal) v y i = (y i + v i : EReal) := by
  unfold k0_pay1
  pointwise

include hs in
theorem acc_gathered (c : Dev nD) (y : S512x1024.Idx) (n : ℕ) (h : n < 23) :
    (acc m hw c n h y : EReal) = ∑ k : Fin 23, if k.val ≤ n ∧ visit m k = visit m ⟨n, h⟩ then (partAt m hw c k y : EReal) else 0 := by
  refine gathered (in_order m hs) (fun k => (partAt m hw c k y : EReal)) (fun n h => (acc m hw c n h y : EReal)) ?_ ?_ n h
  · exact congrFun ((congrArg (fun z => left z _ _) ((flag_eq m hw ⟨0, by decide⟩ 0 rfl).trans hs.start)).trans (left_one _ _)) y
  · intro n h
    have hn : n < 22 := by omega
    have e := flag_eq m hw (⟨n + 1, h⟩ : Fin grid0.N) (⟨n, hn⟩ : Fin 22).succ rfl
    rcases hs.step ⟨n, hn⟩ with q | q
    · refine .inl ⟨congrArg BitVec.toNat q.2, ?_⟩
      exact (congrFun ((congrArg (fun z => left z _ _) (e.trans q.1)).trans (left_zero _ _)) y).trans (pay1_at _ _ y)
    · refine .inr ⟨q.2, ?_⟩
      exact congrFun ((congrArg (fun z => left z _ _) (e.trans q.1)).trans (left_one _ _)) y

theorem coord_fin (t : Fin grid0.N) : grid0.coords t 0 = (t : Fin 23) := Fin.ext (coord_val t)

theorem index_at (t : Fin (cfgA m hw).N) : ((cfgA m hw).win (4 : Fin 5)).index t = ![visit m t, 0] := by
  rw [index_eq, coord_fin]

/-- A write-back ends the visits to its block. -/
theorem ends (t : Fin (cfgA m hw).N) : ((cfgA m hw).win (4 : Fin 5)).flush t = true ↔
    ∀ h : t.val + 1 < 23, visit m ⟨t.val + 1, h⟩ ≠ visit m (t : Fin 23) := by
  have hx : ∀ h : t.val + 1 < (cfgA m hw).N, (((cfgA m hw).win (4 : Fin 5)).index ⟨t.val + 1, h⟩ ≠ ((cfgA m hw).win (4 : Fin 5)).index t
      ↔ visit m ⟨t.val + 1, h⟩ ≠ visit m (t : Fin 23)) := fun h => by
    rw [index_at, index_at]
    exact not_congr ⟨fun e => congrFun e 0, fun e => congrArg (fun z : ℕ => ![z, 0]) e⟩
  have ho : ((cfgA m hw).win (4 : Fin 5)).isOut = true := rfl
  unfold Window.flush
  rw [ho, Bool.true_and, Bool.or_eq_true, decide_eq_true_iff, decide_eq_true_iff]
  have hN : (cfgA m hw).N = 23 := rfl
  constructor
  · rintro (h | ⟨h, q⟩) h'
    · have h : t.val + 1 = 23 := h
      omega
    · exact (hx h).mp q
  · intro h
    rcases Nat.lt_or_ge (t.val + 1) 23 with q | q
    · exact .inr ⟨q, (hx q).mpr (h q)⟩
    · have h1 : t.val < 23 := t.isLt
      exact .inl (by show t.val + 1 = 23; omega)

/-- At a write-back, the block holds all its visits' contributions. -/
theorem acc_whole (hs : Scheduled (tables m)) (c : Dev nD) (t : Fin (cfgA m hw).N) (hf : ((cfgA m hw).win (4 : Fin 5)).flush t = true) (y : S512x1024.Idx) :
    (accAt m hw c t y : EReal) = ∑ k : Fin 23, if visit m k = visit m (t : Fin 23) then (partAt m hw c k y : EReal) else 0 := by
  have hl := (ends m hw t).mp hf
  rw [show accAt m hw c t = acc m hw c t.val t.isLt from rfl]
  rw [acc_gathered m hw hs c y t.val t.isLt]
  refine Finset.sum_congr rfl fun k _ => if_congr ⟨fun h => h.2, fun h => ⟨?_, h⟩⟩ rfl rfl
  by_contra hk
  have h1 : t.val + 1 < 23 := by have := k.isLt; omega
  have hb := in_order m hs
  have := hl h1
  have h2 : visit m ⟨t.val + 1, h1⟩ ≤ visit m k := hb.mono k.val k.isLt ⟨t.val + 1, h1⟩ (by show t.val + 1 ≤ k.val; omega)
  have h3 : visit m (t : Fin 23) ≤ visit m ⟨t.val + 1, h1⟩ := hb.mono (t.val + 1) h1 (t : Fin 23) (Nat.le_succ _)
  omega

/-- The place of a result in its block. -/
def within_block (i : S8192x1024.Idx) : S512x1024.Idx := fun a => match a with
  | ⟨0, _⟩ => ⟨(i 0).val % 512, Nat.mod_lt _ (by decide)⟩
  | ⟨1, _⟩ => ⟨(i 1).val, (i 1).isLt⟩

/-- The results. -/
def gatheredAll (c : Dev nD) (i : S8192x1024.Idx) : EReal :=
  ∑ k : Fin 23, if visit m k = (i 0).val / 512 then (partAt m hw c k (within_block i) : EReal) else 0

theorem emb_rows (t : Fin (cfgA m hw).N) (y : S512x1024.Idx) :
    ((((cfgA m hw).win (4 : Fin 5)).blk t).view.emb y : S8192x1024.Idx) 0 = (visit m (t : Fin 23)) * 512 + (y 0).val ∧
    ((((cfgA m hw).win (4 : Fin 5)).blk t).view.emb y : S8192x1024.Idx) 1 = (y 1).val := by
  constructor
  · show ((cfgA m hw).win (4 : Fin 5)).index t 0 * 512 + 1 * (y 0).val = _
    rw [index_at]
    show visit m (t : Fin 23) * 512 + 1 * (y 0).val = _
    omega
  · show ((cfgA m hw).win (4 : Fin 5)).index t 1 * 1024 + 1 * (y 1).val = _
    rw [index_at]
    show 0 * 1024 + 1 * (y 1).val = _
    omega

include hs in
theorem result_eq (c : Dev nD) :
    (dats m hw (accAt m hw) 0 c).arrAt (4 : Fin 5) (cfgA m hw).N = (gatheredAll m hw c : S8192x1024.Idx → EReal) := by
  refine (dats m hw (accAt m hw) 0 c).arrAt_eq_of_emb (4 : Fin 5) _ (fun t hf y => ?_) (fun i => ?_)
  · show (accAt m hw c t y : EReal) = gatheredAll m hw c (((((cfgA m hw).win (4 : Fin 5)).blk t).view.emb y : S8192x1024.Idx))
    obtain ⟨e0, e1⟩ := emb_rows m hw t y
    have hy : (y 0).val < 512 := (y 0).isLt
    have hb : within_block (((((cfgA m hw).win (4 : Fin 5)).blk t).view.emb y : S8192x1024.Idx)) = y := by
      funext a
      match a with
      | ⟨0, _⟩ => exact Fin.ext (by show ((((((cfgA m hw).win (4 : Fin 5)).blk t).view.emb y : S8192x1024.Idx)) 0).val % 512 = (y 0).val; rw [e0]; omega)
      | ⟨1, _⟩ => exact Fin.ext e1
    unfold gatheredAll
    rw [hb, acc_whole m hw hs c t hf y, e0, show (visit m (t : Fin 23) * 512 + (y 0).val) / 512 = visit m (t : Fin 23) from by omega]
  · obtain ⟨t, ht, hl⟩ := (in_order m hs).last ((i 0).val / 512) (by have : (i 0).val < 8192 := (i 0).isLt; omega)
    refine ⟨t, (ends m hw t).mpr hl, ?_⟩
    refine (Window.emb_mem_blk_iff (w := (cfgA m hw).win (4 : Fin 5)) t i).mpr fun a => ?_
    have e := index_at m hw t
    match a with
    | ⟨0, _⟩ =>
      have e0 : ((cfgA m hw).win (4 : Fin 5)).index t (0 : Fin 2) = visit m t := congrFun e 0
      show ((cfgA m hw).win (4 : Fin 5)).index t (0 : Fin 2) * 512 ≤ (i 0).val ∧ (i 0).val < ((cfgA m hw).win (4 : Fin 5)).index t (0 : Fin 2) * 512 + 512
      rw [e0, ht]; omega
    | ⟨1, _⟩ =>
      have e0 : ((cfgA m hw).win (4 : Fin 5)).index t (1 : Fin 2) = 0 := congrFun e 1
      show ((cfgA m hw).win (4 : Fin 5)).index t (1 : Fin 2) * 1024 ≤ (i 1).val ∧ (i 1).val < ((cfgA m hw).win (4 : Fin 5)).index t (1 : Fin 2) * 1024 + 1024
      rw [e0]
      show 0 * 1024 ≤ (i 1).val ∧ (i 1).val < 0 * 1024 + 1024
      have : (i 1).val < 1024 := (i 1).isLt
      omega

end Cert.Proof.Experts

end
-- ==== Proof.ExpertsPart.lean ====
/-
  One visit's contribution, entry by entry: a row's two products with an expert's weights, the activation between them;
  and the run that leaves the contributions gathered.
-/
module

public import proofs.«01_k».proof.Proof.ExpertsSum

@[expose] public section

set_option maxRecDepth 16384

noncomputable section

namespace Cert.Proof.Experts

open Cert.ExpertsIdeal Cert.ExpertsIdeal.Gen
open Idealize.ShloMosaic
open Idealize.ShloMosaic.TcCoe Idealize.ShloMosaic.Tactic
open Idealize.SL Idealize.SL.Sem
open Idealize.ShloMosaic.Pipeline (Dat Cfg Window)

/-- The activation. -/
def act (h : EReal) : EReal :=
  h * (Ideal.ofBits FTy.f32 1056964608#32 * (1 + Ideal.tanh (Ideal.ofBits FTy.f32 1061962282#32 *
    (h + Ideal.ofBits FTy.f32 1027024659#32 * (h * (h * h))))))

/-- Row `n` through the first weights of expert `e`. -/
def hidden (x : S8192x1024.Idx → EReal) (w1 : S8x1024x2048.Idx → EReal) (e : Fin 8) (n : Fin 8192) (f : Fin 2048) : EReal :=
  ∑ k : Fin 1024, x (ix2 n k) * w1 (ix3 e k f)

/-- Row `n` through expert `e`. -/
def through (x : S8192x1024.Idx → EReal) (w1 : S8x1024x2048.Idx → EReal) (w2 : S8x2048x1024.Idx → EReal)
    (e : Fin 8) (n : Fin 8192) (d : Fin 1024) : EReal :=
  ∑ f : Fin 2048, act (hidden x w1 e n f) * w2 (ix3 e f d)

theorem part_at (x : FVec Ideal S512x1024 .f32) (w1 : FVec Ideal S1x1024x2048 .bf16) (w2 : FVec Ideal S1x2048x1024 .bf16) (g : FVec Ideal S1x512x1 .f32)
    (lo hi : BitVec 32) (r : Fin 512) (d : Fin 1024) : k0_pay2 (F := Ideal) x w1 w2 g lo hi (ix2 r d)
      = Scalar.select (IntOp.andi (IntOp.cmpi .sge (BitVec.ofNat 32 r.val) lo) (IntOp.cmpi .slt (BitVec.ofNat 32 r.val) hi))
        ((∑ f : Fin 2048, act (∑ k : Fin 1024, (x (ix2 r k) : EReal) * (w1 (ix3 0 k f) : EReal)) * (w2 (ix3 0 f d) : EReal)) * (g (ix3 0 r 0) : EReal)) (0 : EReal) := by
  unfold k0_pay2
  dsimp only
  pointwise
  rfl

variable (m : (ℓ : Loc nD τ sig) → Buf (Elt Ideal) ℓ) (hw : Within (tables m)) (c : Dev nD)

theorem place_0 (t : Fin (cfgA m hw).N) : ((cfgA m hw).win (0 : Fin 5)).index t = ![visit m (t : Fin 23), 0] :=
  (tr0 (tables m) (grid0.coords t)).trans (by rw [coord_fin])
theorem place_1 (t : Fin (cfgA m hw).N) : ((cfgA m hw).win (1 : Fin 5)).index t = ![visit m (t : Fin 23), 0, 0] :=
  (tr1 (tables m) (grid0.coords t)).trans (by rw [coord_fin])
theorem place_2 (t : Fin (cfgA m hw).N) : ((cfgA m hw).win (2 : Fin 5)).index t = ![(expertOf (tables m) (t : Fin 23)).toNat, 0, 0] :=
  (tr2 (tables m) (grid0.coords t)).trans (by rw [coord_fin])
theorem place_3 (t : Fin (cfgA m hw).N) : ((cfgA m hw).win (3 : Fin 5)).index t = ![(expertOf (tables m) (t : Fin 23)).toNat, 0, 0] :=
  (tr3 (tables m) (grid0.coords t)).trans (by rw [coord_fin])

/-- The expert of a visit. -/
def who (n : Fin 23) : Fin 8 := ⟨(expertOf (tables m) n).toNat, hw.2 n⟩

abbrev rowsOf : S8192x1024.Idx → EReal := m ((c : Thread nD τ).loc main_arg0)
abbrev gatesOf : S16x512x1.Idx → EReal := m ((c : Thread nD τ).loc main_arg1)
abbrev upOf : S8x1024x2048.Idx → EReal := m ((c : Thread nD τ).loc main_arg2)
abbrev downOf : S8x2048x1024.Idx → EReal := m ((c : Thread nD τ).loc main_arg3)

theorem read_0 (t : Fin (cfgA m hw).N) (b : Fin 16) (hb : visit m (t : Fin 23) = b.val) (r : Fin 512) (k : Fin 1024) (n : Fin 8192)
    (hn : n.val = b.val * 512 + r.val) :
    (iblk m hw c (0 : Fin 5) t : S512x1024.Idx → EReal) (ix2 r k) = rowsOf m c (ix2 n k) := by
  refine congrArg (rowsOf m c) (funext fun a => ?_)
  have e := place_0 m hw t
  match a with
  | ⟨0, _⟩ =>
    refine Fin.ext ?_
    have e0 : ((cfgA m hw).win (0 : Fin 5)).index t (0 : Fin 2) = visit m (t : Fin 23) := congrFun e 0
    show ((cfgA m hw).win (0 : Fin 5)).index t (0 : Fin 2) * 512 + 1 * r.val = n.val
    rw [e0]; omega
  | ⟨1, _⟩ =>
    refine Fin.ext ?_
    have e0 : ((cfgA m hw).win (0 : Fin 5)).index t (1 : Fin 2) = 0 := congrFun e 1
    show ((cfgA m hw).win (0 : Fin 5)).index t (1 : Fin 2) * 1024 + 1 * k.val = k.val
    rw [e0]; omega

theorem read_1 (t : Fin (cfgA m hw).N) (b : Fin 16) (hb : visit m (t : Fin 23) = b.val) (r : Fin 512) :
    (iblk m hw c (1 : Fin 5) t : S1x512x1.Idx → EReal) (ix3 0 r 0) = gatesOf m c (ix3 b r 0) := by
  refine congrArg (gatesOf m c) (funext fun a => ?_)
  have e := place_1 m hw t
  match a with
  | ⟨0, _⟩ =>
    refine Fin.ext ?_
    have e0 : ((cfgA m hw).win (1 : Fin 5)).index t (0 : Fin 3) = visit m (t : Fin 23) := congrFun e 0
    show ((cfgA m hw).win (1 : Fin 5)).index t (0 : Fin 3) * 1 + 1 * 0 = b.val
    rw [e0]; omega
  | ⟨1, _⟩ =>
    refine Fin.ext ?_
    have e0 : ((cfgA m hw).win (1 : Fin 5)).index t (1 : Fin 3) = 0 := congrFun e 1
    show ((cfgA m hw).win (1 : Fin 5)).index t (1 : Fin 3) * 512 + 1 * r.val = r.val
    rw [e0]; omega
  | ⟨2, _⟩ =>
    refine Fin.ext ?_
    have e0 : ((cfgA m hw).win (1 : Fin 5)).index t (2 : Fin 3) = 0 := congrFun e 2
    show ((cfgA m hw).win (1 : Fin 5)).index t (2 : Fin 3) * 1 + 1 * 0 = 0
    rw [e0]

theorem read_2 (t : Fin (cfgA m hw).N) (k : Fin 1024) (f : Fin 2048) :
    (iblk m hw c (2 : Fin 5) t : S1x1024x2048.Idx → EReal) (ix3 0 k f) = upOf m c (ix3 (who m hw (t : Fin 23)) k f) := by
  refine congrArg (upOf m c) (funext fun a => ?_)
  have e := place_2 m hw t
  match a with
  | ⟨0, _⟩ =>
    refine Fin.ext ?_
    have e0 : ((cfgA m hw).win (2 : Fin 5)).index t (0 : Fin 3) = (expertOf (tables m) (t : Fin 23)).toNat := congrFun e 0
    show ((cfgA m hw).win (2 : Fin 5)).index t (0 : Fin 3) * 1 + 1 * 0 = (expertOf (tables m) (t : Fin 23)).toNat
    rw [e0]; omega
  | ⟨1, _⟩ =>
    refine Fin.ext ?_
    have e0 : ((cfgA m hw).win (2 : Fin 5)).index t (1 : Fin 3) = 0 := congrFun e 1
    show ((cfgA m hw).win (2 : Fin 5)).index t (1 : Fin 3) * 1024 + 1 * k.val = k.val
    rw [e0]; omega
  | ⟨2, _⟩ =>
    refine Fin.ext ?_
    have e0 : ((cfgA m hw).win (2 : Fin 5)).index t (2 : Fin 3) = 0 := congrFun e 2
    show ((cfgA m hw).win (2 : Fin 5)).index t (2 : Fin 3) * 2048 + 1 * f.val = f.val
    rw [e0]; omega

theorem read_3 (t : Fin (cfgA m hw).N) (k : Fin 2048) (f : Fin 1024) :
    (iblk m hw c (3 : Fin 5) t : S1x2048x1024.Idx → EReal) (ix3 0 k f) = downOf m c (ix3 (who m hw (t : Fin 23)) k f) := by
  refine congrArg (downOf m c) (funext fun a => ?_)
  have e := place_3 m hw t
  match a with
  | ⟨0, _⟩ =>
    refine Fin.ext ?_
    have e0 : ((cfgA m hw).win (3 : Fin 5)).index t (0 : Fin 3) = (expertOf (tables m) (t : Fin 23)).toNat := congrFun e 0
    show ((cfgA m hw).win (3 : Fin 5)).index t (0 : Fin 3) * 1 + 1 * 0 = (expertOf (tables m) (t : Fin 23)).toNat
    rw [e0]; omega
  | ⟨1, _⟩ =>
    refine Fin.ext ?_
    have e0 : ((cfgA m hw).win (3 : Fin 5)).index t (1 : Fin 3) = 0 := congrFun e 1
    show ((cfgA m hw).win (3 : Fin 5)).index t (1 : Fin 3) * 2048 + 1 * k.val = k.val
    rw [e0]; omega
  | ⟨2, _⟩ =>
    refine Fin.ext ?_
    have e0 : ((cfgA m hw).win (3 : Fin 5)).index t (2 : Fin 3) = 0 := congrFun e 2
    show ((cfgA m hw).win (3 : Fin 5)).index t (2 : Fin 3) * 1024 + 1 * f.val = f.val
    rw [e0]; omega

abbrev blockIx (n : Fin 8192) : Fin 16 := ⟨n.val / 512, by omega⟩
abbrev rowIx (n : Fin 8192) : Fin 512 := ⟨n.val % 512, Nat.mod_lt _ (by decide)⟩

/-- What visit `k` brings to result (n, d) when it is to that result's block. -/
def brought (k : Fin 23) (n : Fin 8192) (d : Fin 1024) : EReal :=
  Scalar.select (IntOp.andi (IntOp.cmpi .sge (BitVec.ofNat 32 (n.val % 512)) ((tables m 2 : S23.Idx → BitVec 32) (cell k)))
      (IntOp.cmpi .slt (BitVec.ofNat 32 (n.val % 512)) ((tables m 3 : S23.Idx → BitVec 32) (cell k))))
    (through (rowsOf m c) (upOf m c) (downOf m c) (who m hw k) n d * gatesOf m c (ix3 (blockIx n) (rowIx n) 0)) (0 : EReal)

theorem part_brought (k : Fin 23) (n : Fin 8192) (d : Fin 1024) (h : visit m k = n.val / 512) :
    (partAt m hw c (k : Fin grid0.N) (within_block (ix2 n d)) : EReal) = brought m hw c k n d := by
  have hb : within_block (ix2 n d) = ix2 (rowIx n) d := by
    funext a
    match a with
    | ⟨0, _⟩ => rfl
    | ⟨1, _⟩ => rfl
  rw [hb]
  refine (part_at _ _ _ _ _ _ (rowIx n) d).trans ?_
  unfold brought through hidden
  rw [read_1 m hw c k (blockIx n) h]
  have hn : n.val = (blockIx n).val * 512 + (rowIx n).val := by
    show n.val = n.val / 512 * 512 + n.val % 512
    omega
  have ht : grid0.coords (k : Fin grid0.N) 0 = k := coord_fin k
  simp only [word, ht]
  refine congrArg (fun z : EReal => Scalar.select _ (z * _) (0 : EReal)) (Finset.sum_congr rfl fun f _ => ?_)
  exact congrArg₂ (fun a b : EReal => a * b) (congrArg act (Finset.sum_congr rfl fun j _ =>
    congrArg₂ (fun a b : EReal => a * b) (read_0 m hw c k (blockIx n) h (rowIx n) j n hn) (read_2 m hw c k j f))) (read_3 m hw c k f d)

theorem gathered_brought (n : Fin 8192) (d : Fin 1024) :
    gatheredAll m hw c (ix2 n d) = ∑ k : Fin 23, if visit m k = n.val / 512 then brought m hw c k n d else 0 := by
  unfold gatheredAll
  refine Finset.sum_congr rfl fun k _ => ?_
  show (if visit m k = n.val / 512 then _ else _) = _
  by_cases h : visit m k = n.val / 512
  · rw [if_pos h, if_pos h]; exact part_brought m hw c k n d h
  · rw [if_neg h, if_neg h]

set_option maxHeartbeats 2000000 in
/-- The run ends with the gathered contributions in the result and every argument as it began. -/
theorem run_value (hs : Scheduled (tables m)) (ρ : Dev nD → PrngReg) :
    θ_run (defs (F := Ideal)) (onTc (τ := τ) (main (F := Ideal))) (s₀ m ρ) fun r =>
      (∀ c : Dev nD, r.2.mem ((c : Thread nD τ).loc main_v0) = (gatheredAll m hw c : S8192x1024.Idx → EReal)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8))
      ∧ r.2.sem = fun _ => 0 := by
  refine Pipeline.θ_run_frameP pcfgs (adm m hw) (dats m hw (accAt m hw)) 0 (launch0 (F := Ideal)) defs₀ Variants.none
    m ρ main (hbody := fun c => (body_exact m hw hs c).loose) (hshare := share_full m hw _) (howed := fun _ _ => rfl)
    (V := fun c b => m ((c : Thread nD τ).loc b)) (hmain := to_main m) (hA := fun _ _ => rfl)
    (hpf := fun c k => by obtain rfl := Subsingleton.elim c 0; rfl) (hΦ := fun _ _ => rfl)
    (Q' := _) (hQ' := fun r h => ⟨fun c => ⟨?_, ?_, ?_, ?_, ?_, ?_, ?_, ?_, ?_, ?_⟩, h.2⟩)
  · exact ((h.1 c).1 (4 : Fin 5)).trans (result_eq m hw hs c)
  · exact ((h.1 c).1 (0 : Fin 5)).trans (kept_0 m hw (accAt m hw) c _)
  · exact ((h.1 c).1 (1 : Fin 5)).trans (kept_1 m hw (accAt m hw) c _)
  · exact ((h.1 c).1 (2 : Fin 5)).trans (kept_2 m hw (accAt m hw) c _)
  · exact ((h.1 c).1 (3 : Fin 5)).trans (kept_3 m hw (accAt m hw) c _)
  · exact (h.1 c).2 main_arg4 rest_4
  · exact (h.1 c).2 main_arg5 rest_5
  · exact (h.1 c).2 main_arg6 rest_6
  · exact (h.1 c).2 main_arg7 rest_7
  · exact (h.1 c).2 main_arg8 rest_8

end Cert.Proof.Experts

end
-- ==== Proof.ExpertsPre.lean ====
/-
  The two preconditions of the expert step as facts of the tables' words.
-/
module

public import proofs.«01_k».proof.Proof.ExpertsSum
public import proofs.«01_k».proof.Proof.Gen.Pre_visits
public import proofs.«01_k».proof.Proof.Gen.Pre_scheduled
public import proofs.«01_k».proof.Proof.RouteRow
public import Idealize.ShloMosaic.Lib.WordCmp
public import Idealize.ShloMosaic.Lib.Claim

@[expose] public section

set_option maxRecDepth 16384

noncomputable section

namespace Cert.Proof.Experts

open Cert.ExpertsIdeal Cert.ExpertsIdeal.Gen
open Idealize.ShloMosaic
open Idealize.ShloMosaic.TcCoe Idealize.ShloMosaic.Tactic
open Cert.Proof.Route (all_of_fold_univ)

variable {F : FTy → Type} [FloatOps F]

theorem cell_eq (n : Fin 23) : cell n = ix1 n := by
  funext a
  match a with
  | ⟨0, _⟩ => rfl

theorem both_one : ∀ p q : BitVec 1, IntOp.andi p q = 1#1 → p = 1#1 ∧ q = 1#1 := by decide

theorem one_true : ∀ b : Bool, BitVec.ofBool b = 1#1 → b = true := by decide

theorem word_eq {x y : BitVec 32} (h : IntOp.cmpi .eq x y = 1#1) : x = y := by
  rw [WordCmp.cmpi_eq_eq] at h
  exact of_decide_eq_true (one_true _ h)

theorem below (w k : BitVec 32) (hk : k.toNat < 2147483648) (h0 : IntOp.cmpi .sge w 0#32 = 1#1) (h1 : IntOp.cmpi .slt w k = 1#1) :
    w.toNat < k.toNat := by
  have g0 : (0#32).sle w = true := one_true _ h0
  have g1 : w.slt k = true := one_true _ h1
  rw [BitVec.sle, decide_eq_true_iff] at g0
  rw [BitVec.slt, decide_eq_true_iff] at g1
  rw [BitVec.toInt_eq_toNat_cond] at g0 g1
  rw [BitVec.toInt_eq_toNat_cond] at g0 g1
  simp only [BitVec.toNat_ofNat] at g0 g1
  have := w.isLt
  split at g0 <;> split at g1 <;> omega

theorem visits_words (a0 a1 a2 a3) (a4 a5 a6 a7 a8 : IVec S23 32)
    (h : Cert.Pre_visits.fn (F := F) a0 a1 a2 a3 a4 a5 a6 a7 a8 = fun _ => 1#1) :
    (∀ n, (a4 (ix1 n)).toNat < 16) ∧ ∀ n, (a5 (ix1 n)).toNat < 8 := by
  have e := congrFun h (fun a => a.elim0)
  unfold Cert.Pre_visits.fn at e
  dsimp only at e
  pointwise at e
  obtain ⟨e4, e5⟩ := both_one _ _ e
  refine ⟨fun n => ?_, fun n => ?_⟩
  · obtain ⟨p, q⟩ := both_one _ _ (all_of_fold_univ _ _ e4 n)
    exact below _ 16#32 (by decide) p q
  · obtain ⟨p, q⟩ := both_one _ _ (all_of_fold_univ _ _ e5 n)
    exact below _ 8#32 (by decide) p q

theorem within_of_visits (m : (ℓ : Loc nD τ sig) → Buf (Elt F) ℓ) (a0 a1 a2 a3) (a6 a7 a8 : IVec S23 32)
    (h : Cert.Pre_visits.fn (F := F) a0 a1 a2 a3 (m (((0 : Dev nD) : Thread nD τ).loc main_arg4)) (m (((0 : Dev nD) : Thread nD τ).loc main_arg5)) a6 a7 a8 = fun _ => 1#1) :
    Within (tables m) := by
  obtain ⟨p, q⟩ := visits_words _ _ _ _ _ _ _ _ _ h
  refine ⟨fun n => ?_, fun n => ?_⟩
  · rw [blockOf, cell_eq]; exact p n
  · rw [expertOf, cell_eq]; exact q n

theorem scheduled_words (a0 a1 a2 a3) (a4 a5 a6 a7 a8 : IVec S23 32)
    (h : Cert.Pre_scheduled.fn (F := F) a0 a1 a2 a3 a4 a5 a6 a7 a8 = fun _ => 1#1) :
    a4 (ix1 0) = 0#32 ∧ a4 (ix1 22) = 15#32 ∧ a8 (ix1 0) = 1#32
      ∧ (∀ n : Fin 22, (a4 (ix1 n.succ) - a4 (ix1 n.castSucc) = 0#32 ∨ a4 (ix1 n.succ) - a4 (ix1 n.castSucc) = 1#32)
        ∧ a8 (ix1 n.succ) = a4 (ix1 n.succ) - a4 (ix1 n.castSucc))
      ∧ ∀ n, (a5 (ix1 n)).toNat < 8 := by
  have either : ∀ p q : BitVec 1, IntOp.ori p q = 1#1 → p = 1#1 ∨ q = 1#1 := by decide
  have e := congrFun h (fun a => a.elim0)
  unfold Cert.Pre_scheduled.fn Cert.Pre_scheduled.fn_part1 at e
  dsimp only at e
  pointwise at e
  obtain ⟨e, e5⟩ := both_one _ _ e
  obtain ⟨e, ef⟩ := both_one _ _ e
  obtain ⟨e, es⟩ := both_one _ _ e
  obtain ⟨e, e1⟩ := both_one _ _ e
  obtain ⟨e0, e2⟩ := both_one _ _ e
  have next : ∀ (n : Fin 22) (hn : 1 + n.val < 23), (⟨1 + n.val, hn⟩ : Fin 23) = n.succ := fun n hn => Fin.ext (Nat.add_comm _ _)
  refine ⟨word_eq e0, word_eq e2, word_eq e1, fun n => ⟨?_, ?_⟩, fun n => ?_⟩
  · have g := either _ _ (all_of_fold_univ _ _ es n)
    rw [next n] at g
    rcases g with g | g
    · exact .inl (word_eq g)
    · exact .inr (word_eq g)
  · have g := all_of_fold_univ _ _ ef n
    rw [next n] at g
    exact (word_eq g).symm
  · obtain ⟨p, q⟩ := both_one _ _ (all_of_fold_univ _ _ e5 n)
    exact below _ 8#32 (by decide) p q

theorem scheduled_of_pre (m : (ℓ : Loc nD τ sig) → Buf (Elt F) ℓ) (a0 a1 a2 a3) (a6 a7 : IVec S23 32)
    (h : Cert.Pre_scheduled.fn (F := F) a0 a1 a2 a3 (m (((0 : Dev nD) : Thread nD τ).loc main_arg4)) (m (((0 : Dev nD) : Thread nD τ).loc main_arg5)) a6 a7
      (m (((0 : Dev nD) : Thread nD τ).loc main_arg8)) = fun _ => 1#1) :
    Scheduled (tables m) := by
  obtain ⟨z, l, f, s, q⟩ := scheduled_words _ _ _ _ _ _ _ _ _ h
  have st : ∀ n : Fin 22, (blockOf (tables m) n.succ - blockOf (tables m) n.castSucc = 0#32 ∨ blockOf (tables m) n.succ - blockOf (tables m) n.castSucc = 1#32)
      ∧ firstOf (tables m) n.succ = blockOf (tables m) n.succ - blockOf (tables m) n.castSucc := fun n => by
    rw [blockOf, blockOf, firstOf, cell_eq, cell_eq]; exact s n
  have z' : (blockOf (tables m) 0).toNat = 0 := by rw [blockOf, cell_eq]; exact congrArg BitVec.toNat z
  have l' : (blockOf (tables m) 22).toNat = 15 := by rw [blockOf, cell_eq]; exact congrArg BitVec.toNat l
  have gr : ∀ (x y : BitVec 32), x - y = 1#32 → y.toNat ≤ 22 → x.toNat = y.toNat + 1 := fun x y e hy => by
    have e' : x = 1#32 + y := by rw [← e, BitVec.sub_add_cancel]
    rw [e', BitVec.toNat_add]
    show (1 + y.toNat) % 4294967296 = _
    omega
  have same : ∀ (x y : BitVec 32), x - y = 0#32 → x = y := fun x y e => by
    have e' : x = 0#32 + y := by rw [← e, BitVec.sub_add_cancel]
    rw [e', BitVec.zero_add]
  have up : ∀ (n : ℕ) (hn : n < 23), (blockOf (tables m) ⟨n, hn⟩).toNat ≤ n := by
    intro n
    induction n with
    | zero => intro hn; exact le_of_eq z'
    | succ n ih =>
      intro hn
      have hi := ih (Nat.lt_of_succ_lt hn)
      rcases (st ⟨n, by omega⟩).1 with e | e
      · have := same _ _ e
        exact le_trans (le_of_eq (congrArg BitVec.toNat this)) (Nat.le_succ_of_le hi)
      · have := gr _ _ e (le_trans hi (by omega))
        exact le_trans (le_of_eq this) (Nat.succ_le_succ hi)
  have step : ∀ n : Fin 22, (firstOf (tables m) n.succ = 0#32 ∧ blockOf (tables m) n.succ = blockOf (tables m) n.castSucc)
      ∨ (firstOf (tables m) n.succ = 1#32 ∧ (blockOf (tables m) n.succ).toNat = (blockOf (tables m) n.castSucc).toNat + 1) := fun n => by
    rcases (st n).1 with e | e
    · exact .inl ⟨(st n).2.trans e, same _ _ e⟩
    · exact .inr ⟨(st n).2.trans e, gr _ _ e (le_trans (up n.val (by omega)) (by omega))⟩
  have ord : InOrder (fun n => (blockOf (tables m) n).toNat) := ⟨z', l', fun n h => by
    rcases step ⟨n, by omega⟩ with e | e
    · exact .inl (congrArg BitVec.toNat e.2)
    · exact .inr e.2⟩
  refine ⟨⟨fun n => ?_, fun n => ?_⟩, by rw [firstOf, cell_eq]; exact f, z', l', step⟩
  · have := ord.mono 22 (by decide) n (by omega)
    have h22 : (blockOf (tables m) ⟨22, by decide⟩).toNat = 15 := l'
    have := le_trans this (le_of_eq h22)
    omega
  · rw [expertOf, cell_eq]; exact q n

end Cert.Proof.Experts

end
-- ==== Proof.ExpertsRef.lean ====
/-
  The reference of the expert step, entry by entry, and its agreement with the contributions gathered.
-/
module

public import proofs.«01_k».proof.Proof.ExpertsPart
public import proofs.«01_k».proof.Proof.ExpertsPre
public import proofs.«01_k».proof.Proof.Gen.ReferenceExpertsIdeal.Run

@[expose] public section

set_option maxRecDepth 16384

noncomputable section

namespace Cert.Proof.Experts

open Idealize.ShloMosaic
open Idealize.ShloMosaic.TcCoe

section Entry

open Cert.ReferenceExpertsIdeal Cert.ReferenceExpertsIdeal.Gen

/-- Whether entry `s` of the tables names result row `n` and expert `e`: its block, its two bounds, its expert. -/
def named (block expert lo hi : S23.Idx → BitVec 32) (n : Fin 8192) (e : Fin 8) (s : Fin 23) : BitVec 1 :=
  IntOp.andi (IntOp.andi (IntOp.andi (IntOp.cmpi .eq (block (ix1 s)) (BitVec.ofNat 32 (n.val / 512)))
      (IntOp.cmpi .sle (lo (ix1 s)) (BitVec.ofNat 32 (n.val % 512))))
    (IntOp.cmpi .slt (BitVec.ofNat 32 (n.val % 512)) (hi (ix1 s))))
    (IntOp.cmpi .eq (expert (ix1 s)) (BitVec.ofNat 32 e.val))

/-- The reference's result (n, d), from its arguments. -/
def expected (x : S8192x1024.Idx → EReal) (g : S16x512x1.Idx → EReal) (w1 : S8x1024x2048.Idx → EReal) (w2 : S8x2048x1024.Idx → EReal)
    (block expert lo hi : S23.Idx → BitVec 32) (n : Fin 8192) (d : Fin 1024) : EReal :=
  ∑ e : Fin 8, (g (ix3 (blockIx n) (rowIx n) 0) * ∑ s : Fin 23, Scalar.select (named block expert lo hi n e s) (1 : EReal) 0) * through x w1 w2 e n d

theorem ref_at (m : (ℓ : Loc nD τ sig) → Buf (Elt Ideal) ℓ) (c : Dev nD) (n : Fin 8192) (d : Fin 1024) :
    (Cert.ReferenceExpertsIdeal.Value.res_main_v62 (F := Ideal) m c : S8192x1024.Idx → EReal) (ix2 n d)
      = expected (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) n d := by
  unfold Cert.ReferenceExpertsIdeal.Value.res_main_v62
  pointwise
  simp only [id_eq]
  pointwise
  unfold expected
  change @Eq EReal _ _
  refine Finset.sum_congr rfl fun e _ => ?_
  refine congrArg₂ (fun a b : EReal => a * b) rfl ?_
  unfold through hidden
  refine Finset.sum_congr rfl fun f _ => ?_
  refine congrArg (fun z : EReal => z * _) ?_
  have hh : ∀ h h' : EReal, h = h' → h * (Ideal.ofBits FTy.f32 1056964608#32 * (1 + Ideal.tanh (Ideal.ofBits FTy.f32 1061962282#32 *
      (h + Ideal.ofBits FTy.f32 1027024659#32 * (h * h * h))))) = act h' := fun h h' e => by
    subst e
    unfold act
    rw [mul_assoc h h h]
  exact hh _ _ (Finset.sum_congr rfl fun k _ => mul_comm _ _)

theorem select_one (b : BitVec 1) (x y : EReal) (h : b = 1#1) : Scalar.select b x y = x := by subst h; rfl
theorem select_zero (b : BitVec 1) (x y : EReal) (h : b ≠ 1#1) : Scalar.select b x y = y := by
  have : b = 0#1 := (by decide : ∀ b : BitVec 1, b ≠ 1#1 → b = 0#1) b h
  subst this; rfl

theorem gate_times (g y : EReal) (p : Fin 23 → BitVec 1) (t : Finset (Fin 23)) :
    (g * ∑ s ∈ t, Scalar.select (p s) (1 : EReal) 0) * y = ∑ s ∈ t, Scalar.select (p s) (y * g) (0 : EReal) := by
  have h01 : ∀ s, (0 : EReal) ≤ Scalar.select (p s) (1 : EReal) 0 := fun s => by
    by_cases h : p s = 1#1
    · rw [select_one _ _ _ h]; exact zero_le_one
    · rw [select_zero _ _ _ h]
  rw [mul_right_comm, mul_comm g y]
  induction t using Finset.cons_induction with
  | empty => rw [Finset.sum_empty, Finset.sum_empty, mul_zero]
  | cons s t hs ih =>
    rw [Finset.sum_cons, Finset.sum_cons, EReal.left_distrib_of_nonneg (h01 s) (Finset.sum_nonneg fun s _ => h01 s), ih]
    refine congrArg (fun z : EReal => z + _) ?_
    by_cases h : p s = 1#1
    · rw [select_one _ _ _ h, select_one _ _ _ h, mul_one]
    · rw [select_zero _ _ _ h, select_zero _ _ _ h, mul_zero]

theorem bits_and : ∀ p q : BitVec 1, IntOp.andi p q = 1#1 ↔ p = 1#1 ∧ q = 1#1 := by decide

theorem same_bounds (lo r : BitVec 32) : IntOp.cmpi .sle lo r = IntOp.cmpi .sge r lo := rfl

theorem word_same {w : BitVec 32} {k : ℕ} (hk : k < 4294967296) : IntOp.cmpi .eq w (BitVec.ofNat 32 k) = 1#1 ↔ w.toNat = k := by
  constructor
  · intro h
    have := congrArg BitVec.toNat (word_eq h)
    rw [BitVec.toNat_ofNat, Nat.mod_eq_of_lt hk] at this
    exact this
  · intro h
    have : w = BitVec.ofNat 32 k := BitVec.eq_of_toNat_eq (by rw [BitVec.toNat_ofNat, Nat.mod_eq_of_lt hk]; exact h)
    rw [this, WordCmp.cmpi_eq_eq]
    simp

theorem named_iff (block expert lo hi : S23.Idx → BitVec 32) (n : Fin 8192) (e : Fin 8) (s : Fin 23) :
    named block expert lo hi n e s = 1#1 ↔
    ((block (ix1 s)).toNat = n.val / 512 ∧ IntOp.andi (IntOp.cmpi .sge (BitVec.ofNat 32 (n.val % 512)) (lo (ix1 s)))
      (IntOp.cmpi .slt (BitVec.ofNat 32 (n.val % 512)) (hi (ix1 s))) = 1#1) ∧ (expert (ix1 s)).toNat = e.val := by
  unfold named
  rw [bits_and, bits_and, bits_and, bits_and, word_same (by omega), word_same (by omega), same_bounds]
  tauto

end Entry

section Meet

open Cert.ExpertsIdeal

variable (m : (ℓ : Loc nD τ sig) → Buf (Elt Ideal) ℓ) (hw : Within (tables m)) (c : Dev nD)

abbrev names (n : Fin 8192) (e : Fin 8) (s : Fin 23) : BitVec 1 :=
  named (tables m 0) (tables m 1) (tables m 2) (tables m 3) n e s

theorem names_iff (n : Fin 8192) (e : Fin 8) (s : Fin 23) : names m n e s = 1#1 ↔
    (visit m s = n.val / 512 ∧ IntOp.andi (IntOp.cmpi .sge (BitVec.ofNat 32 (n.val % 512)) ((tables m 2 : S23.Idx → BitVec 32) (cell s)))
      (IntOp.cmpi .slt (BitVec.ofNat 32 (n.val % 512)) ((tables m 3 : S23.Idx → BitVec 32) (cell s))) = 1#1) ∧ who m hw s = e := by
  refine (named_iff _ _ _ _ n e s).trans ?_
  rw [Fin.ext_iff]
  show _ ↔ _ ∧ (expertOf (tables m) s).toNat = e.val
  rw [visit, blockOf, expertOf, cell_eq]

/-- The contributions gathered visit by visit are the reference's sum over the experts. -/
theorem meet (n : Fin 8192) (d : Fin 1024) :
    expected (rowsOf m c) (gatesOf m c) (upOf m c) (downOf m c) (tables m 0) (tables m 1) (tables m 2) (tables m 3) n d
      = gatheredAll m hw c (ix2 n d) := by
  unfold expected
  rw [gathered_brought]
  refine (Finset.sum_congr rfl fun e _ => gate_times _ _ _ _).trans ?_
  rw [Finset.sum_comm]
  refine Finset.sum_congr rfl fun s _ => ?_
  rw [Finset.sum_eq_single (who m hw s)]
  · by_cases hv : visit m s = n.val / 512
    · rw [if_pos hv]
      unfold brought
      by_cases hb : IntOp.andi (IntOp.cmpi .sge (BitVec.ofNat 32 (n.val % 512)) ((tables m 2 : S23.Idx → BitVec 32) (cell s)))
        (IntOp.cmpi .slt (BitVec.ofNat 32 (n.val % 512)) ((tables m 3 : S23.Idx → BitVec 32) (cell s))) = 1#1
      · rw [select_one _ _ _ hb]
        exact select_one _ _ _ ((names_iff m hw n _ s).mpr ⟨⟨hv, hb⟩, rfl⟩)
      · rw [select_zero _ _ _ hb]
        exact select_zero _ _ _ fun q => hb ((names_iff m hw n _ s).mp q).1.2
    · rw [if_neg hv]
      exact select_zero _ _ _ fun q => hv ((names_iff m hw n _ s).mp q).1.1
  · intro e _ he
    exact select_zero _ _ _ fun q => he ((names_iff m hw n _ s).mp q).2.symm
  · intro h
    exact absurd (Finset.mem_univ _) h

end Meet

end Cert.Proof.Experts

end
-- ==== Proof.ExpertsClaims.lean ====
/-
  The claims of the expert step: its frames, at words and at extended reals, from one run over any float values, and its
  value against the sum over the experts.
-/
module

public import proofs.«01_k».proof.Defs
public import proofs.«01_k».proof.Proof.ExpertsRef
public import proofs.«01_k».proof.Proof.Gen.Experts

@[expose] public section

noncomputable section

namespace Cert.Proof.Experts

open Idealize.ShloMosaic
open Idealize.SL.Sem

/-- The two programs' bodies are one. -/
theorem defs_same : Cert.Experts.defs₀ (F := Bits) = Cert.ExpertsIdeal.defs₀ (F := Bits) := by
  unfold Cert.Experts.defs₀ Cert.ExpertsIdeal.defs₀
  refine congrArg Defs.onTc (funext fun l => funext fun a => ?_)
  obtain rfl : l = 0 := Subsingleton.elim l 0
  obtain ⟨t, s⟩ := a
  rfl

theorem frame_experts : Cert.quiescent_Experts := fun m ρ h => by
  have k := run_frame (F := Bits) m (within_of_visits (F := Bits) m _ _ _ _ _ _ _ (h 0)) ρ
  unfold Cert.ExpertsIdeal.defs at k
  rw [← defs_same] at k
  exact k

theorem frame_expertsIdeal : Cert.quiescent_ExpertsIdeal := fun m ρ h =>
  run_frame (F := Ideal) m (within_of_visits (F := Ideal) m _ _ _ _ _ _ _ (h 0)) ρ

theorem frame_expertsIdeal_scheduled : Cert.quiescent_ExpertsIdeal_pre_scheduled := fun m ρ h =>
  run_frame (F := Ideal) m (scheduled_of_pre (F := Ideal) m _ _ _ _ _ _ (h 0)).within ρ

theorem frame_reference : Cert.quiescent_ReferenceExpertsIdeal := fun m ρ _ =>
  (θ_run Cert.ReferenceExpertsIdeal.defs _ _).mono
    (fun r h => ⟨fun c => (h c).2, Idealize.ShloMosaic.sem_eq_zero_of_no_sems (by decide) r.2⟩)
    (Cert.ReferenceExpertsIdeal.Value.run (F := Ideal) m ρ)

theorem frame_reference_scheduled : Cert.quiescent_ReferenceExpertsIdeal_pre_scheduled := fun m ρ _ =>
  (θ_run Cert.ReferenceExpertsIdeal.defs _ _).mono
    (fun r h => ⟨fun c => (h c).2, Idealize.ShloMosaic.sem_eq_zero_of_no_sems (by decide) r.2⟩)
    (Cert.ReferenceExpertsIdeal.Value.run (F := Ideal) m ρ)

theorem expected_same {x x' : Cert.ExpertsIdeal.S8192x1024.Idx → EReal} {g g' : Cert.ExpertsIdeal.S16x512x1.Idx → EReal}
    {w1 w1' : Cert.ExpertsIdeal.S8x1024x2048.Idx → EReal} {w2 w2' : Cert.ExpertsIdeal.S8x2048x1024.Idx → EReal}
    {b b' e e' l l' u u' : Cert.ExpertsIdeal.S23.Idx → BitVec 32} (hx : x' = x) (hg : g' = g) (h1 : w1' = w1) (h2 : w2' = w2)
    (hb : b' = b) (he : e' = e) (hl : l' = l) (hu : u' = u) (n : Fin 8192) (d : Fin 1024) :
    expected x' g' w1' w2' b' e' l' u' n d = expected x g w1 w2 b e l u n d := by
  rw [hx, hg, h1, h2, hb, he, hl, hu]

theorem value : Cert.algebraic_ExpertsIdeal_ReferenceExpertsIdeal_pre_scheduled := fun m ρ m' ρ' hpre hag => by
  have hs := scheduled_of_pre (F := Ideal) m _ _ _ _ _ _ (hpre 0)
  refine ⟨fun c => gatheredAll m hs.within c,
    (θ_run Cert.ExpertsIdeal.defs _ _).mono (fun _ h => h.1) (run_value m hs.within hs ρ),
    (θ_run Cert.ReferenceExpertsIdeal.defs _ _).mono (fun r h c => ⟨(h c).1.trans ?_, (h c).2⟩)
      (Cert.ReferenceExpertsIdeal.Value.run (F := Ideal) m' ρ')⟩
  obtain rfl : c = 0 := Subsingleton.elim c 0
  obtain ⟨h0, h1, h2, h3, h4, h5, h6, h7, h8⟩ := hag 0
  funext i
  have hi : i = ix2 (⟨(i 0).val, (i 0).isLt⟩ : Fin 8192) (⟨(i 1).val, (i 1).isLt⟩ : Fin 1024) := by
    funext a
    match a with
    | ⟨0, _⟩ => rfl
    | ⟨1, _⟩ => rfl
  rw [hi]
  exact (ref_at m' 0 _ _).trans ((expected_same h0 h1 h2 h3 h4 h5 h6 h7 _ _).trans (meet m hs.within 0 _ _))

end Cert.Proof.Experts

end
-- ==== Proof.lean ====
/- The claims of the SparseCore calls, of the router and of the expert step, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tok_in_range
public import proofs.«01_k».proof.Proof.Gen.ReferenceIdeal.Run
public import proofs.«01_k».proof.Proof.DispatchClaims
public import proofs.«01_k».proof.Proof.CombineClaims
public import proofs.«01_k».proof.Proof.RouteClaims
public import proofs.«01_k».proof.Proof.ExpertsClaims
public import proofs.«01_k».proof.Proof.Gen.Combine
public import proofs.«01_k».proof.Proof.Gen.CombineIdeal
public import proofs.«01_k».proof.Proof.Gen.CombineIdeal.Skeleton
public import proofs.«01_k».proof.Proof.Gen.ReferenceCombineIdeal
public import proofs.«01_k».proof.Proof.Gen.ReferenceCombineIdeal.Run
public import proofs.«01_k».proof.Proof.Gen.Pre_pos_in_range
public import proofs.«01_k».proof.Proof.Gen.Route
public import proofs.«01_k».proof.Proof.Gen.RouteIdeal
public import proofs.«01_k».proof.Proof.Gen.ReferenceRouteIdeal
public import proofs.«01_k».proof.Proof.Gen.RouteIdeal.Value
public import proofs.«01_k».proof.Proof.Gen.ReferenceRouteIdeal.Run
public import proofs.«01_k».proof.Proof.Gen.Route.Frame
public import proofs.«01_k».proof.Proof.Gen.RouteIdeal.Frame
public import proofs.«01_k».proof.Proof.Gen.Pre_finite
public import proofs.«01_k».proof.Proof.Gen.Experts
public import proofs.«01_k».proof.Proof.Gen.ExpertsIdeal
public import proofs.«01_k».proof.Proof.Gen.ReferenceExpertsIdeal
public import proofs.«01_k».proof.Proof.Gen.ExpertsIdeal.Launch
public import proofs.«01_k».proof.Proof.Gen.ExpertsIdeal.Skeleton
public import proofs.«01_k».proof.Proof.Gen.ReferenceExpertsIdeal.Run
public import proofs.«01_k».proof.Proof.Gen.Pre_scheduled
public import proofs.«01_k».proof.Proof.Gen.Pre_visits

@[expose] public section

noncomputable section

namespace Cert.Proof

theorem claim : Cert.Claim :=
  ⟨Cert.Kernel.Gen.facts, Cert.KernelIdeal.Gen.facts, Cert.ReferenceIdeal.Gen.facts, Cert.Combine.Gen.facts, Cert.CombineIdeal.Gen.facts,
    Cert.ReferenceCombineIdeal.Gen.facts, Cert.Route.Gen.facts, Cert.RouteIdeal.Gen.facts, Cert.ReferenceRouteIdeal.Gen.facts,
    Cert.Experts.Gen.facts, Cert.ExpertsIdeal.Gen.facts, Cert.ReferenceExpertsIdeal.Gen.facts,
    Cert.Pre_tok_in_range.Gen.facts, Cert.Pre_pos_in_range.Gen.facts, Cert.Pre_finite.Gen.facts,
    Cert.Pre_visits.Gen.facts, Cert.Pre_scheduled.Gen.facts,
    Dispatch.frame_kernel, Dispatch.frame_kernelIdeal, Dispatch.frame_reference,
    Combine.frame_combine, Combine.frame_combineIdeal, Combine.frame_reference,
    Route.frame_route, Route.frame_routeIdeal, Route.frame_routeIdeal_finite, Route.frame_reference, Route.frame_reference_finite,
    Experts.frame_experts, Experts.frame_expertsIdeal, Experts.frame_expertsIdeal_scheduled, Experts.frame_reference, Experts.frame_reference_scheduled,
    trivial, Dispatch.value, trivial, Combine.value, trivial, Route.value_of, trivial, Experts.value⟩

end Cert.Proof

end
